-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits [hPre_fits : Cert.Pre_fits.Facts] (m : (ℓ : Loc Cert.KernelIdeal.nD Cert.KernelIdeal.τ Cert.KernelIdeal.sig) → Buf (Elt Ideal) ℓ) : Prop :=
  ∀ c : Dev Cert.KernelIdeal.nD,
    (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits [hPre_fits : Cert.Pre_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_fits [hKernelIdeal : Cert.KernelIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_fits [hReferenceIdeal : Cert.ReferenceIdeal.Facts] [hPre_fits : Cert.Pre_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_fits [hKernelIdeal : Cert.KernelIdeal.Facts] [hReferenceIdeal : Cert.ReferenceIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_fits : Cert.Pre_fits.Facts),
    quiescent_Kernel (hKernel := hKernel)
    ∧ quiescent_KernelIdeal (hKernelIdeal := hKernelIdeal)
    ∧ quiescent_KernelIdeal_pre_fits (hKernelIdeal := hKernelIdeal) (hPre_fits := hPre_fits)
    ∧ quiescent_ReferenceIdeal (hReferenceIdeal := hReferenceIdeal)
    ∧ quiescent_ReferenceIdeal_pre_fits (hReferenceIdeal := hReferenceIdeal) (hPre_fits := hPre_fits)
    ∧ preserves_Kernel_KernelIdeal
    ∧ algebraic_KernelIdeal_ReferenceIdeal_pre_fits (hKernelIdeal := hKernelIdeal) (hReferenceIdeal := hReferenceIdeal) (hPre_fits := hPre_fits)
-- ==== Pre_fits.lean ====
abbrev S4x32768x3 : Shape := ⟨3, ![4, 32768, 3]⟩
abbrev S4x3 : Shape := ⟨2, ![4, 3]⟩
abbrev S3x256 : Shape := ⟨2, ![3, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x9 : Shape := ⟨2, ![256, 9]⟩
abbrev S9 : Shape := ⟨1, ![9]⟩
abbrev S4x1x3 : Shape := ⟨3, ![4, 1, 3]⟩
abbrev S_ : Shape := ⟨0, ![]⟩
abbrev S4x32768 : Shape := ⟨2, ![4, 32768]⟩
abbrev S4x8x4096 : Shape := ⟨3, ![4, 8, 4096]⟩
abbrev S4x8 : Shape := ⟨2, ![4, 8]⟩
abbrev S4 : Shape := ⟨1, ![4]⟩

class Facts : Prop where
  bcast_S4x3_S4x1x3_0_2 : S4x3.BroadcastsInDim S4x1x3 (![0, 2] : Fin 2 → Fin S4x1x3.rank)
  bcast_S4x1x3_S4x32768x3_0_1_2 : S4x1x3.BroadcastsInDim S4x32768x3 (![0, 1, 2] : Fin 3 → Fin S4x32768x3.rank)
  reducesTo_S4x32768x3_S4x32768_d2 : S4x32768x3.ReducesTo [2] S4x32768
  h_S_ : 0 < S_.numel
  bcast_S_S4x32768 : S_.BroadcastsInDim S4x32768 (![] : Fin 0 → Fin S4x32768.rank)
  natLt_1_32 : 1 < 32
  shapeCasts_S4x32768_S4x8x4096 : S4x32768.ShapeCasts S4x8x4096
  reducesTo_S4x8x4096_S4x8_d2 : S4x8x4096.ReducesTo [2] S4x8
  bcast_S_S4x8 : S_.BroadcastsInDim S4x8 (![] : Fin 0 → Fin S4x8.rank)
  reducesTo_S4x8_S_d0_1 : S4x8.ReducesTo [0, 1] S_
  reducesTo_S4x32768_S4_d1 : S4x32768.ReducesTo [1] S4
  bcast_S_S4 : S_.BroadcastsInDim S4 (![] : Fin 0 → Fin S4.rank)
  reducesTo_S4_S_d0 : S4.ReducesTo [0] S_
  bcast_S_S4x32768x3 : S_.BroadcastsInDim S4x32768x3 (![] : Fin 0 → Fin S4x32768x3.rank)
  reducesTo_S4x32768x3_S_d0_1_2 : S4x32768x3.ReducesTo [0, 1, 2] S_
  bcast_S_S3x256 : S_.BroadcastsInDim S3x256 (![] : Fin 0 → Fin S3x256.rank)
  reducesTo_S3x256_S_d0_1 : S3x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_norm {F : FTy → Type} [FloatOps F] (arg0 : FVec F S4x32768x3 .f32) : FVec F S4x32768 .f32 :=
  let v0 : FVec F S4x32768x3 .f32 := mulf arg0 arg0
  let cst : FVec F S_ .f32 := constant S_ .f32 0x00000000#32
  let v1 : FVec F S4x32768 .f32 := (fun x v => Host.reduceAdd x v reducesTo_S4x32768x3_S4x32768_d2 h_S_) v0 cst
  let v2 : FVec F S4x32768 .f32 := Host.sqrt v1
  v2

def fn_part3 {F : FTy → Type} [FloatOps F] (main_v48 : IVec S_ 1) (main_v51 : IVec S1 1) : IVec S_ 1 :=
  let main_c_18 : IVec S_ 1 := constantI S_ 1 1#1
  let main_v52 : IVec S_ 1 := (fun x v => Host.reduce IntOp.andi x v reducesTo_S1_S_d0 h_S_) main_v51 main_c_18
  let main_v53 : IVec S_ 1 := andi main_v48 main_v52
  main_v53

def fn_part2 {F : FTy → Type} [FloatOps F] (main_arg6 : FVec F S256 .f32) (main_arg7 : FVec F S256x1 .f32) (main_arg8 : FVec F S1 .f32) (main_v33 : IVec S_ 1) (main_v34 : FVec F S256x256 .f32) : IVec S_ 1 :=
  let main_cst_11 : FVec F S_ .f32 := constant S_ .f32 0x7F800000#32
  let main_v35 : FVec F S256x256 .f32 := broadcastInDim S256x256 ![] bcast_S_S256x256 main_cst_11
  let main_v36 : IVec S256x256 1 := cmpf .olt main_v34 main_v35
  let main_c_12 : IVec S_ 1 := constantI S_ 1 1#1
  let main_v37 : IVec S_ 1 := (fun x v => Host.reduce IntOp.andi x v reducesTo_S256x256_S_d0_1 h_S_) main_v36 main_c_12
  let main_v38 : IVec S_ 1 := andi main_v33 main_v37
  let main_v39 : FVec F S256 .f32 := Host.absf main_arg6
  let main_cst_13 : FVec F S_ .f32 := constant S_ .f32 0x7F800000#32
  let main_v40 : FVec F S256 .f32 := broadcastInDim S256 ![] bcast_S_S256 main_cst_13
  let main_v41 : IVec S256 1 := cmpf .olt main_v39 main_v40
  let main_c_14 : IVec S_ 1 := constantI S_ 1 1#1
  let main_v42 : IVec S_ 1 := (fun x v => Host.reduce IntOp.andi x v reducesTo_S256_S_d0 h_S_) main_v41 main_c_14
  let main_v43 : IVec S_ 1 := andi main_v38 main_v42
  let main_v44 : FVec F S256x1 .f32 := Host.absf main_arg7
  let main_cst_15 : FVec F S_ .f32 := constant S_ .f32 0x7F800000#32
  let main_v45 : FVec F S256x1 .f32 := broadcastInDim S256x1 ![] bcast_S_S256x1 main_cst_15
  let main_v46 : IVec S256x1 1 := cmpf .olt main_v44 main_v45
  let main_c_16 : IVec S_ 1 := constantI S_ 1 1#1
  let main_v47 : IVec S_ 1 := (fun x v => Host.reduce IntOp.andi x v reducesTo_S256x1_S_d0_1 h_S_) main_v46 main_c_16
  let main_v48 : IVec S_ 1 := andi main_v43 main_v47
  let main_v49 : FVec F S1 .f32 := Host.absf main_arg8
  let main_cst_17 : FVec F S_ .f32 := constant S_ .f32 0x7F800000#32
  let main_v50 : FVec F S1 .f32 := broadcastInDim S1 ![] bcast_S_S1 main_cst_17
  let main_v51 : IVec S1 1 := cmpf .olt main_v49 main_v50
  fn_part3 (F := F) main_v48 main_v51

def fn_part1 {F : FTy → Type} [FloatOps F] (main_arg1 : FVec F S4x32768x3 .f32) (main_arg3 : FVec F S3x256 .f32) (main_arg4 : FVec F S256 .f32) (main_arg5 : FVec F S256x256 .f32) (main_arg6 : FVec F S256 .f32) (main_arg7 : FVec F S256x1 .f32) (main_arg8 : FVec F S1 .f32) (main_v13 : IVec S_ 1) (main_v16 : IVec S4 1) (main_c_4 : IVec S_ 1) : IVec S_ 1 :=
  let main_v17 : IVec S_ 1 := (fun x v => Host.reduce IntOp.andi x v reducesTo_S4_S_d0 h_S_) main_v16 main_c_4
  let main_v18 : IVec S_ 1 := andi main_v13 main_v17
  let main_v19 : FVec F S4x32768x3 .f32 := Host.absf main_arg1
  let main_cst_5 : FVec F S_ .f32 := constant S_ .f32 0x7F800000#32
  let main_v20 : FVec F S4x32768x3 .f32 := broadcastInDim S4x32768x3 ![] bcast_S_S4x32768x3 main_cst_5
  let main_v21 : IVec S4x32768x3 1 := cmpf .olt main_v19 main_v20
  let main_c_6 : IVec S_ 1 := constantI S_ 1 1#1
  let main_v22 : IVec S_ 1 := (fun x v => Host.reduce IntOp.andi x v reducesTo_S4x32768x3_S_d0_1_2 h_S_) main_v21 main_c_6
  let main_v23 : IVec S_ 1 := andi main_v18 main_v22
  let main_v24 : FVec F S3x256 .f32 := Host.absf main_arg3
  let main_cst_7 : FVec F S_ .f32 := constant S_ .f32 0x7F800000#32
  let main_v25 : FVec F S3x256 .f32 := broadcastInDim S3x256 ![] bcast_S_S3x256 main_cst_7
  let main_v26 : IVec S3x256 1 := cmpf .olt main_v24 main_v25
  let main_c_8 : IVec S_ 1 := constantI S_ 1 1#1
  let main_v27 : IVec S_ 1 := (fun x v => Host.reduce IntOp.andi x v reducesTo_S3x256_S_d0_1 h_S_) main_v26 main_c_8
  let main_v28 : IVec S_ 1 := andi main_v23 main_v27
  let main_v29 : FVec F S256 .f32 := Host.absf main_arg4
  let main_cst_9 : FVec F S_ .f32 := constant S_ .f32 0x7F800000#32
  let main_v30 : FVec F S256 .f32 := broadcastInDim S256 ![] bcast_S_S256 main_cst_9
  let main_v31 : IVec S256 1 := cmpf .olt main_v29 main_v30
  let main_c_10 : IVec S_ 1 := constantI S_ 1 1#1
  let main_v32 : IVec S_ 1 := (fun x v => Host.reduce IntOp.andi x v reducesTo_S256_S_d0 h_S_) main_v31 main_c_10
  let main_v33 : IVec S_ 1 := andi main_v28 main_v32
  let main_v34 : FVec F S256x256 .f32 := Host.absf main_arg5
  fn_part2 (F := F) main_arg6 main_arg7 main_arg8 main_v33 main_v34

def fn {F : FTy → Type} [FloatOps F] (main_arg0 : FVec F S4x32768x3 .f32) (main_arg1 : FVec F S4x32768x3 .f32) (main_arg2 : FVec F S4x3 .f32) (main_arg3 : FVec F S3x256 .f32) (main_arg4 : FVec F S256 .f32) (main_arg5 : FVec F S256x256 .f32) (main_arg6 : FVec F S256 .f32) (main_arg7 : FVec F S256x1 .f32) (main_arg8 : FVec F S1 .f32) (main_arg9 : FVec F S3x256 .f32) (main_arg10 : FVec F S256 .f32) (main_arg11 : FVec F S256x256 .f32) (main_arg12 : FVec F S256 .f32) (main_arg13 : FVec F S256x9 .f32) (main_arg14 : FVec F S9 .f32) : IVec S_ 1 :=
  let main_v0 : FVec F S4x1x3 .f32 := broadcastInDim S4x1x3 ![0, 2] bcast_S4x3_S4x1x3_0_2 main_arg2
  let main_v1 : FVec F S4x32768x3 .f32 := broadcastInDim S4x32768x3 ![0, 1, 2] bcast_S4x1x3_S4x32768x3_0_1_2 main_v0
  let main_v2 : FVec F S4x32768x3 .f32 := subf main_arg0 main_v1
  let main_v3 : FVec F S4x32768 .f32 := fn_norm (F := F) main_v2
  let main_cst : FVec F S_ .f32 := constant S_ .f32 0x3DB851ED#32
  let main_v4 : FVec F S_ .f32 := Host.sqrt main_cst
  let main_v5 : FVec F S_ .f32 := id main_v4
  let main_v6 : FVec F S4x32768 .f32 := broadcastInDim S4x32768 ![] bcast_S_S4x32768 main_v5
  let main_v7 : IVec S4x32768 1 := cmpf .ole main_v3 main_v6
  let main_v8 : IVec S4x32768 32 := (extui 32 · natLt_1_32) main_v7
  let main_v9 : IVec S4x8x4096 32 := shapeCast S4x8x4096 main_v8 shapeCasts_S4x32768_S4x8x4096
  let main_c : IVec S_ 32 := constantI S_ 32 0#32
  let main_v10 : IVec S4x8 32 := (fun x v => Host.reduce IntOp.addi x v reducesTo_S4x8x4096_S4x8_d2 h_S_) main_v9 main_c
  let main_c_0 : IVec S_ 32 := constantI S_ 32 1024#32
  let main_v11 : IVec S4x8 32 := broadcastInDim S4x8 ![] bcast_S_S4x8 main_c_0
  let main_v12 : IVec S4x8 1 := cmpi .sle main_v10 main_v11
  let main_c_1 : IVec S_ 1 := constantI S_ 1 1#1
  let main_v13 : IVec S_ 1 := (fun x v => Host.reduce IntOp.andi x v reducesTo_S4x8_S_d0_1 h_S_) main_v12 main_c_1
  let main_c_2 : IVec S_ 32 := constantI S_ 32 0#32
  let main_v14 : IVec S4 32 := (fun x v => Host.reduce IntOp.addi x v reducesTo_S4x32768_S4_d1 h_S_) main_v8 main_c_2
  let main_c_3 : IVec S_ 32 := constantI S_ 32 1#32
  let main_v15 : IVec S4 32 := broadcastInDim S4 ![] bcast_S_S4 main_c_3
  let main_v16 : IVec S4 1 := cmpi .sge main_v14 main_v15
  let main_c_4 : IVec S_ 1 := constantI S_ 1 1#1
  fn_part1 (F := F) main_arg1 main_arg3 main_arg4 main_arg5 main_arg6 main_arg7 main_arg8 main_v13 main_v16 main_c_4
-- ==== Kernel.lean ====
abbrev S4x32768x3 : Shape := ⟨3, ![4, 32768, 3]⟩
abbrev S4x3 : Shape := ⟨2, ![4, 3]⟩
abbrev S3x256 : Shape := ⟨2, ![3, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x9 : Shape := ⟨2, ![256, 9]⟩
abbrev S9 : Shape := ⟨1, ![9]⟩
abbrev S4x3x32768 : Shape := ⟨3, ![4, 3, 32768]⟩
abbrev S393216 : Shape := ⟨1, ![393216]⟩
abbrev S_ : Shape := ⟨0, ![]⟩
abbrev S4x16 : Shape := ⟨2, ![4, 16]⟩
abbrev S64 : Shape := ⟨1, ![64]⟩
abbrev S196608 : Shape := ⟨1, ![196608]⟩
abbrev S512 : Shape := ⟨1, ![512]⟩
abbrev S4096 : Shape := ⟨1, ![4096]⟩
abbrev S1040 : Shape := ⟨1, ![1040]⟩
abbrev S16 : Shape := ⟨1, ![16]⟩
abbrev S1024 : Shape := ⟨1, ![1024]⟩
abbrev S4x6x8192 : Shape := ⟨3, ![4, 6, 8192]⟩
abbrev S4x3x8192 : Shape := ⟨3, ![4, 3, 8192]⟩
abbrev S4x8x16 : Shape := ⟨3, ![4, 8, 16]⟩
abbrev S4x8x1 : Shape := ⟨3, ![4, 8, 1]⟩
abbrev S4x8 : Shape := ⟨2, ![4, 8]⟩
abbrev S256x3 : Shape := ⟨2, ![256, 3]⟩
abbrev S1x256 : Shape := ⟨2, ![1, 256]⟩
abbrev S1x1 : Shape := ⟨2, ![1, 1]⟩
abbrev S9x256 : Shape := ⟨2, ![9, 256]⟩
abbrev S9x1 : Shape := ⟨2, ![9, 1]⟩
abbrev S4x3x1 : Shape := ⟨3, ![4, 3, 1]⟩
abbrev S4x9x1 : Shape := ⟨3, ![4, 9, 1]⟩
abbrev S1x3x8192 : Shape := ⟨3, ![1, 3, 8192]⟩
abbrev S1x3x1 : Shape := ⟨3, ![1, 3, 1]⟩
abbrev S1x9x1 : Shape := ⟨3, ![1, 9, 1]⟩
abbrev S3x8192 : Shape := ⟨2, ![3, 8192]⟩
abbrev S1x8192 : Shape := ⟨2, ![1, 8192]⟩
abbrev S256x8192 : Shape := ⟨2, ![256, 8192]⟩
abbrev S1x1x8192 : Shape := ⟨3, ![1, 1, 8192]⟩
abbrev S1x1x1 : Shape := ⟨3, ![1, 1, 1]⟩
abbrev S3 : Shape := ⟨1, ![3]⟩
abbrev S3x1 : Shape := ⟨2, ![3, 1]⟩
abbrev S9x8192 : Shape := ⟨2, ![9, 8192]⟩
abbrev S4x9 : Shape := ⟨2, ![4, 9]⟩

abbrev nBuf : Table → Nat
  | .hbm => 47
  | .local .tc .vmem => 20
  | .local .tc .smem => 1
  | .local .scVector .vmem => 14
  | _ => 0

abbrev bufTy : (tb : Table) → Fin (nBuf tb) → BufTy
  | .hbm, ⟨0, _⟩ => ⟨S4x32768x3, .f32⟩
  | .hbm, ⟨1, _⟩ => ⟨S4x32768x3, .f32⟩
  | .hbm, ⟨2, _⟩ => ⟨S4x3, .f32⟩
  | .hbm, ⟨3, _⟩ => ⟨S3x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S3x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x9, .f32⟩
  | .hbm, ⟨14, _⟩ => ⟨S9, .f32⟩
  | .hbm, ⟨15, _⟩ => ⟨S4x3x32768, .f32⟩
  | .hbm, ⟨16, _⟩ => ⟨S393216, .f32⟩
  | .hbm, ⟨17, _⟩ => ⟨S4x3x32768, .f32⟩
  | .hbm, ⟨18, _⟩ => ⟨S393216, .f32⟩
  | .hbm, ⟨19, _⟩ => ⟨S_, .i32⟩
  | .hbm, ⟨20, _⟩ => ⟨S_, .f32⟩
  | .hbm, ⟨21, _⟩ => ⟨S4x16, .f32⟩
  | .hbm, ⟨22, _⟩ => ⟨S64, .f32⟩
  | .hbm, ⟨23, _⟩ => ⟨S196608, .f32⟩
  | .hbm, ⟨24, _⟩ => ⟨S512, .i32⟩
  | .hbm, ⟨25, _⟩ => ⟨S4x6x8192, .f32⟩
  | .hbm, ⟨26, _⟩ => ⟨S4x3x8192, .f32⟩
  | .hbm, ⟨27, _⟩ => ⟨S4x3x8192, .f32⟩
  | .hbm, ⟨28, _⟩ => ⟨S4x8x16, .i32⟩
  | .hbm, ⟨29, _⟩ => ⟨S4x8x1, .i32⟩
  | .hbm, ⟨30, _⟩ => ⟨S4x8, .i32⟩
  | .hbm, ⟨31, _⟩ => ⟨S256x3, .f32⟩
  | .hbm, ⟨32, _⟩ => ⟨S256x1, .f32⟩
  | .hbm, ⟨33, _⟩ => ⟨S256x256, .f32⟩
  | .hbm, ⟨34, _⟩ => ⟨S256x1, .f32⟩
  | .hbm, ⟨35, _⟩ => ⟨S1x256, .f32⟩
  | .hbm, ⟨36, _⟩ => ⟨S1x1, .f32⟩
  | .hbm, ⟨37, _⟩ => ⟨S256x3, .f32⟩
  | .hbm, ⟨38, _⟩ => ⟨S256x1, .f32⟩
  | .hbm, ⟨39, _⟩ => ⟨S256x256, .f32⟩
  | .hbm, ⟨40, _⟩ => ⟨S256x1, .f32⟩
  | .hbm, ⟨41, _⟩ => ⟨S9x256, .f32⟩
  | .hbm, ⟨42, _⟩ => ⟨S9x1, .f32⟩
  | .hbm, ⟨43, _⟩ => ⟨S4x3x1, .f32⟩
  | .hbm, ⟨44, _⟩ => ⟨S4x9x1, .f32⟩
  | .hbm, ⟨45, _⟩ => ⟨S4x3, .f32⟩
  | .hbm, ⟨46, _⟩ => ⟨S4x9, .f32⟩
  | .local .tc .vmem, ⟨0, _⟩ => ⟨S1x3x8192, .f32⟩
  | .local .tc .vmem, ⟨1, _⟩ => ⟨S1x3x8192, .f32⟩
  | .local .tc .vmem, ⟨2, _⟩ => ⟨S1x3x8192, .f32⟩
  | .local .tc .vmem, ⟨3, _⟩ => ⟨S1x3x8192, .f32⟩
  | .local .tc .vmem, ⟨4, _⟩ => ⟨S256x3, .f32⟩
  | .local .tc .vmem, ⟨5, _⟩ => ⟨S256x1, .f32⟩
  | .local .tc .vmem, ⟨6, _⟩ => ⟨S256x256, .f32⟩
  | .local .tc .vmem, ⟨7, _⟩ => ⟨S256x1, .f32⟩
  | .local .tc .vmem, ⟨8, _⟩ => ⟨S1x256, .f32⟩
  | .local .tc .vmem, ⟨9, _⟩ => ⟨S1x1, .f32⟩
  | .local .tc .vmem, ⟨10, _⟩ => ⟨S256x3, .f32⟩
  | .local .tc .vmem, ⟨11, _⟩ => ⟨S256x1, .f32⟩
  | .local .tc .vmem, ⟨12, _⟩ => ⟨S256x256, .f32⟩
  | .local .tc .vmem, ⟨13, _⟩ => ⟨S256x1, .f32⟩
  | .local .tc .vmem, ⟨14, _⟩ => ⟨S9x256, .f32⟩
  | .local .tc .vmem, ⟨15, _⟩ => ⟨S9x1, .f32⟩
  | .local .tc .vmem, ⟨16, _⟩ => ⟨S1x3x1, .f32⟩
  | .local .tc .vmem, ⟨17, _⟩ => ⟨S1x3x1, .f32⟩
  | .local .tc .vmem, ⟨18, _⟩ => ⟨S1x9x1, .f32⟩
  | .local .tc .vmem, ⟨19, _⟩ => ⟨S1x9x1, .f32⟩
  | .local .tc .smem, ⟨0, _⟩ => ⟨S4x8, .i32⟩
  | .local .scVector .vmem, ⟨0, _⟩ => ⟨S4096, .f32⟩
  | .local .scVector .vmem, ⟨1, _⟩ => ⟨S4096, .f32⟩
  | .local .scVector .vmem, ⟨2, _⟩ => ⟨S4096, .f32⟩
  | .local .scVector .vmem, ⟨3, _⟩ => ⟨S4096, .f32⟩
  | .local .scVector .vmem, ⟨4, _⟩ => ⟨S4096, .f32⟩
  | .local .scVector .vmem, ⟨5, _⟩ => ⟨S4096, .f32⟩
  | .local .scVector .vmem, ⟨6, _⟩ => ⟨S1040, .f32⟩
  | .local .scVector .vmem, ⟨7, _⟩ => ⟨S1040, .f32⟩
  | .local .scVector .vmem, ⟨8, _⟩ => ⟨S1040, .f32⟩
  | .local .scVector .vmem, ⟨9, _⟩ => ⟨S1040, .f32⟩
  | .local .scVector .vmem, ⟨10, _⟩ => ⟨S1040, .f32⟩
  | .local .scVector .vmem, ⟨11, _⟩ => ⟨S1040, .f32⟩
  | .local .scVector .vmem, ⟨12, _⟩ => ⟨S16, .f32⟩
  | .local .scVector .vmem, ⟨13, _⟩ => ⟨S16, .i32⟩
  | _, _ => ⟨S4x32768x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 35 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTables nBuf rfl bufTy 4 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6_0 : Ref sig .tc := ⟨.hbm, 23, rfl⟩
abbrev main_v6_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_v26 : Ref sig .tc := ⟨.hbm, 45, rfl⟩
abbrev main_v27 : Ref sig .tc := ⟨.hbm, 46, rfl⟩
abbrev main_v1_scv : Ref sig .scVector := ⟨.hbm, 16, rfl⟩
abbrev main_v3_scv : Ref sig .scVector := ⟨.hbm, 18, rfl⟩
abbrev main_v5_scv : Ref sig .scVector := ⟨.hbm, 22, rfl⟩
abbrev main_v6_0_scv : Ref sig .scVector := ⟨.hbm, 23, rfl⟩
abbrev main_v6_1_scv : Ref sig .scVector := ⟨.hbm, 24, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg10_0 : Ref sig .tc := ⟨.vmem, 11, rfl⟩
abbrev cc1_stg11_0 : Ref sig .tc := ⟨.vmem, 12, rfl⟩
abbrev cc1_stg12_0 : Ref sig .tc := ⟨.vmem, 13, rfl⟩
abbrev cc1_stg13_0 : Ref sig .tc := ⟨.vmem, 14, rfl⟩
abbrev cc1_stg14_0 : Ref sig .tc := ⟨.vmem, 15, rfl⟩
abbrev cc1_stg15_0 : Ref sig .tc := ⟨.vmem, 16, rfl⟩
abbrev cc1_stg15_1 : Ref sig .tc := ⟨.vmem, 17, rfl⟩
abbrev cc1_stg16_0 : Ref sig .tc := ⟨.vmem, 18, rfl⟩
abbrev cc1_stg16_1 : Ref sig .tc := ⟨.vmem, 19, rfl⟩
abbrev cc1_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc1_sem0_0 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30
abbrev cc1_sem15_0 : DmaSem sig := 31
abbrev cc1_sem15_1 : DmaSem sig := 32
abbrev cc1_sem16_0 : DmaSem sig := 33
abbrev cc1_sem16_1 : DmaSem sig := 34
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v30 : BitVec 32 := Scalar.muli v18 c16_i32
  ![v30.toNat]
def k0_off2 (i : grid0.Coords) (c0_i32_10 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c3_i32 : BitVec 32 := 3#32
  let v31 : BitVec 32 := Scalar.muli v18 c3_i32
  let v32 : BitVec 32 := Scalar.addi v31 c0_i32_10
  let c32768_i32 : BitVec 32 := 32768#32
  let v33 : BitVec 32 := Scalar.muli v32 c32768_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c4096_i32 : BitVec 32 := 4096#32
  let v29 : BitVec 32 := Scalar.muli v28 c4096_i32
  let v34 : BitVec 32 := Scalar.addi v33 v29
  ![v34.toNat]
@[reducible] def k0_t1_loop : Scf.Loop 32 :=
  let c0_i32_27 : BitVec 32 := 0#32
  let c65_i32 : BitVec 32 := 65#32
  let v55 : BitVec 32 := Scalar.addi c0_i32_27 c65_i32
  let c1_i32_28 : BitVec 32 := 1#32
  ⟨c0_i32_27, v55, c1_i32_28⟩
def k0_off3 (k0_t1 : Fin k0_t1_loop.trips) : Fin 1 → Nat :=
  let c0_i32_27 : BitVec 32 := 0#32
  let c1_i32_28 : BitVec 32 := 1#32
  let arg21 : BitVec 32 := Scf.iv c0_i32_27 c1_i32_28 k0_t1
  let c16_i32_57 : BitVec 32 := 16#32
  let v102 : BitVec 32 := Scalar.muli arg21 c16_i32_57
  let v103 : Index := Scalar.indexCast v102
  ![v103.toNat]
@[reducible] def k0_t2_loop : Scf.Loop 32 :=
  let c0_i32_31 : BitVec 32 := 0#32
  let c256_i32 : BitVec 32 := 256#32
  let v63 : BitVec 32 := Scalar.addi c0_i32_31 c256_i32
  let c1_i32_32 : BitVec 32 := 1#32
  ⟨c0_i32_31, v63, c1_i32_32⟩
def k0_off4 (k0_t2 : Fin k0_t2_loop.trips) : Fin 1 → Nat :=
  let c0_i32_31 : BitVec 32 := 0#32
  let c1_i32_32 : BitVec 32 := 1#32
  let arg21 : BitVec 32 := Scf.iv c0_i32_31 c1_i32_32 k0_t2
  let c16_i32_57 : BitVec 32 := 16#32
  let v101 : BitVec 32 := Scalar.muli arg21 c16_i32_57
  let v102 : Index := Scalar.indexCast v101
  ![v102.toNat]
def k0_off5 (k0_t2 : Fin k0_t2_loop.trips) : Fin 1 → Nat :=
  let c0_i32_31 : BitVec 32 := 0#32
  let c1_i32_32 : BitVec 32 := 1#32
  let arg21 : BitVec 32 := Scf.iv c0_i32_31 c1_i32_32 k0_t2
  let c16_i32_57 : BitVec 32 := 16#32
  let v101 : BitVec 32 := Scalar.muli arg21 c16_i32_57
  let v129 : Index := Scalar.indexCast v101
  ![v129.toNat]

def k0_chk1 (v128 : IVec S16 32) : Prop :=
  (∀ a x, ((![v128] : Fin 1 → IVec S16 32) a x).toNat < S1040.size a) ∧
  (∀ a x, ((![v128] : Fin 1 → IVec S16 32) a x).toNat < S1040.size a) ∧
  (∀ a x, ((![v128] : Fin 1 → IVec S16 32) a x).toNat < S1040.size a) ∧
  (∀ a x, ((![v128] : Fin 1 → IVec S16 32) a x).toNat < S1040.size a) ∧
  (∀ a x, ((![v128] : Fin 1 → IVec S16 32) a x).toNat < S1040.size a) ∧
  (∀ a x, ((![v128] : Fin 1 → IVec S16 32) a x).toNat < S1040.size a)
theorem k0_idx1_inb : ∀ (v128 : IVec S16 32) (k0_hw1 : k0_chk1 v128), ∀ a x, ((![v128] : Fin 1 → IVec S16 32) a x).toNat < S1040.size a := fun v128 k0_hw1 => k0_hw1.1
theorem k0_idx2_inb : ∀ (v128 : IVec S16 32) (k0_hw1 : k0_chk1 v128), ∀ a x, ((![v128] : Fin 1 → IVec S16 32) a x).toNat < S1040.size a := fun v128 k0_hw1 => k0_hw1.2.1
theorem k0_idx3_inb : ∀ (v128 : IVec S16 32) (k0_hw1 : k0_chk1 v128), ∀ a x, ((![v128] : Fin 1 → IVec S16 32) a x).toNat < S1040.size a := fun v128 k0_hw1 => k0_hw1.2.2.1
theorem k0_idx4_inb : ∀ (v128 : IVec S16 32) (k0_hw1 : k0_chk1 v128), ∀ a x, ((![v128] : Fin 1 → IVec S16 32) a x).toNat < S1040.size a := fun v128 k0_hw1 => k0_hw1.2.2.2.1
theorem k0_idx5_inb : ∀ (v128 : IVec S16 32) (k0_hw1 : k0_chk1 v128), ∀ a x, ((![v128] : Fin 1 → IVec S16 32) a x).toNat < S1040.size a := fun v128 k0_hw1 => k0_hw1.2.2.2.2.1
theorem k0_idx6_inb : ∀ (v128 : IVec S16 32) (k0_hw1 : k0_chk1 v128), ∀ a x, ((![v128] : Fin 1 → IVec S16 32) a x).toNat < S1040.size a := fun v128 k0_hw1 => k0_hw1.2.2.2.2.2
def k0_off6 (i : grid0.Coords) (c0_i32_35 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c6_i32 : BitVec 32 := 6#32
  let v68 : BitVec 32 := Scalar.muli v18 c6_i32
  let v69 : BitVec 32 := Scalar.addi v68 c0_i32_35
  let c8192_i32 : BitVec 32 := 8192#32
  let v70 : BitVec 32 := Scalar.muli v69 c8192_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32_36 : BitVec 32 := 1024#32
  let v71 : BitVec 32 := Scalar.muli v28 c1024_i32_36
  let v72 : BitVec 32 := Scalar.addi v70 v71
  ![v72.toNat]
def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_55 : BitVec 32 := 8#32
  let v98 : BitVec 32 := Scalar.muli v18 c8_i32_55
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let v99 : BitVec 32 := Scalar.addi v98 v28
  let c16_i32_56 : BitVec 32 := 16#32
  let v100 : BitVec 32 := Scalar.muli v99 c16_i32_56
  ![v100.toNat]
abbrev grid1 : Pipeline.Grid := ⟨1, ![4], ![false]⟩

def k1_off1 (i : grid1.Coords) : Fin 2 → Nat :=
  let arg0 : BitVec 32 := BitVec.ofNat 32 (i 0).val
  let v7 : Index := Scalar.indexCast arg0
  let c0_5 : Index := 0#32
  ![v7.toNat, 0]
def k1_off2 (i : grid1.Coords) : Fin 2 → Nat :=
  let arg0 : BitVec 32 := BitVec.ofNat 32 (i 0).val
  let v15 : Index := Scalar.indexCast arg0
  let c1 : Index := 1#32
  ![v15.toNat, 1]
def k1_off3 (i : grid1.Coords) : Fin 2 → Nat :=
  let arg0 : BitVec 32 := BitVec.ofNat 32 (i 0).val
  let v24 : Index := Scalar.indexCast arg0
  let c2 : Index := 2#32
  ![v24.toNat, 2]
def k1_off4 (i : grid1.Coords) : Fin 2 → Nat :=
  let arg0 : BitVec 32 := BitVec.ofNat 32 (i 0).val
  let v33 : Index := Scalar.indexCast arg0
  let c3 : Index := 3#32
  ![v33.toNat, 3]
def k1_off5 (i : grid1.Coords) : Fin 2 → Nat :=
  let arg0 : BitVec 32 := BitVec.ofNat 32 (i 0).val
  let v42 : Index := Scalar.indexCast arg0
  let c4 : Index := 4#32
  ![v42.toNat, 4]
def k1_off6 (i : grid1.Coords) : Fin 2 → Nat :=
  let arg0 : BitVec 32 := BitVec.ofNat 32 (i 0).val
  let v51 : Index := Scalar.indexCast arg0
  let c5 : Index := 5#32
  ![v51.toNat, 5]
def k1_off7 (i : grid1.Coords) : Fin 2 → Nat :=
  let arg0 : BitVec 32 := BitVec.ofNat 32 (i 0).val
  let v60 : Index := Scalar.indexCast arg0
  let c6 : Index := 6#32
  ![v60.toNat, 6]
def k1_off8 (i : grid1.Coords) : Fin 2 → Nat :=
  let arg0 : BitVec 32 := BitVec.ofNat 32 (i 0).val
  let v69 : Index := Scalar.indexCast arg0
  let c7 : Index := 7#32
  ![v69.toNat, 7]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S4x8 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x3x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x3x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x3 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S256x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S9x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S9x1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S1x3x1 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1x9x1 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S4x32768x3 : Shape := ⟨3, ![4, 32768, 3]⟩
abbrev S4x3 : Shape := ⟨2, ![4, 3]⟩
abbrev S3x256 : Shape := ⟨2, ![3, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x9 : Shape := ⟨2, ![256, 9]⟩
abbrev S9 : Shape := ⟨1, ![9]⟩
abbrev S4x1x3 : Shape := ⟨3, ![4, 1, 3]⟩
abbrev S_ : Shape := ⟨0, ![]⟩
abbrev S4x32768 : Shape := ⟨2, ![4, 32768]⟩
abbrev S4x32768x256 : Shape := ⟨3, ![4, 32768, 256]⟩
abbrev S1x256 : Shape := ⟨2, ![1, 256]⟩
abbrev S1x1x256 : Shape := ⟨3, ![1, 1, 256]⟩
abbrev S4x32768x1 : Shape := ⟨3, ![4, 32768, 1]⟩
abbrev S1x1 : Shape := ⟨2, ![1, 1]⟩
abbrev S1x1x1 : Shape := ⟨3, ![1, 1, 1]⟩
abbrev S32768 : Shape := ⟨1, ![32768]⟩
abbrev S4 : Shape := ⟨1, ![4]⟩
abbrev S4x1 : Shape := ⟨2, ![4, 1]⟩
abbrev S4x32768x9 : Shape := ⟨3, ![4, 32768, 9]⟩
abbrev S1x9 : Shape := ⟨2, ![1, 9]⟩
abbrev S1x1x9 : Shape := ⟨3, ![1, 1, 9]⟩
abbrev S4x9 : Shape := ⟨2, ![4, 9]⟩
abbrev S4x3x3 : Shape := ⟨3, ![4, 3, 3]⟩
abbrev S4x3x1 : Shape := ⟨3, ![4, 3, 1]⟩

abbrev nBuf : Space → Nat
  | .hbm => 143
  | .vmem => 0
  | .smem => 0
  | _ => 0

abbrev hbmTy0_0 (i : Nat) : BufTy := match i % 128 with
  | 0 => ⟨S4x32768x3, .f32⟩
  | 1 => ⟨S4x32768x3, .f32⟩
  | 2 => ⟨S4x3, .f32⟩
  | 3 => ⟨S3x256, .f32⟩
  | 4 => ⟨S256, .f32⟩
  | 5 => ⟨S256x256, .f32⟩
  | 6 => ⟨S256, .f32⟩
  | 7 => ⟨S256x1, .f32⟩
  | 8 => ⟨S1, .f32⟩
  | 9 => ⟨S3x256, .f32⟩
  | 10 => ⟨S256, .f32⟩
  | 11 => ⟨S256x256, .f32⟩
  | 12 => ⟨S256, .f32⟩
  | 13 => ⟨S256x9, .f32⟩
  | 14 => ⟨S9, .f32⟩
  | 15 => ⟨S4x1x3, .f32⟩
  | 16 => ⟨S4x32768x3, .f32⟩
  | 17 => ⟨S4x32768x3, .f32⟩
  | 18 => ⟨S4x32768x3, .f32⟩
  | 19 => ⟨S_, .f32⟩
  | 20 => ⟨S4x32768, .f32⟩
  | 21 => ⟨S4x32768, .f32⟩
  | 22 => ⟨S_, .f32⟩
  | 23 => ⟨S_, .f32⟩
  | 24 => ⟨S_, .f32⟩
  | 25 => ⟨S4x32768, .f32⟩
  | 26 => ⟨S4x32768, .i1⟩
  | 27 => ⟨S4x32768x256, .f32⟩
  | 28 => ⟨S1x256, .f32⟩
  | 29 => ⟨S1x1x256, .f32⟩
  | 30 => ⟨S4x32768x256, .f32⟩
  | 31 => ⟨S4x32768x256, .f32⟩
  | 32 => ⟨S_, .f32⟩
  | 33 => ⟨S4x32768x256, .f32⟩
  | 34 => ⟨S4x32768x256, .f32⟩
  | 35 => ⟨S4x32768x256, .f32⟩
  | 36 => ⟨S1x256, .f32⟩
  | 37 => ⟨S1x1x256, .f32⟩
  | 38 => ⟨S4x32768x256, .f32⟩
  | 39 => ⟨S4x32768x256, .f32⟩
  | 40 => ⟨S_, .f32⟩
  | 41 => ⟨S4x32768x256, .f32⟩
  | 42 => ⟨S4x32768x256, .f32⟩
  | 43 => ⟨S4x32768x1, .f32⟩
  | 44 => ⟨S1x1, .f32⟩
  | 45 => ⟨S1x1x1, .f32⟩
  | 46 => ⟨S4x32768x1, .f32⟩
  | 47 => ⟨S4x32768x1, .f32⟩
  | 48 => ⟨S4x32768, .f32⟩
  | 49 => ⟨S_, .f32⟩
  | 50 => ⟨S_, .f32⟩
  | 51 => ⟨S32768, .f32⟩
  | 52 => ⟨S4x32768, .f32⟩
  | 53 => ⟨S4x32768, .f32⟩
  | 54 => ⟨S_, .f32⟩
  | 55 => ⟨S4, .f32⟩
  | 56 => ⟨S_, .f32⟩
  | 57 => ⟨S4, .f32⟩
  | 58 => ⟨S4, .f32⟩
  | 59 => ⟨S4x1, .f32⟩
  | 60 => ⟨S4x32768, .f32⟩
  | 61 => ⟨S4x32768, .f32⟩
  | 62 => ⟨S4x32768, .f32⟩
  | 63 => ⟨S_, .f32⟩
  | 64 => ⟨S4, .f32⟩
  | 65 => ⟨S4x1, .f32⟩
  | 66 => ⟨S4x32768, .f32⟩
  | 67 => ⟨S4x32768, .f32⟩
  | 68 => ⟨S4x32768x1, .f32⟩
  | 69 => ⟨S4x32768x3, .f32⟩
  | 70 => ⟨S4x32768x3, .f32⟩
  | 71 => ⟨S_, .f32⟩
  | 72 => ⟨S4x3, .f32⟩
  | 73 => ⟨S4x32768x256, .f32⟩
  | 74 => ⟨S1x256, .f32⟩
  | 75 => ⟨S1x1x256, .f32⟩
  | 76 => ⟨S4x32768x256, .f32⟩
  | 77 => ⟨S4x32768x256, .f32⟩
  | 78 => ⟨S_, .f32⟩
  | 79 => ⟨S4x32768x256, .f32⟩
  | 80 => ⟨S4x32768x256, .f32⟩
  | 81 => ⟨S4x32768x256, .f32⟩
  | 82 => ⟨S1x256, .f32⟩
  | 83 => ⟨S1x1x256, .f32⟩
  | 84 => ⟨S4x32768x256, .f32⟩
  | 85 => ⟨S4x32768x256, .f32⟩
  | 86 => ⟨S_, .f32⟩
  | 87 => ⟨S4x32768x256, .f32⟩
  | 88 => ⟨S4x32768x256, .f32⟩
  | 89 => ⟨S4x32768x9, .f32⟩
  | 90 => ⟨S1x9, .f32⟩
  | 91 => ⟨S1x1x9, .f32⟩
  | 92 => ⟨S4x32768x9, .f32⟩
  | 93 => ⟨S4x32768x9, .f32⟩
  | 94 => ⟨S4x1x3, .f32⟩
  | 95 => ⟨S4x32768x3, .f32⟩
  | 96 => ⟨S4x32768x3, .f32⟩
  | 97 => ⟨S4x32768x3, .f32⟩
  | 98 => ⟨S_, .f32⟩
  | 99 => ⟨S4x32768, .f32⟩
  | 100 => ⟨S4x32768, .f32⟩
  | 101 => ⟨S_, .f32⟩
  | 102 => ⟨S4x32768, .f32⟩
  | 103 => ⟨S4x32768, .i1⟩
  | 104 => ⟨S4x32768, .i1⟩
  | 105 => ⟨S4x32768, .i32⟩
  | 106 => ⟨S_, .i32⟩
  | 107 => ⟨S4, .i32⟩
  | 108 => ⟨S4x32768x1, .i1⟩
  | 109 => ⟨S4x32768x1, .f32⟩
  | 110 => ⟨S4x32768x9, .f32⟩
  | 111 => ⟨S4x32768x9, .f32⟩
  | 112 => ⟨S_, .f32⟩
  | 113 => ⟨S4x9, .f32⟩
  | 114 => ⟨S_, .i32⟩
  | 115 => ⟨S4, .i32⟩
  | 116 => ⟨S4, .i32⟩
  | 117 => ⟨S4, .f32⟩
  | 118 => ⟨S4x1, .f32⟩
  | 119 => ⟨S4x9, .f32⟩
  | 120 => ⟨S4x9, .f32⟩
  | 121 => ⟨S4x32768x1, .f32⟩
  | 122 => ⟨S4x32768x9, .f32⟩
  | 123 => ⟨S4x32768x9, .f32⟩
  | 124 => ⟨S_, .f32⟩
  | 125 => ⟨S4x9, .f32⟩
  | 126 => ⟨S_, .i32⟩
  | 127 => ⟨S4, .i32⟩
  | _ => ⟨S4x32768x3, .f32⟩

abbrev hbmTy0_1 (i : Nat) : BufTy := match i % 128 with
  | 0 => ⟨S4, .i1⟩
  | 1 => ⟨S4x9, .i1⟩
  | 2 => ⟨S4x9, .f32⟩
  | 3 => ⟨S4x3x3, .f32⟩
  | 4 => ⟨S4x3x3, .f32⟩
  | 5 => ⟨S_, .f32⟩
  | 6 => ⟨S4x3, .f32⟩
  | 7 => ⟨S4x3x1, .f32⟩
  | 8 => ⟨S4x3x1, .f32⟩
  | 9 => ⟨S_, .f32⟩
  | 10 => ⟨S4x3x1, .f32⟩
  | 11 => ⟨S4x3x1, .f32⟩
  | 12 => ⟨S4x3x3, .f32⟩
  | 13 => ⟨S4x3x3, .f32⟩
  | 14 => ⟨S4x9, .f32⟩
  | _ => ⟨S4x32768x3, .f32⟩

abbrev hbmTy (i : Nat) : BufTy := match i / 128 with
  | 0 => hbmTy0_0 i
  | 1 => hbmTy0_1 i
  | _ => ⟨S4x32768x3, .f32⟩

abbrev bufTy : (tb : Table) → Fin (tcTables nBuf tb) → BufTy
  | .hbm, ⟨i, _⟩ => hbmTy i
  | _, _ => ⟨S4x32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call1_cst : Ref sig .tc := ⟨.hbm, 32, rfl⟩
abbrev main_call1_v0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_0 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_v26 : Ref sig .tc := ⟨.hbm, 53, rfl⟩
abbrev main_cst_1 : Ref sig .tc := ⟨.hbm, 54, rfl⟩
abbrev main_v27 : Ref sig .tc := ⟨.hbm, 55, rfl⟩
abbrev main_cst_2 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_3 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_4 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call4_cst : Ref sig .tc := ⟨.hbm, 78, rfl⟩
abbrev main_call4_v0 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_call5_cst : Ref sig .tc := ⟨.hbm, 86, rfl⟩
abbrev main_call5_v0 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_call6_v0 : Ref sig .tc := ⟨.hbm, 97, rfl⟩
abbrev main_call6_cst : Ref sig .tc := ⟨.hbm, 98, rfl⟩
abbrev main_call6_v1 : Ref sig .tc := ⟨.hbm, 99, rfl⟩
abbrev main_v62 : Ref sig .tc := ⟨.hbm, 100, rfl⟩
abbrev main_cst_5 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_6 : Ref sig .tc := ⟨.hbm, 112, rfl⟩
abbrev main_v72 : Ref sig .tc := ⟨.hbm, 113, rfl⟩
abbrev main_c_7 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_8 : Ref sig .tc := ⟨.hbm, 124, rfl⟩
abbrev main_v82 : Ref sig .tc := ⟨.hbm, 125, rfl⟩
abbrev main_c_9 : Ref sig .tc := ⟨.hbm, 126, rfl⟩
abbrev main_v83 : Ref sig .tc := ⟨.hbm, 127, rfl⟩
abbrev main_v84 : Ref sig .tc := ⟨.hbm, 128, rfl⟩
abbrev main_call7_v0 : Ref sig .tc := ⟨.hbm, 129, rfl⟩
abbrev main_v85 : Ref sig .tc := ⟨.hbm, 130, rfl⟩
abbrev main_v86 : Ref sig .tc := ⟨.hbm, 131, rfl⟩
abbrev main_call8_v0 : Ref sig .tc := ⟨.hbm, 132, rfl⟩
abbrev main_call8_cst : Ref sig .tc := ⟨.hbm, 133, rfl⟩
abbrev main_call8_v1 : Ref sig .tc := ⟨.hbm, 134, rfl⟩
abbrev main_call8_v2 : Ref sig .tc := ⟨.hbm, 135, rfl⟩
abbrev main_v87 : Ref sig .tc := ⟨.hbm, 136, rfl⟩
abbrev main_cst_10 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩

abbrev nD : Nat := 1
abbrev τ : Topo := Topo.v7x

variable {F : FTy → Type} [FloatOps F]
-- ==== Proof.Slots.lean ====
/-
  Compaction, one vector of sixteen lanes at a time: where a lane of the running count sends its point, and what
  sixteen such masked stores leave. Nothing here mentions a program; the predicate `nr` says which points are kept.
-/
module

public import Idealize.ShloMosaic.PureOps.ShapeOps
public import Mathlib.Data.Nat.Count

@[expose] public section

noncomputable section

namespace Cert.Slots

open Idealize.ShloMosaic

/-- Entry `k` of an array of one axis. -/
abbrev ix {n : ℕ} (k : ℕ) (h : k < n) : (⟨1, ![n]⟩ : Shape).Idx := Shape.ofLane (d := ![n]) (⟨k, h⟩ : Fin n)

/-- The position of an entry. -/
theorem ix_val {n k : ℕ} (h : k < n) (a : Fin 1) : (ix k h a).val = k := rfl

/-- Every index of an array of one axis is the entry of its position. -/
theorem ix_ext {n : ℕ} (j : (⟨1, ![n]⟩ : Shape).Idx) : j = ix (j 0).val (j 0).isLt := by
  funext a; apply Fin.ext; rw [Subsingleton.elim a 0]; rfl

variable {F : FTy → Type}

/-- What the first `m` kept points leave in slot `k`: the value of the kept point whose rank is `k`, else the fill. -/
def slot {α : Type} (nr : ℕ → Prop) [DecidablePred nr] (val : ℕ → α) (z : α) : ℕ → ℕ → α
  | 0, _ => z
  | m + 1, k => if nr m ∧ k = Nat.count nr m then val m else slot nr val z m k

/-- One more point, which is kept. -/
theorem slot_succ_pos {α : Type} (nr : ℕ → Prop) [DecidablePred nr] (val : ℕ → α) (z : α) (m k : ℕ) (h : nr m) :
    slot nr val z (m + 1) k = if k = Nat.count nr m then val m else slot nr val z m k := by
  rw [slot]; simp only [h, true_and]

/-- One more point, which is not kept. -/
theorem slot_succ_neg {α : Type} (nr : ℕ → Prop) [DecidablePred nr] (val : ℕ → α) (z : α) (m k : ℕ) (h : ¬ nr m) :
    slot nr val z (m + 1) k = slot nr val z m k := by
  rw [slot, if_neg (fun hh => h hh.1)]

/-- The first `m + 1` numbers are the first `m` and `m`. -/
theorem take_finRange_succ (n m : ℕ) (h : m < n) :
    (List.finRange n).take (m + 1) = (List.finRange n).take m ++ [⟨m, h⟩] := by
  rw [List.take_add_one]; simp [h]

/-- Sixteen lanes' masked stores, each kept lane's value sent to the slot its rank names (clamped at `B`), extend the
    slots below `B` by the sixteen points. -/
theorem storeIdx_slot [FloatOps F] {e : EltTy} {n B : ℕ} (nr : ℕ → Prop) [DecidablePred nr] (val : ℕ → Elt F e) (z : Elt F e) (b : ℕ)
    (f : Vec F ⟨1, ![n]⟩ e) (idxs : Fin 1 → IVec ⟨1, ![16]⟩ 32) (v : Vec F ⟨1, ![16]⟩ e) (mask : IVec ⟨1, ![16]⟩ 1)
    (h : ∀ a x, (idxs a x).toNat < (⟨1, ![n]⟩ : Shape).size a)
    (hidx : ∀ l (hl : l < 16), (idxs 0 (ix l hl)).toNat = min (Nat.count nr (b + l)) B)
    (hmask : ∀ l (hl : l < 16), mask (ix l hl) = 1 ↔ nr (b + l))
    (hv : ∀ l (hl : l < 16), v (ix l hl) = val (b + l))
    (hf : ∀ k (hk : k < n), k < B → f (ix k hk) = slot nr val z b k) :
    ∀ k (hk : k < n), k < B → storeIdx (F := F) (d := ![16]) f idxs v mask false h (ix k hk) = slot nr val z (b + 16) k := by
  have key : ∀ m, m ≤ 16 → ∀ k (hk : k < n), k < B →
      ((List.finRange 16).take m).foldl (fun (g : Vec F ⟨1, ![n]⟩ e) (k : Fin 16) =>
        if mask (Shape.ofLane (d := ![16]) k) = 1 then
          fun j => if (∀ a, (j a).val = (idxAt idxs h (Shape.ofLane (d := ![16]) k) a).val) then v (Shape.ofLane (d := ![16]) k) else g j
        else g) f (ix k hk) = slot nr val z (b + m) k := by
    intro m
    induction m with
    | zero => intro _ k hk hB; simpa using hf k hk hB
    | succ m ih =>
      intro hm k hk hB
      have hm' : m < 16 := hm
      rw [take_finRange_succ 16 m hm', List.foldl_append, List.foldl_cons, List.foldl_nil]
      have ih' := ih (Nat.le_of_succ_le hm) k hk hB
      by_cases hn : nr (b + m)
      · rw [if_pos ((hmask m hm').2 hn), ← Nat.add_assoc, slot_succ_pos _ _ _ _ _ hn]
        have e1 : (∀ a, (ix k hk a).val = (idxAt (s := ⟨1, ![n]⟩) (t := ⟨1, ![16]⟩) idxs h (Shape.ofLane (d := ![16]) (⟨m, hm'⟩ : Fin 16)) a).val) ↔ k = Nat.count nr (b + m) := by
          have e2 : ∀ a : Fin 1, (idxAt (s := ⟨1, ![n]⟩) (t := ⟨1, ![16]⟩) idxs h (Shape.ofLane (d := ![16]) (⟨m, hm'⟩ : Fin 16)) a).val = min (Nat.count nr (b + m)) B := by
            intro a; rw [Subsingleton.elim a 0]; exact hidx m hm'
          constructor
          · intro hh
            have := (hh 0).trans (e2 0)
            rw [ix_val] at this
            omega
          · intro hh a
            rw [e2 a, ix_val]; omega
        by_cases hc : k = Nat.count nr (b + m)
        · rw [if_pos (e1.2 hc), if_pos hc]; exact hv m hm'
        · rw [if_neg (fun hh => hc (e1.1 hh)), if_neg hc]; exact ih'
      · rw [if_neg (fun hh => hn ((hmask m hm').1 hh)), ← Nat.add_assoc, slot_succ_neg _ _ _ _ _ hn]; exact ih'
  intro k hk hB
  have := key 16 le_rfl k hk hB
  rw [List.take_of_length_le (by simp)] at this
  exact this

/-- The positions up to `m + 1` are those up to `m` and `m + 1`. -/
theorem filter_step (m : Fin 15) : ((List.finRange 16).filter fun k => decide (0 < k.val ∧ k.val ≤ m.val + 1))
    = ((List.finRange 16).filter fun k => decide (0 < k.val ∧ k.val ≤ m.val)) ++ [⟨m.val + 1, by omega⟩] := by
  revert m; decide

/-- The running sum of the kept lanes' ones counts them. -/
theorem scan_count (nr : ℕ → Prop) [DecidablePred nr] (b : ℕ) (v : IVec ⟨1, ![16]⟩ 32)
    (hv : ∀ l (hl : l < 16), v (ix l hl) = if nr (b + l) then 1#32 else 0#32) :
    ∀ l (hl : l < 16), scan (d := ![16]) .sum v (ix l hl) = BitVec.ofNat 32 (Nat.count (fun i => nr (b + i)) (l + 1)) := by
  have key : ∀ m, ∀ hm : m < 16, ((List.finRange 16).filter fun k => decide (0 < k.val ∧ k.val ≤ m)).foldl
      (fun r k => r + v (ix k.val k.isLt)) (v (ix 0 (by decide))) = BitVec.ofNat 32 (Nat.count (fun i => nr (b + i)) (m + 1)) := by
    intro m
    induction m with
    | zero =>
      intro _
      rw [show ((List.finRange 16).filter fun k => decide (0 < k.val ∧ k.val ≤ 0)) = [] by decide]
      rw [List.foldl_nil, hv 0 (by decide), Nat.count_succ, Nat.count_zero]
      split <;> simp
    | succ m ih =>
      intro hm
      have hfil : ((List.finRange 16).filter fun k => decide (0 < k.val ∧ k.val ≤ m + 1))
          = ((List.finRange 16).filter fun k => decide (0 < k.val ∧ k.val ≤ m)) ++ [⟨m + 1, hm⟩] := by
        exact filter_step ⟨m, by omega⟩
      rw [hfil, List.foldl_append, ih (by omega), List.foldl_cons, List.foldl_nil, hv (m + 1) hm, Nat.count_succ _ (m + 1), BitVec.ofNat_add]
      congr 1
      split <;> rfl
  intro l hl
  exact key l hl

/-- A count over a stretch splits at any point. -/
theorem count_shift (nr : ℕ → Prop) [DecidablePred nr] (b l : ℕ) :
    Nat.count nr (b + l) = Nat.count nr b + Nat.count (fun i => nr (b + i)) l := by
  rw [Nat.count_add]

/-- Adding small counts as words, then the signed minimum against a small bound, is the minimum of the numbers. -/
theorem minsi_toNat (x B : ℕ) (hx : x < 2 ^ 31) (hB : B < 2 ^ 31) :
    (IntOp.minsi (BitVec.ofNat 32 x) (BitVec.ofNat 32 B)).toNat = min x B := by
  have h1 : (BitVec.ofNat 32 x).toInt = x := by
    rw [BitVec.toInt_eq_toNat_of_lt] <;> simp [Nat.mod_eq_of_lt (show x < 4294967296 by omega)]; omega
  have h2 : (BitVec.ofNat 32 B).toInt = B := by
    rw [BitVec.toInt_eq_toNat_of_lt] <;> simp [Nat.mod_eq_of_lt (show B < 4294967296 by omega)]; omega
  have e1 : (BitVec.ofNat 32 x).toNat = x := by simp; omega
  have e2 : (BitVec.ofNat 32 B).toNat = B := by simp; omega
  unfold IntOp.minsi
  simp only [BitVec.slt, BitVec.sle, h1, h2]
  split <;> rename_i hh <;> simp at hh <;> simp only [e1, e2] <;> omega

end Cert.Slots

end
-- ==== Proof.Model.lean ====
/-
  What one tile of the compaction leaves, as plain functions of the flat arrays it reads: a point is kept when its
  squared distance to the batch's reference point is at most the radius's square; slot `k` of a tile's six output
  rows is the `k`-th kept point's coordinate or colour, and its count is the number kept, at most 1024.
-/
module

public import proofs.«01_k».proof.Proof.Slots

@[expose] public section

noncomputable section

namespace Cert.Model

open Idealize.ShloMosaic Cert.Slots

variable {F : FTy → Type} [FloatOps F] {α : Type}

/-- Entry `k` of a flat array, read modulo its length. -/
def get {n : ℕ} [NeZero n] (X : (⟨1, ![n]⟩ : Shape).Idx → α) (k : ℕ) : α := X (ix (k % n) (Nat.mod_lt _ (Nat.pos_of_ne_zero (NeZero.ne n))))

/-- Reading a flat array below its length. -/
theorem get_lt {n : ℕ} [NeZero n] (X : (⟨1, ![n]⟩ : Shape).Idx → α) {k : ℕ} (h : k < n) : get X k = X (ix k h) := by
  unfold get; congr 1; funext a; apply Fin.ext; exact Nat.mod_eq_of_lt h

/-- The comparison bit of one point against one reference point. -/
def nearBit (a b c x y z : F .f32) : BitVec 1 :=
  FloatOps.cmpf .ole
    (FloatOps.addf (FloatOps.addf (FloatOps.mulf (FloatOps.subf x a) (FloatOps.subf x a)) (FloatOps.mulf (FloatOps.subf y b) (FloatOps.subf y b)))
      (FloatOps.mulf (FloatOps.subf z c) (FloatOps.subf z c)))
    (Scalar.ofBits (F := F) .f32 0x3DB851ED#32)

/-- The fill value. -/
def zero : F .f32 := Scalar.ofBits (F := F) .f32 0x00000000#32

/-- Channel `c` of point `p` of range `r` of batch `b`, in an array laid out batch, channel, point. -/
def px (X : Vec F ⟨1, ![393216]⟩ .f32) (b r c p : ℕ) : F .f32 := get X ((b * 3 + c) * 32768 + r * 4096 + p)

/-- Point `p` of range `r` of batch `b` is kept. -/
def nr (X : Vec F ⟨1, ![393216]⟩ .f32) (R : Vec F ⟨1, ![64]⟩ .f32) (b r p : ℕ) : Prop :=
  nearBit (F := F) (get R (b * 16)) (get R (b * 16 + 1)) (get R (b * 16 + 2)) (px X b r 0 p) (px X b r 1 p) (px X b r 2 p) = 1#1

instance (X : Vec F ⟨1, ![393216]⟩ .f32) (R : Vec F ⟨1, ![64]⟩ .f32) (b r : ℕ) : DecidablePred (nr X R b r) := fun _ => by
  unfold nr; infer_instance

/-- Output channel `ch` of a point: its three coordinates, then its three colours. -/
def pv (X G : Vec F ⟨1, ![393216]⟩ .f32) (b r ch p : ℕ) : F .f32 := if ch < 3 then px X b r ch p else px G b r (ch - 3) p

/-- Every tile's compacted rows, flat: batch, channel, range, slot. -/
def outC (X G : Vec F ⟨1, ![393216]⟩ .f32) (R : Vec F ⟨1, ![64]⟩ .f32) : Vec F ⟨1, ![196608]⟩ .f32 := fun n =>
  slot (nr X R ((n 0).val / 49152) ((n 0).val / 1024 % 8)) (pv X G ((n 0).val / 49152) ((n 0).val / 1024 % 8) ((n 0).val / 8192 % 6)) zero
    4096 ((n 0).val % 1024)

/-- Every tile's count, sixteen copies each: batch, range, lane. -/
def outN (X : Vec F ⟨1, ![393216]⟩ .f32) (R : Vec F ⟨1, ![64]⟩ .f32) : IVec ⟨1, ![512]⟩ 32 := fun n =>
  BitVec.ofNat 32 (min (Nat.count (nr X R ((n 0).val / 128) ((n 0).val / 16 % 8)) 4096) 1024)

end Cert.Model

end
-- ==== Proof.ScI.lean ====
/-
  One tile of the compaction: the subcore's task run once at a symbolic tile, the values carried in the two loops'
  invariants (the zero fill, then the sixteen-lane compaction), each copy and its wait the executor's.
-/
module

public import proofs.«01_k».proof.Defs
public import proofs.«01_k».proof.Proof.Model
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.VecWindow
public import Idealize.ShloMosaic.Lib.Tactic
public import proofs.«01_k».proof.Proof.Gen.KernelIdeal
public import proofs.«01_k».proof.Proof.Gen.KernelIdeal.Skeleton

@[expose] public section

set_option maxRecDepth 4096

noncomputable section

namespace Cert.KernelIdeal.Sc

open Cert.KernelIdeal Cert.KernelIdeal.Gen Cert.Slots Cert.Model

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## The functions of the SparseCore call name no constant: their equations over the float operations alone -/

section
variable {F : FTy → Type} [FloatOps F]
/-- The subcore's body is its skeleton. -/
theorem _root_.Cert.KernelIdeal.cc0__sc_compact_body_eq_skeleton : cc0__sc_compact_body (F := F) = cc0__sc_compact_body_skel (F := F) := rfl
/-- Part 1 of the subcore's body is its skeleton. -/
theorem _root_.Cert.KernelIdeal.k0_part1_eq_skeleton : k0_part1 (F := F) = k0_part1_skel (F := F) := rfl
/-- Part 2 of the subcore's body is its skeleton. -/
theorem _root_.Cert.KernelIdeal.k0_part2_eq_skeleton : k0_part2 (F := F) = k0_part2_skel (F := F) := rfl
/-- Part 3 of the subcore's body is its skeleton. -/
theorem _root_.Cert.KernelIdeal.k0_part3_eq_skeleton : k0_part3 (F := F) = k0_part3_skel (F := F) := rfl
/-- Part 4 of the subcore's body is its skeleton. -/
theorem _root_.Cert.KernelIdeal.k0_part4_eq_skeleton : k0_part4 (F := F) = k0_part4_skel (F := F) := rfl
/-- Part 5 of the subcore's body is its skeleton. -/
theorem _root_.Cert.KernelIdeal.k0_part5_eq_skeleton : k0_part5 (F := F) = k0_part5_skel (F := F) := rfl
end

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
/-- The call runs on all vector subcores. -/
theorem nSub_zero : (K (F := F)).nSub 0 = 16 := rfl
/-- The call runs on all SparseCores. -/
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The conditions on the call's launch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the rounds of the handshakes, those of the pipeline of the second call, the counters of the transfers -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The arrays and the tile's memrefs -/

/-- The flat coordinates, colours, reference points, rows and counts, as locations of device `d`. -/
abbrev xLoc (d : Dev nD) : Loc nD τ sig := (SparseCore.T d).loc main_v1
abbrev gLoc (d : Dev nD) : Loc nD τ sig := (SparseCore.T d).loc main_v3
abbrev rLoc (d : Dev nD) : Loc nD τ sig := (SparseCore.T d).loc main_v5
abbrev oLoc (d : Dev nD) : Loc nD τ sig := (SparseCore.T d).loc main_v6_0
abbrev nLoc (d : Dev nD) : Loc nD τ sig := (SparseCore.T d).loc main_v6_1

local notation "xV" => (Memref.whole Cert.KernelIdeal.main_v1_scv : Memref Cert.KernelIdeal.sig Kind.scVector Space.hbm Cert.KernelIdeal.S393216 EltTy.f32)
local notation "gV" => (Memref.whole Cert.KernelIdeal.main_v3_scv : Memref Cert.KernelIdeal.sig Kind.scVector Space.hbm Cert.KernelIdeal.S393216 EltTy.f32)
local notation "rV" => (Memref.whole Cert.KernelIdeal.main_v5_scv : Memref Cert.KernelIdeal.sig Kind.scVector Space.hbm Cert.KernelIdeal.S64 EltTy.f32)
local notation "oV" => (Memref.whole Cert.KernelIdeal.main_v6_0_scv : Memref Cert.KernelIdeal.sig Kind.scVector Space.hbm Cert.KernelIdeal.S196608 EltTy.f32)
local notation "nV" => (Memref.whole Cert.KernelIdeal.main_v6_1_scv : Memref Cert.KernelIdeal.sig Kind.scVector Space.hbm Cert.KernelIdeal.S512 EltTy.i32)
local notation "sI0" => (Memref.whole Cert.KernelIdeal.cc0_scratch0 : Memref Cert.KernelIdeal.sig Kind.scVector Space.vmem Cert.KernelIdeal.S4096 EltTy.f32)
local notation "sI1" => (Memref.whole Cert.KernelIdeal.cc0_scratch1 : Memref Cert.KernelIdeal.sig Kind.scVector Space.vmem Cert.KernelIdeal.S4096 EltTy.f32)
local notation "sI2" => (Memref.whole Cert.KernelIdeal.cc0_scratch2 : Memref Cert.KernelIdeal.sig Kind.scVector Space.vmem Cert.KernelIdeal.S4096 EltTy.f32)
local notation "sI3" => (Memref.whole Cert.KernelIdeal.cc0_scratch3 : Memref Cert.KernelIdeal.sig Kind.scVector Space.vmem Cert.KernelIdeal.S4096 EltTy.f32)
local notation "sI4" => (Memref.whole Cert.KernelIdeal.cc0_scratch4 : Memref Cert.KernelIdeal.sig Kind.scVector Space.vmem Cert.KernelIdeal.S4096 EltTy.f32)
local notation "sI5" => (Memref.whole Cert.KernelIdeal.cc0_scratch5 : Memref Cert.KernelIdeal.sig Kind.scVector Space.vmem Cert.KernelIdeal.S4096 EltTy.f32)
local notation "sO0" => (Memref.whole Cert.KernelIdeal.cc0_scratch6 : Memref Cert.KernelIdeal.sig Kind.scVector Space.vmem Cert.KernelIdeal.S1040 EltTy.f32)
local notation "sO1" => (Memref.whole Cert.KernelIdeal.cc0_scratch7 : Memref Cert.KernelIdeal.sig Kind.scVector Space.vmem Cert.KernelIdeal.S1040 EltTy.f32)
local notation "sO2" => (Memref.whole Cert.KernelIdeal.cc0_scratch8 : Memref Cert.KernelIdeal.sig Kind.scVector Space.vmem Cert.KernelIdeal.S1040 EltTy.f32)
local notation "sO3" => (Memref.whole Cert.KernelIdeal.cc0_scratch9 : Memref Cert.KernelIdeal.sig Kind.scVector Space.vmem Cert.KernelIdeal.S1040 EltTy.f32)
local notation "sO4" => (Memref.whole Cert.KernelIdeal.cc0_scratch10 : Memref Cert.KernelIdeal.sig Kind.scVector Space.vmem Cert.KernelIdeal.S1040 EltTy.f32)
local notation "sO5" => (Memref.whole Cert.KernelIdeal.cc0_scratch11 : Memref Cert.KernelIdeal.sig Kind.scVector Space.vmem Cert.KernelIdeal.S1040 EltTy.f32)
local notation "sR" => (Memref.whole Cert.KernelIdeal.cc0_scratch12 : Memref Cert.KernelIdeal.sig Kind.scVector Space.vmem Cert.KernelIdeal.S16 EltTy.f32)
local notation "sN" => (Memref.whole Cert.KernelIdeal.cc0_scratch13 : Memref Cert.KernelIdeal.sig Kind.scVector Space.vmem Cert.KernelIdeal.S16 EltTy.i32)

/-! ## The body's arithmetic, lane by lane -/

section Lanes

variable (X1 : Vec F S393216 .f32) (R1 : Vec F S64 .f32) (b r : ℕ)

/-- Sixteen lanes holding channel `c` of the points from `16 n`. -/
def Lane (c n : ℕ) (v : Vec F S16 .f32) : Prop := ∀ l (hl : l < 16), v (ix l hl) = px X1 b r c (16 * n + l)

/-- Sixteen lanes holding the batch's reference point. -/
def RefLane (v : Vec F S16 .f32) : Prop := ∀ l (hl : l < 16), v (ix l hl) = get R1 (b * 16 + l)

variable {X1 R1 b r} {n : ℕ} {v56 v103 v105 v107 : Vec F S16 .f32}

/-- One lane taken out of sixteen. -/
theorem ext_lane {α : Type} (w : S16.Idx → α) (o : ℕ) (ho : o < 16) (h : S16.Slices ![o] S1) :
    extractAt (s := S1) ![0] (extractStridedSlice S1 ![o] w h) inpos_S1_p0 = w (ix o ho) := by
  refine congrArg w (funext fun a => Fin.ext ?_)
  rw [Subsingleton.elim (α := Fin 1) a 0]
  rfl

/-- A lane of the mask is the nearness bit of the lane's point. -/
theorem pay2_lane (l : ℕ) (hl : l < 16) : k0_pay2 v56 v103 v105 v107 (ix l hl)
    = nearBit (v56 (ix 0 (by decide))) (v56 (ix 1 (by decide))) (v56 (ix 2 (by decide))) (v103 (ix l hl)) (v105 (ix l hl)) (v107 (ix l hl)) := by
  unfold k0_pay2
  rw [ext_lane v56 0 (by decide), ext_lane v56 1 (by decide), ext_lane v56 2 (by decide)]
  rfl

/-- A lane of the mask is one exactly where the lane's point is kept. -/
theorem pay2_nr (hR : RefLane R1 b v56) (h0 : Lane X1 b r 0 n v103) (h1 : Lane X1 b r 1 n v105) (h2 : Lane X1 b r 2 n v107) :
    ∀ l (hl : l < 16), k0_pay2 v56 v103 v105 v107 (ix l hl) = 1#1 ↔ nr X1 R1 b r (16 * n + l) := by
  intro l hl
  rw [pay2_lane, hR 0, hR 1, hR 2, h0 l hl, h1 l hl, h2 l hl]
  rfl

/-- The mask as numbers: one where the lane's point is kept, else zero. -/
theorem pay3_nr (hR : RefLane R1 b v56) (h0 : Lane X1 b r 0 n v103) (h1 : Lane X1 b r 1 n v105) (h2 : Lane X1 b r 2 n v107) :
    ∀ l (hl : l < 16), k0_pay3 v56 v103 v105 v107 (ix l hl) = if nr X1 R1 b r (16 * n + l) then 1#32 else 0#32 := by
  intro l hl
  have e := pay2_nr hR h0 h1 h2 l hl
  have hb : ∀ x : BitVec 1, x.setWidth 32 = if x = 1#1 then 1#32 else 0#32 := by decide
  change (k0_pay2 v56 v103 v105 v107 (ix l hl)).setWidth 32 = _
  rw [hb]
  simp only [e]

/-- The running count within a vector. -/
theorem pay4_nr (hR : RefLane R1 b v56) (h0 : Lane X1 b r 0 n v103) (h1 : Lane X1 b r 1 n v105) (h2 : Lane X1 b r 2 n v107) :
    ∀ l (hl : l < 16), k0_pay4 v56 v103 v105 v107 (ix l hl) = BitVec.ofNat 32 (Nat.count (fun i => nr X1 R1 b r (16 * n + i)) (l + 1)) :=
  scan_count (nr X1 R1 b r) (16 * n) _ (pay3_nr hR h0 h1 h2)

/-- A kept lane's destination is the number of points kept before it, clamped at the last spare word. -/
theorem pay5_nr (hR : RefLane R1 b v56) (h0 : Lane X1 b r 0 n v103) (h1 : Lane X1 b r 1 n v105) (h2 : Lane X1 b r 2 n v107)
    (hn : n ≤ 4096) {off : BitVec 32} (ho : off = BitVec.ofNat 32 (Nat.count (nr X1 R1 b r) (16 * n))) :
    ∀ l (hl : l < 16), (k0_pay5 v56 off v103 v105 v107 (ix l hl)).toNat = min (Nat.count (nr X1 R1 b r) (16 * n + l)) 1039 := by
  intro l hl
  change (IntOp.minsi (off + (k0_pay4 v56 v103 v105 v107 (ix l hl) - k0_pay3 v56 v103 v105 v107 (ix l hl))) (BitVec.ofNat 32 1039)).toNat = _
  have hc : Nat.count (nr X1 R1 b r) (16 * n + l) ≤ 16 * n + l := Nat.count_le _
  rw [pay4_nr hR h0 h1 h2, pay3_nr hR h0 h1 h2, Nat.count_succ, ho]
  have e : BitVec.ofNat 32 (Nat.count (fun i => nr X1 R1 b r (16 * n + i)) l + if nr X1 R1 b r (16 * n + l) then 1 else 0)
      - (if nr X1 R1 b r (16 * n + l) then 1#32 else 0#32) = BitVec.ofNat 32 (Nat.count (fun i => nr X1 R1 b r (16 * n + i)) l) := by
    rw [BitVec.ofNat_add]
    split <;> exact BitVec.add_sub_cancel _ _
  rw [e, ← BitVec.ofNat_add, ← count_shift, minsi_toNat _ _ (by omega) (by norm_num)]

/-- The offset after a vector is the number of points kept so far. -/
theorem off_succ (hR : RefLane R1 b v56) (h0 : Lane X1 b r 0 n v103) (h1 : Lane X1 b r 1 n v105) (h2 : Lane X1 b r 2 n v107)
    {off : BitVec 32} (ho : off = BitVec.ofNat 32 (Nat.count (nr X1 R1 b r) (16 * n))) :
    Scalar.addi off (extractAt ![0] (k0_pay6 v56 v103 v105 v107) inpos_S1_p0) = BitVec.ofNat 32 (Nat.count (nr X1 R1 b r) (16 * (n + 1))) := by
  have e : extractAt ![0] (k0_pay6 v56 v103 v105 v107) inpos_S1_p0 = k0_pay4 v56 v103 v105 v107 (ix 15 (by decide)) := by
    exact ext_lane (k0_pay4 v56 v103 v105 v107) 15 (by decide) slices_S16_o15_S1
  rw [e, pay4_nr hR h0 h1 h2, ho]
  change _ + _ = _
  rw [← BitVec.ofNat_add, ← count_shift, Nat.mul_add]

/-- The six stores' side condition: every destination is inside. -/
theorem chk1 (v : IVec S16 32) (h : ∀ l (hl : l < 16), (v (ix l hl)).toNat < 1040) : k0_chk1 v := by
  have e : ∀ a x, ((![v] : Fin S1040.rank → IVec S16 32) a x).toNat < S1040.size a := by
    intro a x
    have ha : a = 0 := Subsingleton.elim (α := Fin 1) a 0
    subst ha
    change (v x).toNat < 1040
    rw [ix_ext x]
    exact h _ _
  exact ⟨e, e, e, e, e, e⟩

end Lanes

section Tile

variable (X G : Dev nD → Vec F S393216 .f32) (R : Dev nD → Vec F S64 .f32) (d : Dev nD) (L : grid0.Coords)

abbrev cV (L : grid0.Coords) : Fin τ.nSC := (L 0).castLE hcore0
abbrev jV (L : grid0.Coords) : Fin τ.nSub := (L 1).castLE hsub0
/-- The grid's first axis has the two SparseCores. -/
theorem bound_zero : grid0.bound 0 = 2 := rfl
/-- The grid's second axis has the sixteen subcores. -/
theorem bound_one : grid0.bound 1 = 16 := rfl
/-- The tile's place among the thirty-two: its batch is the place over eight, its range the place modulo eight. -/
abbrev wk (L : grid0.Coords) : ℕ := 2 * (L 1).val + (L 0).val
abbrev bk (L : grid0.Coords) : ℕ := wk L / 8
abbrev rk (L : grid0.Coords) : ℕ := wk L % 8
/-- There are 32 workers. -/
theorem wk_lt (L : grid0.Coords) : wk L < 32 := by
  have h0 : (L 0).val < 2 := (L 0).isLt
  have h1 : (L 1).val < 16 := (L 1).isLt
  unfold wk; omega

/-- Where a worker reads its reference point. -/
theorem off1_eq : ∀ L : grid0.Coords, k0_off1 L = ![bk L * 16] := by decide +kernel
/-- Where a worker reads a channel of its run. -/
theorem off2_eq : ∀ (L : grid0.Coords) (c : Fin 3), k0_off2 L (BitVec.ofNat 32 c.val) = ![(bk L * 3 + c.val) * 32768 + rk L * 4096] := by decide +kernel
/-- Where a worker writes a compacted channel. -/
theorem off6_eq : ∀ (L : grid0.Coords) (c : Fin 6), k0_off6 L (BitVec.ofNat 32 c.val) = ![bk L * 49152 + c.val * 8192 + rk L * 1024] := by decide +kernel
/-- Where a worker writes its count. -/
theorem off7_eq : ∀ L : grid0.Coords, k0_off7 L = ![bk L * 128 + rk L * 16] := by decide +kernel

/-- Row `ch` of the tile's output, and its count, as the body slices them. -/
abbrev oRect (ch : Fin 6) : Rect S196608 := Rect.unit (s := S196608) (k0_off6 L (BitVec.ofNat 32 ch.val)) S1024.size (k0_off6_inb L ch)
abbrev oSl (ch : Fin 6) : Memref sig .scVector .hbm S1024 .f32 := (oV).slice (oRect L ch) (fun _ => rfl)
abbrev nRect : Rect S512 := Rect.unit (s := S512) (k0_off7 L) S16.size (k0_off7_inb L)
abbrev nSl : Memref sig .scVector .hbm S16 .i32 := (nV).slice (nRect L) (fun _ => rfl)

abbrev thr : Thread nD τ := V d (cV L) (jV L)

abbrev oPc (ch : Fin 6) (f : Buf (Elt F) (oLoc d)) : sProp 𝕄 := oLoc d ↦[(oSl L ch).view.set]{fullShare} f
abbrev nPc (f : Buf (Elt F) (nLoc d)) : sProp 𝕄 := nLoc d ↦[(nSl L).view.set]{fullShare} f

/-- The coordinates, seen from a subcore, are the coordinates of the device. -/
theorem pts_x (q : PosShare TreeShare) (f : Buf (Elt F) (xLoc d)) : ((xV).view.loc (V d (cV L) (jV L)) ↦{q} f : sProp 𝕄) = xLoc d ↦{q} f := rfl
/-- The colours, seen from a subcore, are the colours of the device. -/
theorem pts_g (q : PosShare TreeShare) (f : Buf (Elt F) (gLoc d)) : ((gV).view.loc (V d (cV L) (jV L)) ↦{q} f : sProp 𝕄) = gLoc d ↦{q} f := rfl
/-- The reference points, seen from a subcore, are those of the device. -/
theorem pts_r (q : PosShare TreeShare) (f : Buf (Elt F) (rLoc d)) : ((rV).view.loc (V d (cV L) (jV L)) ↦{q} f : sProp 𝕄) = rLoc d ↦{q} f := rfl
/-- A worker's part of a compacted channel, as the program slices it. -/
theorem pts_oPc (ch : Fin 6) (f : Buf (Elt F) (oLoc d)) : ((oSl L ch).view.loc (V d (cV L) (jV L)) ↦[(oSl L ch).view.set]{fullShare} f : sProp 𝕄) = oPc d L ch f := rfl
/-- A worker's part of the counts, as the program slices it. -/
theorem pts_nPc (f : Buf (Elt F) (nLoc d)) : ((nSl L).view.loc (V d (cV L) (jV L)) ↦[(nSl L).view.set]{fullShare} f : sProp 𝕄) = nPc d L f := rfl
/-- The scratch for the run's x channel, as a buffer of the subcore. -/
theorem pts_sI0 (f : Buf (Elt F) ((V d (cV L) (jV L)).loc cc0_scratch0)) :
    ((sI0).view.loc (V d (cV L) (jV L)) ↦{fullShare} f : sProp 𝕄) = (V d (cV L) (jV L)).loc cc0_scratch0 ↦{fullShare} f := rfl
/-- The scratch for the run's y channel, as a buffer of the subcore. -/
theorem pts_sI1 (f : Buf (Elt F) ((V d (cV L) (jV L)).loc cc0_scratch1)) :
    ((sI1).view.loc (V d (cV L) (jV L)) ↦{fullShare} f : sProp 𝕄) = (V d (cV L) (jV L)).loc cc0_scratch1 ↦{fullShare} f := rfl
/-- The scratch for the run's z channel, as a buffer of the subcore. -/
theorem pts_sI2 (f : Buf (Elt F) ((V d (cV L) (jV L)).loc cc0_scratch2)) :
    ((sI2).view.loc (V d (cV L) (jV L)) ↦{fullShare} f : sProp 𝕄) = (V d (cV L) (jV L)).loc cc0_scratch2 ↦{fullShare} f := rfl
/-- The scratch for the run's red channel, as a buffer of the subcore. -/
theorem pts_sI3 (f : Buf (Elt F) ((V d (cV L) (jV L)).loc cc0_scratch3)) :
    ((sI3).view.loc (V d (cV L) (jV L)) ↦{fullShare} f : sProp 𝕄) = (V d (cV L) (jV L)).loc cc0_scratch3 ↦{fullShare} f := rfl
/-- The scratch for the run's green channel, as a buffer of the subcore. -/
theorem pts_sI4 (f : Buf (Elt F) ((V d (cV L) (jV L)).loc cc0_scratch4)) :
    ((sI4).view.loc (V d (cV L) (jV L)) ↦{fullShare} f : sProp 𝕄) = (V d (cV L) (jV L)).loc cc0_scratch4 ↦{fullShare} f := rfl
/-- The scratch for the run's blue channel, as a buffer of the subcore. -/
theorem pts_sI5 (f : Buf (Elt F) ((V d (cV L) (jV L)).loc cc0_scratch5)) :
    ((sI5).view.loc (V d (cV L) (jV L)) ↦{fullShare} f : sProp 𝕄) = (V d (cV L) (jV L)).loc cc0_scratch5 ↦{fullShare} f := rfl
/-- The scratch for the compacted x channel, as a buffer of the subcore. -/
theorem pts_sO0 (f : Buf (Elt F) ((V d (cV L) (jV L)).loc cc0_scratch6)) :
    ((sO0).view.loc (V d (cV L) (jV L)) ↦{fullShare} f : sProp 𝕄) = (V d (cV L) (jV L)).loc cc0_scratch6 ↦{fullShare} f := rfl
/-- The scratch for the compacted y channel, as a buffer of the subcore. -/
theorem pts_sO1 (f : Buf (Elt F) ((V d (cV L) (jV L)).loc cc0_scratch7)) :
    ((sO1).view.loc (V d (cV L) (jV L)) ↦{fullShare} f : sProp 𝕄) = (V d (cV L) (jV L)).loc cc0_scratch7 ↦{fullShare} f := rfl
/-- The scratch for the compacted z channel, as a buffer of the subcore. -/
theorem pts_sO2 (f : Buf (Elt F) ((V d (cV L) (jV L)).loc cc0_scratch8)) :
    ((sO2).view.loc (V d (cV L) (jV L)) ↦{fullShare} f : sProp 𝕄) = (V d (cV L) (jV L)).loc cc0_scratch8 ↦{fullShare} f := rfl
/-- The scratch for the compacted red channel, as a buffer of the subcore. -/
theorem pts_sO3 (f : Buf (Elt F) ((V d (cV L) (jV L)).loc cc0_scratch9)) :
    ((sO3).view.loc (V d (cV L) (jV L)) ↦{fullShare} f : sProp 𝕄) = (V d (cV L) (jV L)).loc cc0_scratch9 ↦{fullShare} f := rfl
/-- The scratch for the compacted green channel, as a buffer of the subcore. -/
theorem pts_sO4 (f : Buf (Elt F) ((V d (cV L) (jV L)).loc cc0_scratch10)) :
    ((sO4).view.loc (V d (cV L) (jV L)) ↦{fullShare} f : sProp 𝕄) = (V d (cV L) (jV L)).loc cc0_scratch10 ↦{fullShare} f := rfl
/-- The scratch for the compacted blue channel, as a buffer of the subcore. -/
theorem pts_sO5 (f : Buf (Elt F) ((V d (cV L) (jV L)).loc cc0_scratch11)) :
    ((sO5).view.loc (V d (cV L) (jV L)) ↦{fullShare} f : sProp 𝕄) = (V d (cV L) (jV L)).loc cc0_scratch11 ↦{fullShare} f := rfl
/-- The scratch for the reference point, as a buffer of the subcore. -/
theorem pts_sR (f : Buf (Elt F) ((V d (cV L) (jV L)).loc cc0_scratch12)) :
    ((sR).view.loc (V d (cV L) (jV L)) ↦{fullShare} f : sProp 𝕄) = (V d (cV L) (jV L)).loc cc0_scratch12 ↦{fullShare} f := rfl
/-- The scratch for the count, as a buffer of the subcore. -/
theorem pts_sN (f : Buf (Elt F) ((V d (cV L) (jV L)).loc cc0_scratch13)) :
    ((sN).view.loc (V d (cV L) (jV L)) ↦{fullShare} f : sProp 𝕄) = (V d (cV L) (jV L)).loc cc0_scratch13 ↦{fullShare} f := rfl

/-- The fourteen scoped cells the body names. -/
abbrev cell (d : Dev nD) (c : Fin τ.nSC) (i : Fin τ.nSub) (s : DmaSem sig) : GSem nD τ sig := (V d c i, .dma s)

/-- Different semaphores of a subcore have different counters. -/
theorem cell_ne (c : Fin τ.nSC) (i : Fin τ.nSub) {s t : DmaSem sig} (h : s ≠ t) : cell d c i s ≠ cell d c i t :=
  fun e => h (SemLoc.dma.inj (congrArg Prod.snd e))

/-- Taking out of a product, one after another, the members a list names. -/
theorem bigSep_eraseList {I : Type} [DecidableEq I] (Φ : I → sProp 𝕄) : ∀ (l : List I) (s : Finset I), l.Nodup → (∀ i ∈ l, i ∈ s) →
    bigSep s Φ = l.foldr (fun i p => iprop(Φ i ∗ p)) (bigSep (l.foldl (fun s i => s.erase i) s) Φ)
  | [], s, _, _ => rfl
  | i :: l, s, hn, hm => by
    rw [List.foldr_cons, List.foldl_cons, SparseCore.bigSep_erase' (hm i List.mem_cons_self),
      bigSep_eraseList Φ l (s.erase i) (List.nodup_cons.1 hn).2 fun j hj =>
        Finset.mem_erase.mpr ⟨fun e => (List.nodup_cons.1 hn).1 (e ▸ hj), hm j (List.mem_cons_of_mem _ hj)⟩]

abbrev semList : List (DmaSem sig) := [cc0_scoped0.sem, cc0_scoped1.sem, cc0_scoped2.sem, cc0_scoped3.sem, cc0_scoped4.sem, cc0_scoped5.sem, cc0_scoped6.sem, cc0_scoped7.sem, cc0_scoped8.sem, cc0_scoped9.sem, cc0_scoped10.sem, cc0_scoped11.sem, cc0_scoped12.sem, cc0_scoped13.sem]
abbrev refList : List (Ref sig .scVector) := [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13]

/-- The copies' semaphores belong to the subcore. -/
theorem semList_scoped : ∀ s ∈ semList, (SemLoc.dma s : SemLoc sig).isScoped .scVector = true := by decide
/-- The scratch buffers are different from each other. -/
theorem refList_nodup : refList.Nodup := by decide

/-- A subcore's counters at zero: the copies' ones, one by one, and the rest. -/
theorem ownSems0_V :
    (ownSems0 (V d (cV L) (jV L)) : sProp 𝕄)
      = (semList.map (cell d (cV L) (jV L))).foldr (fun g p => iprop(semVal g 0 ∗ p))
          (bigSep ((semList.map (cell d (cV L) (jV L))).foldl (fun s i => s.erase i) (ownCells (V d (cV L) (jV L)))) fun g => semVal g 0) := by
  unfold SparseCore.Cfg.ownSems0
  refine bigSep_eraseList _ _ _ (List.Nodup.map (fun s t e => SemLoc.dma.inj (congrArg Prod.snd e)) (by decide)) fun g hg => ?_
  obtain ⟨s, hs, rfl⟩ := List.mem_map.1 hg
  refine (mem_ownCells (g := cell d (cV L) (jV L) s)).mpr ⟨rfl, ?_⟩
  show (SemLoc.dma s : SemLoc sig).isScoped .scVector = true
  exact semList_scoped s hs

/-- A subcore's buffers: the scratch buffers, one by one, and the rest. -/
theorem ownBufs_V :
    (ownBufs (V d (cV L) (jV L)) : sProp 𝕄)
      = (refList.map (Proc.scVector (cV L) (jV L)).devRef).foldr (fun b p => iprop((∃ f, ((d, b) : Loc nD τ sig) ↦{fullShare} f) ∗ p))
          (bigSep ((refList.map (Proc.scVector (cV L) (jV L)).devRef).foldl (fun s i => s.erase i) (ownRefs (τ := τ) (.scVector (cV L) (jV L))))
            fun b => iprop(∃ f, ((d, b) : Loc nD τ sig) ↦{fullShare} f)) := by
  unfold SparseCore.Cfg.ownBufs
  refine bigSep_eraseList _ _ _ (List.Nodup.map (Proc.devRef_injective _) refList_nodup) fun b hb => ?_
  obtain ⟨s, hs, rfl⟩ := List.mem_map.1 hb
  refine SparseCore.Cfg.mem_ownRefs_of_owner (p := Proc.scVector (cV L) (jV L)) ?_
  simp only [refList, List.mem_cons, List.not_mem_nil, _root_.or_false] at hs
  rcases hs with rfl | rfl | rfl | rfl | rfl | rfl | rfl | rfl | rfl | rfl | rfl | rfl | rfl | rfl <;> rfl

abbrev goP (q : PosShare TreeShare) (fo : Buf (Elt F) (oLoc d)) (fn : Buf (Elt F) (nLoc d)) : sProp 𝕄 :=
  iprop((xLoc d ↦{q} X d) ∗ (gLoc d ↦{q} G d) ∗ (rLoc d ↦{q} R d) ∗ (oPc d L 0 (fo) ∗ oPc d L 1 (fo) ∗ oPc d L 2 (fo) ∗ oPc d L 3 (fo) ∗ oPc d L 4 (fo) ∗ oPc d L 5 (fo)) ∗ nPc d L fn)

/-- A slot buffer's first `16 n` entries hold the fill. -/
def zeroed (n : ℕ) (f : Vec F S1040 .f32) : Prop := ∀ k (hk : k < 1040), k < 16 * n → f (ix k hk) = zero

/-! One masked store of sixteen lanes into each slot buffer. -/

/-- A scattered store into the compacted x channel. -/
theorem st_0 (f : Vec F S1040 .f32) {idxs : Fin S1040.rank → IVec S16 32} {v : Vec F S16 .f32} {mask : IVec S16 1} {h : ∀ a x, (idxs a x).toNat < S1040.size a}
    {hs : ((sO0).access (.whole S1040)).Stores Finset.univ} {α : Type}
    {k : PUnit → Prog (TpuEff nD τ sig (Elt F) Λ₀ (.scVector (cV L) (jV L))) α} {Q : α → sProp 𝕄} :
    ((sO0).view.loc (V d (cV L) (jV L)) ↦{fullShare} f : sProp 𝕄)
      ⊢ iprop((((sO0).view.loc (V d (cV L) (jV L)) ↦{fullShare} (storeIdx (F := F) (e := .f32) f idxs v mask false h))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (sO0) idxs v mask false h hs >>= k) Q) := by
  have := SparseCore.wp_vectorStoreIdx (defs := defs₀ (F := F)) 𝒱₀ (V d (cV L) (jV L)) none Set.univ (Q := Q) (base := sO0) (idxs := idxs) (v := v) (mask := mask)
    (add := false) (h := h) (hs := hs) (k := k) (f := f)
  simp only [Memref.set_access_whole, Memref.read_access_whole, Memref.write_access_whole_univ] at this
  exact this

/-- A scattered store into the compacted y channel. -/
theorem st_1 (f : Vec F S1040 .f32) {idxs : Fin S1040.rank → IVec S16 32} {v : Vec F S16 .f32} {mask : IVec S16 1} {h : ∀ a x, (idxs a x).toNat < S1040.size a}
    {hs : ((sO1).access (.whole S1040)).Stores Finset.univ} {α : Type}
    {k : PUnit → Prog (TpuEff nD τ sig (Elt F) Λ₀ (.scVector (cV L) (jV L))) α} {Q : α → sProp 𝕄} :
    ((sO1).view.loc (V d (cV L) (jV L)) ↦{fullShare} f : sProp 𝕄)
      ⊢ iprop((((sO1).view.loc (V d (cV L) (jV L)) ↦{fullShare} (storeIdx (F := F) (e := .f32) f idxs v mask false h))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (sO1) idxs v mask false h hs >>= k) Q) := by
  have := SparseCore.wp_vectorStoreIdx (defs := defs₀ (F := F)) 𝒱₀ (V d (cV L) (jV L)) none Set.univ (Q := Q) (base := sO1) (idxs := idxs) (v := v) (mask := mask)
    (add := false) (h := h) (hs := hs) (k := k) (f := f)
  simp only [Memref.set_access_whole, Memref.read_access_whole, Memref.write_access_whole_univ] at this
  exact this

/-- A scattered store into the compacted z channel. -/
theorem st_2 (f : Vec F S1040 .f32) {idxs : Fin S1040.rank → IVec S16 32} {v : Vec F S16 .f32} {mask : IVec S16 1} {h : ∀ a x, (idxs a x).toNat < S1040.size a}
    {hs : ((sO2).access (.whole S1040)).Stores Finset.univ} {α : Type}
    {k : PUnit → Prog (TpuEff nD τ sig (Elt F) Λ₀ (.scVector (cV L) (jV L))) α} {Q : α → sProp 𝕄} :
    ((sO2).view.loc (V d (cV L) (jV L)) ↦{fullShare} f : sProp 𝕄)
      ⊢ iprop((((sO2).view.loc (V d (cV L) (jV L)) ↦{fullShare} (storeIdx (F := F) (e := .f32) f idxs v mask false h))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (sO2) idxs v mask false h hs >>= k) Q) := by
  have := SparseCore.wp_vectorStoreIdx (defs := defs₀ (F := F)) 𝒱₀ (V d (cV L) (jV L)) none Set.univ (Q := Q) (base := sO2) (idxs := idxs) (v := v) (mask := mask)
    (add := false) (h := h) (hs := hs) (k := k) (f := f)
  simp only [Memref.set_access_whole, Memref.read_access_whole, Memref.write_access_whole_univ] at this
  exact this

/-- A scattered store into the compacted red channel. -/
theorem st_3 (f : Vec F S1040 .f32) {idxs : Fin S1040.rank → IVec S16 32} {v : Vec F S16 .f32} {mask : IVec S16 1} {h : ∀ a x, (idxs a x).toNat < S1040.size a}
    {hs : ((sO3).access (.whole S1040)).Stores Finset.univ} {α : Type}
    {k : PUnit → Prog (TpuEff nD τ sig (Elt F) Λ₀ (.scVector (cV L) (jV L))) α} {Q : α → sProp 𝕄} :
    ((sO3).view.loc (V d (cV L) (jV L)) ↦{fullShare} f : sProp 𝕄)
      ⊢ iprop((((sO3).view.loc (V d (cV L) (jV L)) ↦{fullShare} (storeIdx (F := F) (e := .f32) f idxs v mask false h))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (sO3) idxs v mask false h hs >>= k) Q) := by
  have := SparseCore.wp_vectorStoreIdx (defs := defs₀ (F := F)) 𝒱₀ (V d (cV L) (jV L)) none Set.univ (Q := Q) (base := sO3) (idxs := idxs) (v := v) (mask := mask)
    (add := false) (h := h) (hs := hs) (k := k) (f := f)
  simp only [Memref.set_access_whole, Memref.read_access_whole, Memref.write_access_whole_univ] at this
  exact this

/-- A scattered store into the compacted green channel. -/
theorem st_4 (f : Vec F S1040 .f32) {idxs : Fin S1040.rank → IVec S16 32} {v : Vec F S16 .f32} {mask : IVec S16 1} {h : ∀ a x, (idxs a x).toNat < S1040.size a}
    {hs : ((sO4).access (.whole S1040)).Stores Finset.univ} {α : Type}
    {k : PUnit → Prog (TpuEff nD τ sig (Elt F) Λ₀ (.scVector (cV L) (jV L))) α} {Q : α → sProp 𝕄} :
    ((sO4).view.loc (V d (cV L) (jV L)) ↦{fullShare} f : sProp 𝕄)
      ⊢ iprop((((sO4).view.loc (V d (cV L) (jV L)) ↦{fullShare} (storeIdx (F := F) (e := .f32) f idxs v mask false h))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (sO4) idxs v mask false h hs >>= k) Q) := by
  have := SparseCore.wp_vectorStoreIdx (defs := defs₀ (F := F)) 𝒱₀ (V d (cV L) (jV L)) none Set.univ (Q := Q) (base := sO4) (idxs := idxs) (v := v) (mask := mask)
    (add := false) (h := h) (hs := hs) (k := k) (f := f)
  simp only [Memref.set_access_whole, Memref.read_access_whole, Memref.write_access_whole_univ] at this
  exact this

/-- A scattered store into the compacted blue channel. -/
theorem st_5 (f : Vec F S1040 .f32) {idxs : Fin S1040.rank → IVec S16 32} {v : Vec F S16 .f32} {mask : IVec S16 1} {h : ∀ a x, (idxs a x).toNat < S1040.size a}
    {hs : ((sO5).access (.whole S1040)).Stores Finset.univ} {α : Type}
    {k : PUnit → Prog (TpuEff nD τ sig (Elt F) Λ₀ (.scVector (cV L) (jV L))) α} {Q : α → sProp 𝕄} :
    ((sO5).view.loc (V d (cV L) (jV L)) ↦{fullShare} f : sProp 𝕄)
      ⊢ iprop((((sO5).view.loc (V d (cV L) (jV L)) ↦{fullShare} (storeIdx (F := F) (e := .f32) f idxs v mask false h))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (sO5) idxs v mask false h hs >>= k) Q) := by
  have := SparseCore.wp_vectorStoreIdx (defs := defs₀ (F := F)) 𝒱₀ (V d (cV L) (jV L)) none Set.univ (Q := Q) (base := sO5) (idxs := idxs) (v := v) (mask := mask)
    (add := false) (h := h) (hs := hs) (k := k) (f := f)
  simp only [Memref.set_access_whole, Memref.read_access_whole, Memref.write_access_whole_univ] at this
  exact this

/-- The zero fill's invariant. -/
def inv1 (n : ℕ) (_ : PUnit) : sProp 𝕄 :=
  iprop((∃ f : Vec F S1040 .f32, ⌜zeroed n f⌝ ∗ (sO0).view.loc (V d (cV L) (jV L)) ↦{fullShare} f)
    ∗ (∃ f : Vec F S1040 .f32, ⌜zeroed n f⌝ ∗ (sO1).view.loc (V d (cV L) (jV L)) ↦{fullShare} f)
    ∗ (∃ f : Vec F S1040 .f32, ⌜zeroed n f⌝ ∗ (sO2).view.loc (V d (cV L) (jV L)) ↦{fullShare} f)
    ∗ (∃ f : Vec F S1040 .f32, ⌜zeroed n f⌝ ∗ (sO3).view.loc (V d (cV L) (jV L)) ↦{fullShare} f)
    ∗ (∃ f : Vec F S1040 .f32, ⌜zeroed n f⌝ ∗ (sO4).view.loc (V d (cV L) (jV L)) ↦{fullShare} f)
    ∗ (∃ f : Vec F S1040 .f32, ⌜zeroed n f⌝ ∗ (sO5).view.loc (V d (cV L) (jV L)) ↦{fullShare} f))

/-- One vector of the fill stored at its place extends the filled part. -/
theorem zeroed_step (v : View sig .scVector .vmem S1040 .f32) (k : Fin k0_t1_loop.trips) (g : v.ty.Contents (Elt F))
    (h : zeroed k.val (v.read (Elt F) g)) :
    zeroed (k.val + 1) (v.read (Elt F) (v.writes (Elt F) g [⟨Rect.unit (k0_off3 k) S16.size (k0_off3_inb k), k0_pay1⟩])) := by
  intro j hj hlt
  by_cases hk : j < 16 * k.val
  · rw [View.read_writes_cons_unit_of_not_mem v g _ _ _ _ (k0_off3_eq k) 0 (Or.inl hk)]
    exact h j hj hk
  · exact View.read_writes_cons_unit_of_mem v g _ _ _ _ (ix (n := 16) (j - 16 * k.val) (by omega)) (k0_off3_eq k) fun a => by
      rw [Subsingleton.elim (α := Fin 1) a 0]
      change j = 16 * k.val + (j - 16 * k.val)
      omega

/-- A slot buffer's entries below the clamp after the first `16 n` points. -/
def slots (ch n : ℕ) (f : Vec F S1040 .f32) : Prop :=
  ∀ k (hk : k < 1040), k < 1039 → f (ix k hk) = slot (nr (X d) (R d) (bk L) (rk L)) (pv (X d) (G d) (bk L) (rk L) ch) zero (16 * n) k

/-- An input buffer holding channel `c` of the tile's points. -/
def inp (Y : Vec F S393216 .f32) (c : ℕ) (f : Vec F S4096 .f32) : Prop := ∀ p (hp : p < 4096), f (ix p hp) = px Y (bk L) (rk L) c p

/-- The compaction's invariant. -/
def inv2 (n : ℕ) (off : BitVec 32) : sProp 𝕄 :=
  iprop(⌜off = BitVec.ofNat 32 (Nat.count (nr (X d) (R d) (bk L) (rk L)) (16 * n))⌝
    ∗ (∃ f : Vec F S4096 .f32, ⌜inp L (X d) 0 f⌝ ∗ (sI0).view.loc (V d (cV L) (jV L)) ↦{fullShare} f)
    ∗ (∃ f : Vec F S4096 .f32, ⌜inp L (X d) 1 f⌝ ∗ (sI1).view.loc (V d (cV L) (jV L)) ↦{fullShare} f)
    ∗ (∃ f : Vec F S4096 .f32, ⌜inp L (X d) 2 f⌝ ∗ (sI2).view.loc (V d (cV L) (jV L)) ↦{fullShare} f)
    ∗ (∃ f : Vec F S4096 .f32, ⌜inp L (G d) 0 f⌝ ∗ (sI3).view.loc (V d (cV L) (jV L)) ↦{fullShare} f)
    ∗ (∃ f : Vec F S4096 .f32, ⌜inp L (G d) 1 f⌝ ∗ (sI4).view.loc (V d (cV L) (jV L)) ↦{fullShare} f)
    ∗ (∃ f : Vec F S4096 .f32, ⌜inp L (G d) 2 f⌝ ∗ (sI5).view.loc (V d (cV L) (jV L)) ↦{fullShare} f)
    ∗ (∃ f : Vec F S1040 .f32, ⌜slots X G R d L 0 n f⌝ ∗ (sO0).view.loc (V d (cV L) (jV L)) ↦{fullShare} f)
    ∗ (∃ f : Vec F S1040 .f32, ⌜slots X G R d L 1 n f⌝ ∗ (sO1).view.loc (V d (cV L) (jV L)) ↦{fullShare} f)
    ∗ (∃ f : Vec F S1040 .f32, ⌜slots X G R d L 2 n f⌝ ∗ (sO2).view.loc (V d (cV L) (jV L)) ↦{fullShare} f)
    ∗ (∃ f : Vec F S1040 .f32, ⌜slots X G R d L 3 n f⌝ ∗ (sO3).view.loc (V d (cV L) (jV L)) ↦{fullShare} f)
    ∗ (∃ f : Vec F S1040 .f32, ⌜slots X G R d L 4 n f⌝ ∗ (sO4).view.loc (V d (cV L) (jV L)) ↦{fullShare} f)
    ∗ (∃ f : Vec F S1040 .f32, ⌜slots X G R d L 5 n f⌝ ∗ (sO5).view.loc (V d (cV L) (jV L)) ↦{fullShare} f))

/-- What one of the tile's six input copies delivers. -/
theorem inp_slice (Y : Vec F S393216 .f32) (v : View sig .scVector .hbm S393216 .f32) (g : v.ty.Contents (Elt F)) (hg : v.read (Elt F) g = Y) (c : Fin 3) :
    inp L Y c.val ((v.slice (Rect.unit (s := S393216) (k0_off2 L (BitVec.ofNat 32 c.val)) S4096.size (k0_off2_inb L c))).read (Elt F) g) := by
  intro p hp
  subst hg
  have hb : bk L < 4 := by have := wk_lt L; unfold bk; omega
  have hr : rk L < 8 := Nat.mod_lt _ (by decide)
  have hc := c.isLt
  unfold px
  rw [get_lt _ (show (bk L * 3 + c.val) * 32768 + rk L * 4096 + p < 393216 by omega)]
  refine congrArg (v.read (Elt F) g) (funext fun a => Fin.ext ?_)
  rw [Subsingleton.elim (α := Fin 1) a 0]
  change k0_off2 L (BitVec.ofNat 32 c.val) 0 + 1 * p = _
  rw [off2_eq]
  change (bk L * 3 + c.val) * 32768 + rk L * 4096 + 1 * p = (bk L * 3 + c.val) * 32768 + rk L * 4096 + p
  omega

/-- What the reference point's copy delivers. -/
theorem ref_slice (v : View sig .scVector .hbm S64 .f32) (g : v.ty.Contents (Elt F)) (hg : v.read (Elt F) g = R d) :
    RefLane (R d) (bk L) ((v.slice (Rect.unit (s := S64) (k0_off1 L) S16.size (k0_off1_inb L))).read (Elt F) g) := by
  intro p hp
  rw [← hg]
  have hb : bk L < 4 := by have := wk_lt L; unfold bk; omega
  rw [get_lt _ (show bk L * 16 + p < 64 by omega)]
  refine congrArg (v.read (Elt F) g) (funext fun a => Fin.ext ?_)
  rw [Subsingleton.elim (α := Fin 1) a 0]
  change k0_off1 L 0 + 1 * p = _
  rw [off1_eq]
  change bk L * 16 + 1 * p = bk L * 16 + p
  omega

/-- A buffer overwritten by a copied run holds that run. -/
theorem inp_copy (Y : Vec F S393216 .f32) (c : ℕ) (v : View sig .scVector .vmem S4096 .f32) (f : v.ty.Contents (Elt F)) (w : Vec F S4096 .f32)
    (h : inp L Y c w) : inp L Y c (v.read (Elt F) (v.write (Elt F) f w Finset.univ)) := by
  rw [View.read_write_univ]; exact h
/-- The run's x channel is read as it is held. -/
theorem rd_0 (f : Vec F S4096 .f32) : (sI0).view.read (Elt F) f = f := rfl
/-- The run's y channel is read as it is held. -/
theorem rd_1 (f : Vec F S4096 .f32) : (sI1).view.read (Elt F) f = f := rfl
/-- The run's z channel is read as it is held. -/
theorem rd_2 (f : Vec F S4096 .f32) : (sI2).view.read (Elt F) f = f := rfl
/-- The run's red channel is read as it is held. -/
theorem rd_3 (f : Vec F S4096 .f32) : (sI3).view.read (Elt F) f = f := rfl
/-- The run's green channel is read as it is held. -/
theorem rd_4 (f : Vec F S4096 .f32) : (sI4).view.read (Elt F) f = f := rfl
/-- The run's blue channel is read as it is held. -/
theorem rd_5 (f : Vec F S4096 .f32) : (sI5).view.read (Elt F) f = f := rfl

/-- The filling loop runs 65 times. -/
theorem t1_trips : Scf.trips k0_t1_loop.lb k0_t1_loop.ub k0_t1_loop.st = 65 := by decide +kernel
/-- The scanning loop runs 256 times. -/
theorem t2_trips : Scf.trips k0_t2_loop.lb k0_t2_loop.ub k0_t2_loop.st = 256 := by decide +kernel

/-- A load of sixteen of the tile's points. -/
theorem inp_load (Y : Vec F S393216 .f32) (c : ℕ) (v : View sig .scVector .vmem S4096 .f32) (g : v.ty.Contents (Elt F)) (h : inp L Y c (v.read (Elt F) g))
    (k : Fin k0_t2_loop.trips) (off : Fin 1 → ℕ) (inb : ∀ a, off a + S16.size a ≤ S4096.size a) (ho : off = ![16 * k.val]) :
    Lane Y (bk L) (rk L) c k.val (v.readAt (Elt F) (Rect.unit (s := S4096) off S16.size inb).toLoadRect g) := by
  intro l hl
  have hk : k.val < 256 := Nat.lt_of_lt_of_le k.isLt k0_t2_abs.2.1
  subst ho
  rw [← h (16 * k.val + l) (by omega)]
  refine congrArg (v.read (Elt F) g) (funext fun a => Fin.ext ?_)
  rw [Subsingleton.elim (α := Fin 1) a 0]
  change 16 * k.val + 1 * l = 16 * k.val + l
  omega

/-- One vector's masked stores take a slot buffer to the next trip's. -/
theorem slots_step (ch n : ℕ) (hn : n ≤ 4096) (f : Vec F S1040 .f32) (h : slots X G R d L ch n f) {v56 v103 v105 v107 v : Vec F S16 .f32} {off : BitVec 32}
    (ho : off = BitVec.ofNat 32 (Nat.count (nr (X d) (R d) (bk L) (rk L)) (16 * n)))
    (hR : RefLane (R d) (bk L) v56) (h0 : Lane (X d) (bk L) (rk L) 0 n v103) (h1 : Lane (X d) (bk L) (rk L) 1 n v105) (h2 : Lane (X d) (bk L) (rk L) 2 n v107)
    (hv : ∀ l (hl : l < 16), v (ix l hl) = pv (X d) (G d) (bk L) (rk L) ch (16 * n + l))
    (hb : ∀ a x, ((![k0_pay5 v56 off v103 v105 v107] : Fin S1040.rank → IVec S16 32) a x).toNat < S1040.size a) :
    slots X G R d L ch (n + 1) (storeIdx (F := F) f ![k0_pay5 v56 off v103 v105 v107] v (k0_pay2 v56 v103 v105 v107) false hb) := by
  intro k hk hB
  rw [Nat.mul_add]
  exact storeIdx_slot (F := F) (e := .f32) (nr (X d) (R d) (bk L) (rk L)) (pv (X d) (G d) (bk L) (rk L) ch) (zero (F := F)) (16 * n) f _ v _ hb
    (pay5_nr hR h0 h1 h2 hn ho) (pay2_nr hR h0 h1 h2) hv h k hk hB

/-- One write over a whole view reads back. -/
theorem writes_whole {sp : Space} {s : Shape} {e : EltTy} (v : View sig .scVector sp s e) (f : v.ty.Contents (Elt F)) (w : Vec F s e) (x : s.Idx) :
    v.read (Elt F) (v.writes (Elt F) f [⟨Rect.whole s, w⟩]) x = w x :=
  View.read_writes_cons_hit v f (Rect.whole s) w [] x x (Rect.emb_whole_apply s x)

/-- A row's piece holding the first 1024 slots holds the tile's part of the result. -/
theorem oPc_out (ch : Fin 6) (fo : Buf (Elt F) (oLoc d)) (e : Vec F S1040 .f32) (h : slots X G R d L ch.val 256 e) (w : Vec F S1024 .f32)
    (hw : ∀ k (hk : k < 1024), w (ix k hk) = e (ix (n := 1040) k (Nat.lt_trans hk (by decide)))) :
    ((oSl L ch).view.loc (V d (cV L) (jV L)) ↦[(oSl L ch).view.set]{fullShare} ((oSl L ch).view.writes (Elt F) fo [⟨Rect.whole S1024, w⟩]) : sProp 𝕄)
      = oPc d L ch (outC (X d) (G d) (R d)) := by
  refine pointsTo_congr fun i hi => ?_
  obtain ⟨x, -, rfl⟩ := Finset.mem_map.1 hi
  have e0 : ∀ g : Buf (Elt F) (oLoc d), (oSl L ch).view.read (Elt F) g x = g ((oSl L ch).view.emb x) := fun _ => rfl
  have e1 : (oSl L ch).view.writes (Elt F) fo [⟨Rect.whole S1024, w⟩] ((oSl L ch).view.emb x) = w x :=
    (e0 _).symm.trans (writes_whole (oSl L ch).view fo w x)
  refine e1.trans ?_
  have hx : (x 0).val < 1024 := (x 0).isLt
  have e2 : w x = e (ix (n := 1040) (x 0).val (Nat.lt_trans hx (by decide))) := (congrArg w (ix_ext x)).trans (hw _ hx)
  have h' := h (x 0).val (Nat.lt_trans hx (by decide)) (Nat.lt_trans hx (by decide))
  rw [show 16 * 256 = 4096 by norm_num] at h'
  rw [e2, h']
  have ev : (((oSl L ch).view.emb x) 0).val = bk L * 49152 + ch.val * 8192 + rk L * 1024 + (x 0).val := by
    change k0_off6 L (BitVec.ofNat 32 ch.val) 0 + 1 * (x 0).val = _
    rw [off6_eq]
    change bk L * 49152 + ch.val * 8192 + rk L * 1024 + 1 * (x 0).val = _
    omega
  have hc := ch.isLt
  have hr : rk L < 8 := Nat.mod_lt _ (by decide)
  unfold outC
  rw [ev]
  rw [show (bk L * 49152 + ch.val * 8192 + rk L * 1024 + (x 0).val) / 49152 = bk L by omega,
    show (bk L * 49152 + ch.val * 8192 + rk L * 1024 + (x 0).val) / 1024 % 8 = rk L by omega,
    show (bk L * 49152 + ch.val * 8192 + rk L * 1024 + (x 0).val) / 8192 % 6 = ch.val by omega,
    show (bk L * 49152 + ch.val * 8192 + rk L * 1024 + (x 0).val) % 1024 = (x 0).val by omega]

/-- The count's piece holding the clamped count in every lane holds the tile's part of the counts. -/
theorem nPc_out (fn : Buf (Elt F) (nLoc d)) (w : IVec S16 32)
    (hw : ∀ k (hk : k < 16), w (ix k hk) = BitVec.ofNat 32 (min (Nat.count (nr (X d) (R d) (bk L) (rk L)) 4096) 1024)) :
    ((nSl L).view.loc (V d (cV L) (jV L)) ↦[(nSl L).view.set]{fullShare} ((nSl L).view.writes (Elt F) fn [⟨Rect.whole S16, w⟩]) : sProp 𝕄)
      = nPc d L (outN (X d) (R d)) := by
  refine pointsTo_congr fun i hi => ?_
  obtain ⟨x, -, rfl⟩ := Finset.mem_map.1 hi
  have e1 : (nSl L).view.writes (Elt F) fn [⟨Rect.whole S16, w⟩] ((nSl L).view.emb x) = w x :=
    writes_whole (nSl L).view fn w x
  refine e1.trans ?_
  have hx : (x 0).val < 16 := (x 0).isLt
  have e2 : w x = _ := (congrArg w (ix_ext x)).trans (hw _ hx)
  rw [e2]
  have ev : (((nSl L).view.emb x) 0).val = bk L * 128 + rk L * 16 + (x 0).val := by
    change k0_off7 L 0 + 1 * (x 0).val = _
    rw [off7_eq]
    change bk L * 128 + rk L * 16 + 1 * (x 0).val = _
    omega
  have hr : rk L < 8 := Nat.mod_lt _ (by decide)
  unfold outN
  rw [ev]
  rw [show (bk L * 128 + rk L * 16 + (x 0).val) / 128 = bk L by omega,
    show (bk L * 128 + rk L * 16 + (x 0).val) / 16 % 8 = rk L by omega]

/-- The clamped count as the body broadcasts it. -/
theorem pay7_lane (m : ℕ) (hm : m ≤ 4096) (k : ℕ) (hk : k < 16) : k0_pay7 (BitVec.ofNat 32 m) (ix k hk) = BitVec.ofNat 32 (min m 1024) := by
  change IntOp.minsi (BitVec.ofNat 32 m) (BitVec.ofNat 32 1024) = _
  apply BitVec.eq_of_toNat_eq
  rw [minsi_toNat _ _ (by omega) (by norm_num), BitVec.toNat_ofNat, Nat.mod_eq_of_lt (by omega)]

set_option maxHeartbeats 4000000 in
/-- A subcore's body, from its parts of the operands, leaves the compacted points and the count of its run. -/
theorem tile_body (hF : (K (F := F)).Facts) (q : PosShare TreeShare) (fo : Buf (Elt F) (oLoc d)) (fn : Buf (Elt F) (nLoc d))
    (O : CellTallies nD τ sig (HIx 1)) (W : Waits sig (HIx 1)) (hO : ∀ g, O g none = 0) :
    iprop(levAts (K (F := F)).L (K (F := F)).lev ∗ emp ∗ goP X G R d L q fo fn
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_compact_body L xV (Memref.isWhole_whole _) gV (Memref.isWhole_whole _) rV (Memref.isWhole_whole _) oV (Memref.isWhole_whole _) nV (Memref.isWhole_whole _) sI0 (Memref.isWhole_whole _) sI1 (Memref.isWhole_whole _) sI2 (Memref.isWhole_whole _) sI3 (Memref.isWhole_whole _) sI4 (Memref.isWhole_whole _) sI5 (Memref.isWhole_whole _) sO0 (Memref.isWhole_whole _) sO1 (Memref.isWhole_whole _) sO2 (Memref.isWhole_whole _) sO3 (Memref.isWhole_whole _) sO4 (Memref.isWhole_whole _) sO5 (Memref.isWhole_whole _) sR (Memref.isWhole_whole _) sN (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13)
          fun _ => iprop(goP X G R d L q (outC (X d) (G d) (R d)) (outN (X d) (R d))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  simp only [semList, refList, List.map_cons, List.map_nil, List.foldr_cons, List.foldr_nil]
  iintro ⟨#Hlv, -, ⟨Hx, Hg, Hr, ⟨Ho0, Ho1, Ho2, Ho3, Ho4, Ho5⟩, Hn⟩, ⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩, ⟨%f10, Hs10⟩, ⟨%f11, Hs11⟩, ⟨%f12, Hs12⟩, ⟨%f13, Hs13⟩, Hbufs⟩, ⟨Hm0, Hm1, Hm2, Hm3, Hm4, Hm5, Hm6, Hm7, Hm8, Hm9, Hm10, Hm11, Hm12, Hm13, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_x (F := F) d L q _).symm) $$ Hx
  ihave Hg' := (Entails.of_eq (pts_g (F := F) d L q _).symm) $$ Hg
  ihave Hr' := (Entails.of_eq (pts_r (F := F) d L q _).symm) $$ Hr
  ihave Ho0' := (Entails.of_eq (pts_oPc (F := F) d L 0 _).symm) $$ Ho0
  ihave Ho1' := (Entails.of_eq (pts_oPc (F := F) d L 1 _).symm) $$ Ho1
  ihave Ho2' := (Entails.of_eq (pts_oPc (F := F) d L 2 _).symm) $$ Ho2
  ihave Ho3' := (Entails.of_eq (pts_oPc (F := F) d L 3 _).symm) $$ Ho3
  ihave Ho4' := (Entails.of_eq (pts_oPc (F := F) d L 4 _).symm) $$ Ho4
  ihave Ho5' := (Entails.of_eq (pts_oPc (F := F) d L 5 _).symm) $$ Ho5
  ihave Hn' := (Entails.of_eq (pts_nPc (F := F) d L _).symm) $$ Hn
  ihave Hs0' := (Entails.of_eq (pts_sI0 (F := F) d L _).symm) $$ Hs0
  ihave Hs1' := (Entails.of_eq (pts_sI1 (F := F) d L _).symm) $$ Hs1
  ihave Hs2' := (Entails.of_eq (pts_sI2 (F := F) d L _).symm) $$ Hs2
  ihave Hs3' := (Entails.of_eq (pts_sI3 (F := F) d L _).symm) $$ Hs3
  ihave Hs4' := (Entails.of_eq (pts_sI4 (F := F) d L _).symm) $$ Hs4
  ihave Hs5' := (Entails.of_eq (pts_sI5 (F := F) d L _).symm) $$ Hs5
  ihave Hs6' := (Entails.of_eq (pts_sO0 (F := F) d L _).symm) $$ Hs6
  ihave Hs7' := (Entails.of_eq (pts_sO1 (F := F) d L _).symm) $$ Hs7
  ihave Hs8' := (Entails.of_eq (pts_sO2 (F := F) d L _).symm) $$ Hs8
  ihave Hs9' := (Entails.of_eq (pts_sO3 (F := F) d L _).symm) $$ Hs9
  ihave Hs10' := (Entails.of_eq (pts_sO4 (F := F) d L _).symm) $$ Hs10
  ihave Hs11' := (Entails.of_eq (pts_sO5 (F := F) d L _).symm) $$ Hs11
  ihave Hs12' := (Entails.of_eq (pts_sR (F := F) d L _).symm) $$ Hs12
  ihave Hs13' := (Entails.of_eq (pts_sN (F := F) d L _).symm) $$ Hs13
  sl_unfold [cc0__sc_compact_body, k0_part1, k0_part2, k0_part3]
  sl_exec (disch := first | exact View.amount_pos _ _ (show 0 < S4096.numel by decide) | exact View.amount_pos _ _ (show 0 < S16.numel by decide))
  sl_for (inv1 (F := F) d L) $$ [Hs6' Hs7' Hs8' Hs9' Hs10' Hs11']
  case region =>
    intro k _
    unfold inv1
    iintro ⟨⟨%g0, %z0, Hz0⟩, ⟨%g1, %z1, Hz1⟩, ⟨%g2, %z2, Hz2⟩, ⟨%g3, %z3, Hz3⟩, ⟨%g4, %z4, Hz4⟩, ⟨%g5, %z5, Hz5⟩⟩
    sl_exec
    sl_step
    isplitl [Hz0]
    · iexists ((sO0).view.writes (Elt F) g0 [⟨Rect.unit (k0_off3 k) S16.size (k0_off3_inb k), k0_pay1⟩]); isplitr
      · ipureintro; exact zeroed_step (sO0).view k g0 z0
      · iexact Hz0
    isplitl [Hz1]
    · iexists ((sO1).view.writes (Elt F) g1 [⟨Rect.unit (k0_off3 k) S16.size (k0_off3_inb k), k0_pay1⟩]); isplitr
      · ipureintro; exact zeroed_step (sO1).view k g1 z1
      · iexact Hz1
    isplitl [Hz2]
    · iexists ((sO2).view.writes (Elt F) g2 [⟨Rect.unit (k0_off3 k) S16.size (k0_off3_inb k), k0_pay1⟩]); isplitr
      · ipureintro; exact zeroed_step (sO2).view k g2 z2
      · iexact Hz2
    isplitl [Hz3]
    · iexists ((sO3).view.writes (Elt F) g3 [⟨Rect.unit (k0_off3 k) S16.size (k0_off3_inb k), k0_pay1⟩]); isplitr
      · ipureintro; exact zeroed_step (sO3).view k g3 z3
      · iexact Hz3
    isplitl [Hz4]
    · iexists ((sO4).view.writes (Elt F) g4 [⟨Rect.unit (k0_off3 k) S16.size (k0_off3_inb k), k0_pay1⟩]); isplitr
      · ipureintro; exact zeroed_step (sO4).view k g4 z4
      · iexact Hz4
    iexists ((sO5).view.writes (Elt F) g5 [⟨Rect.unit (k0_off3 k) S16.size (k0_off3_inb k), k0_pay1⟩]); isplitr
    · ipureintro; exact zeroed_step (sO5).view k g5 z5
    · iexact Hz5
  · unfold inv1
    isplitl [Hs6']
    · iexists f6; isplitr
      · ipureintro; exact fun k hk h => absurd h (by omega)
      · iexact Hs6'
    isplitl [Hs7']
    · iexists f7; isplitr
      · ipureintro; exact fun k hk h => absurd h (by omega)
      · iexact Hs7'
    isplitl [Hs8']
    · iexists f8; isplitr
      · ipureintro; exact fun k hk h => absurd h (by omega)
      · iexact Hs8'
    isplitl [Hs9']
    · iexists f9; isplitr
      · ipureintro; exact fun k hk h => absurd h (by omega)
      · iexact Hs9'
    isplitl [Hs10']
    · iexists f10; isplitr
      · ipureintro; exact fun k hk h => absurd h (by omega)
      · iexact Hs10'
    iexists f11; isplitr
    · ipureintro; exact fun k hk h => absurd h (by omega)
    · iexact Hs11'
  iintro %_ HI
  unfold inv1
  icases HI with ⟨⟨%g0, %z0, Hz0⟩, ⟨%g1, %z1, Hz1⟩, ⟨%g2, %z2, Hz2⟩, ⟨%g3, %z3, Hz3⟩, ⟨%g4, %z4, Hz4⟩, ⟨%g5, %z5, Hz5⟩⟩
  sl_exec
  have hR : RefLane (R d) (bk L) (View.readAt (Elt F) (sR).view (Rect.unit ![0] S16.size inb_S16_S16_0).toLoadRect
      (View.write (Elt F) (sR).view f12 (tile_body.sl.dma0 R d L) Finset.univ)) := by
    have e := View.readAt_full (Val := Elt F) (sR).view (View.write (Elt F) (sR).view f12 (tile_body.sl.dma0 R d L) Finset.univ) inb_S16_S16_0
    refine (congrArg (RefLane (R d) (bk L)) e).mpr ?_
    rw [View.read_write_univ]
    exact ref_slice R d L (rV).view (R d) rfl
  sl_for (inv2 (F := F) X G R d L) $$ [Hs0' Hs1' Hs2' Hs3' Hs4' Hs5' Hz0 Hz1 Hz2 Hz3 Hz4 Hz5]
  case region =>
    intro k off
    have hk : k.val ≤ 4096 := (Nat.lt_of_lt_of_le k.isLt k0_t2_abs.2.1).le.trans (by decide)
    unfold inv2
    iintro ⟨%hoff, ⟨%c0, %i0, Hc0⟩, ⟨%c1, %i1, Hc1⟩, ⟨%c2, %i2, Hc2⟩, ⟨%c3, %i3, Hc3⟩, ⟨%c4, %i4, Hc4⟩, ⟨%c5, %i5, Hc5⟩, ⟨%e0, %s0, He0⟩, ⟨%e1, %s1, He1⟩, ⟨%e2, %s2, He2⟩, ⟨%e3, %s3, He3⟩, ⟨%e4, %s4, He4⟩, ⟨%e5, %s5, He5⟩⟩
    sl_exec
    have l0 := inp_load L (X d) 0 (sI0).view c0 i0 k (k0_off4 k) (k0_off4_inb k) (k0_off4_eq k)
    have l1 := inp_load L (X d) 1 (sI1).view c1 i1 k (k0_off4 k) (k0_off4_inb k) (k0_off4_eq k)
    have l2 := inp_load L (X d) 2 (sI2).view c2 i2 k (k0_off4 k) (k0_off4_inb k) (k0_off4_eq k)
    have l3 := inp_load L (G d) 0 (sI3).view c3 i3 k (k0_off5 k) (k0_off5_inb k) (k0_off5_eq k)
    have l4 := inp_load L (G d) 1 (sI4).view c4 i4 k (k0_off5 k) (k0_off5_inb k) (k0_off5_eq k)
    have l5 := inp_load L (G d) 2 (sI5).view c5 i5 k (k0_off5 k) (k0_off5_inb k) (k0_off5_eq k)
    have hchk : k0_chk1 (tile_body.sl.v128 R d L f12 k off c0 c1 c2) :=
      chk1 _ fun l hl => lt_of_eq_of_lt (pay5_nr hR l0 l1 l2 hk hoff l hl) (by omega)
    rw [wp_assume_of _ _ _ _ hchk]
    iapply (st_0 (F := F) d L e0) $$ He0
    iintro He0
    iapply (st_1 (F := F) d L e1) $$ He1
    iintro He1
    iapply (st_2 (F := F) d L e2) $$ He2
    iintro He2
    sl_exec
    iapply (st_3 (F := F) d L e3) $$ He3
    iintro He3
    sl_exec
    iapply (st_4 (F := F) d L e4) $$ He4
    iintro He4
    sl_exec
    iapply (st_5 (F := F) d L e5) $$ He5
    iintro He5
    sl_exec
    sl_step
    isplitr
    · ipureintro; exact off_succ hR l0 l1 l2 hoff
    isplitl [Hc0]
    · iexists c0; isplitr
      · ipureintro; exact i0
      · iexact Hc0
    isplitl [Hc1]
    · iexists c1; isplitr
      · ipureintro; exact i1
      · iexact Hc1
    isplitl [Hc2]
    · iexists c2; isplitr
      · ipureintro; exact i2
      · iexact Hc2
    isplitl [Hc3]
    · iexists c3; isplitr
      · ipureintro; exact i3
      · iexact Hc3
    isplitl [Hc4]
    · iexists c4; isplitr
      · ipureintro; exact i4
      · iexact Hc4
    isplitl [Hc5]
    · iexists c5; isplitr
      · ipureintro; exact i5
      · iexact Hc5
    isplitl [He0]
    · iexists _; isplitr
      rotate_left
      · iexact He0
      · ipureintro; exact slots_step X G R d L 0 k.val hk e0 s0 hoff hR l0 l1 l2 l0 _
    isplitl [He1]
    · iexists _; isplitr
      rotate_left
      · iexact He1
      · ipureintro; exact slots_step X G R d L 1 k.val hk e1 s1 hoff hR l0 l1 l2 l1 _
    isplitl [He2]
    · iexists _; isplitr
      rotate_left
      · iexact He2
      · ipureintro; exact slots_step X G R d L 2 k.val hk e2 s2 hoff hR l0 l1 l2 l2 _
    isplitl [He3]
    · iexists _; isplitr
      rotate_left
      · iexact He3
      · ipureintro; exact slots_step X G R d L 3 k.val hk e3 s3 hoff hR l0 l1 l2 l3 _
    isplitl [He4]
    · iexists _; isplitr
      rotate_left
      · iexact He4
      · ipureintro; exact slots_step X G R d L 4 k.val hk e4 s4 hoff hR l0 l1 l2 l4 _
    iexists _; isplitr
    rotate_left
    · iexact He5
    · ipureintro; exact slots_step X G R d L 5 k.val hk e5 s5 hoff hR l0 l1 l2 l5 _
  · unfold inv2
    isplitr
    · ipureintro; rfl
    isplitl [Hs0']
    · iexists (View.write (Elt F) (sI0).view f0 (tile_body.sl.dma0_1 X d L) Finset.univ); isplitr
      · ipureintro
        have e : inp L (X d) 0 (tile_body.sl.dma0_1 X d L) := inp_slice L (X d) (xV).view (X d) rfl 0
        have e2 := inp_copy L (X d) 0 (sI0).view f0 (tile_body.sl.dma0_1 X d L) e
        rw [rd_0] at e2
        exact e2
      · iexact Hs0'
    isplitl [Hs1']
    · iexists (View.write (Elt F) (sI1).view f1 (tile_body.sl.dma0_3 X d L) Finset.univ); isplitr
      · ipureintro
        have e : inp L (X d) 1 (tile_body.sl.dma0_3 X d L) := inp_slice L (X d) (xV).view (X d) rfl 1
        have e2 := inp_copy L (X d) 1 (sI1).view f1 (tile_body.sl.dma0_3 X d L) e
        rw [rd_1] at e2
        exact e2
      · iexact Hs1'
    isplitl [Hs2']
    · iexists (View.write (Elt F) (sI2).view f2 (tile_body.sl.dma0_5 X d L) Finset.univ); isplitr
      · ipureintro
        have e : inp L (X d) 2 (tile_body.sl.dma0_5 X d L) := inp_slice L (X d) (xV).view (X d) rfl 2
        have e2 := inp_copy L (X d) 2 (sI2).view f2 (tile_body.sl.dma0_5 X d L) e
        rw [rd_2] at e2
        exact e2
      · iexact Hs2'
    isplitl [Hs3']
    · iexists (View.write (Elt F) (sI3).view f3 (tile_body.sl.dma0_2 G d L) Finset.univ); isplitr
      · ipureintro
        have e : inp L (G d) 0 (tile_body.sl.dma0_2 G d L) := inp_slice L (G d) (gV).view (G d) rfl 0
        have e2 := inp_copy L (G d) 0 (sI3).view f3 (tile_body.sl.dma0_2 G d L) e
        rw [rd_3] at e2
        exact e2
      · iexact Hs3'
    isplitl [Hs4']
    · iexists (View.write (Elt F) (sI4).view f4 (tile_body.sl.dma0_4 G d L) Finset.univ); isplitr
      · ipureintro
        have e : inp L (G d) 1 (tile_body.sl.dma0_4 G d L) := inp_slice L (G d) (gV).view (G d) rfl 1
        have e2 := inp_copy L (G d) 1 (sI4).view f4 (tile_body.sl.dma0_4 G d L) e
        rw [rd_4] at e2
        exact e2
      · iexact Hs4'
    isplitl [Hs5']
    · iexists (View.write (Elt F) (sI5).view f5 (tile_body.sl.dma0_6 G d L) Finset.univ); isplitr
      · ipureintro
        have e : inp L (G d) 2 (tile_body.sl.dma0_6 G d L) := inp_slice L (G d) (gV).view (G d) rfl 2
        have e2 := inp_copy L (G d) 2 (sI5).view f5 (tile_body.sl.dma0_6 G d L) e
        rw [rd_5] at e2
        exact e2
      · iexact Hs5'
    isplitl [Hz0]
    · iexists g0; isplitr
      · ipureintro; exact fun k hk _ => z0 k hk (by rw [t1_trips]; omega)
      · iexact Hz0
    isplitl [Hz1]
    · iexists g1; isplitr
      · ipureintro; exact fun k hk _ => z1 k hk (by rw [t1_trips]; omega)
      · iexact Hz1
    isplitl [Hz2]
    · iexists g2; isplitr
      · ipureintro; exact fun k hk _ => z2 k hk (by rw [t1_trips]; omega)
      · iexact Hz2
    isplitl [Hz3]
    · iexists g3; isplitr
      · ipureintro; exact fun k hk _ => z3 k hk (by rw [t1_trips]; omega)
      · iexact Hz3
    isplitl [Hz4]
    · iexists g4; isplitr
      · ipureintro; exact fun k hk _ => z4 k hk (by rw [t1_trips]; omega)
      · iexact Hz4
    iexists g5; isplitr
    · ipureintro; exact fun k hk _ => z5 k hk (by rw [t1_trips]; omega)
    · iexact Hz5
  iintro %off HI
  unfold inv2
  icases HI with ⟨%hoff, ⟨%c0, %i0, Hc0⟩, ⟨%c1, %i1, Hc1⟩, ⟨%c2, %i2, Hc2⟩, ⟨%c3, %i3, Hc3⟩, ⟨%c4, %i4, Hc4⟩, ⟨%c5, %i5, Hc5⟩, ⟨%e0, %s0, He0⟩, ⟨%e1, %s1, He1⟩, ⟨%e2, %s2, He2⟩, ⟨%e3, %s3, He3⟩, ⟨%e4, %s4, He4⟩, ⟨%e5, %s5, He5⟩⟩
  sl_exec
  sl_exec (disch := first | exact View.amount_pos _ _ (show 0 < S1024.numel by decide) | exact View.amount_pos _ _ (show 0 < S16.numel by decide))
  sl_step
  rw [t2_trips] at hoff s0 s1 s2 s3 s4 s5
  have o0 := oPc_out X G R d L 0 fo e0 s0 (tile_body.sl.dma2 e0) fun k hk => congrArg e0 (funext fun a => Fin.ext (by rw [Subsingleton.elim (α := Fin 1) a 0]; show 0 + 1 * k = k; omega))
  ihave Ho0 := (Entails.of_eq o0) $$ Ho0'
  have o1 := oPc_out X G R d L 1 fo e1 s1 (tile_body.sl.dma2_1 e1) fun k hk => congrArg e1 (funext fun a => Fin.ext (by rw [Subsingleton.elim (α := Fin 1) a 0]; show 0 + 1 * k = k; omega))
  ihave Ho1 := (Entails.of_eq o1) $$ Ho1'
  have o2 := oPc_out X G R d L 2 fo e2 s2 (tile_body.sl.dma2_2 e2) fun k hk => congrArg e2 (funext fun a => Fin.ext (by rw [Subsingleton.elim (α := Fin 1) a 0]; show 0 + 1 * k = k; omega))
  ihave Ho2 := (Entails.of_eq o2) $$ Ho2'
  have o3 := oPc_out X G R d L 3 fo e3 s3 (tile_body.sl.dma2_3 e3) fun k hk => congrArg e3 (funext fun a => Fin.ext (by rw [Subsingleton.elim (α := Fin 1) a 0]; show 0 + 1 * k = k; omega))
  ihave Ho3 := (Entails.of_eq o3) $$ Ho3'
  have o4 := oPc_out X G R d L 4 fo e4 s4 (tile_body.sl.dma2_4 e4) fun k hk => congrArg e4 (funext fun a => Fin.ext (by rw [Subsingleton.elim (α := Fin 1) a 0]; show 0 + 1 * k = k; omega))
  ihave Ho4 := (Entails.of_eq o4) $$ Ho4'
  have o5 := oPc_out X G R d L 5 fo e5 s5 (tile_body.sl.dma2_5 e5) fun k hk => congrArg e5 (funext fun a => Fin.ext (by rw [Subsingleton.elim (α := Fin 1) a 0]; show 0 + 1 * k = k; omega))
  ihave Ho5 := (Entails.of_eq o5) $$ Ho5'
  have on := nPc_out X R d L fn (tile_body.sl.dma2_6 d L f13 off) fun k hk => by
    have e : (sN).view.read (Elt F) ((sN).view.writes (Elt F) f13 [⟨Rect.unit (s := S16) ![0] S16.size inb_S16_S16_0, k0_pay7 off⟩]) (ix k hk) = k0_pay7 off (ix k hk) :=
      View.read_writes_cons_unit_of_mem (sN).view f13 _ _ _ _ (ix (n := 16) k hk) rfl fun a => by
        rw [Subsingleton.elim (α := Fin 1) a 0]; show k = 0 + k; omega
    refine e.trans ?_
    rw [hoff]
    exact pay7_lane _ (Nat.count_le _) k hk
  ihave Hn := (Entails.of_eq on) $$ Hn'
  isplitl [Hx' Hg' Hr' Ho0 Ho1 Ho2 Ho3 Ho4 Ho5 Hn]
  · unfold goP
    isplitl [Hx']; · iexact Hx'
    isplitl [Hg']; · iexact Hg'
    isplitl [Hr']; · iexact Hr'
    isplitl [Ho0 Ho1 Ho2 Ho3 Ho4 Ho5]
    · isplitl [Ho0]; · iexact Ho0
      isplitl [Ho1]; · iexact Ho1
      isplitl [Ho2]; · iexact Ho2
      isplitl [Ho3]; · iexact Ho3
      isplitl [Ho4]; · iexact Ho4
      iexact Ho5
    iexact Hn
  isplitl [Hc0 Hc1 Hc2 Hc3 Hc4 Hc5 He0 He1 He2 He3 He4 He5 Hs12' Hs13' Hbufs]
  · isplitl [Hc0]; · iexists _; iexact Hc0
    isplitl [Hc1]; · iexists _; iexact Hc1
    isplitl [Hc2]; · iexists _; iexact Hc2
    isplitl [Hc3]; · iexists _; iexact Hc3
    isplitl [Hc4]; · iexists _; iexact Hc4
    isplitl [Hc5]; · iexists _; iexact Hc5
    isplitl [He0]; · iexists _; iexact He0
    isplitl [He1]; · iexists _; iexact He1
    isplitl [He2]; · iexists _; iexact He2
    isplitl [He3]; · iexists _; iexact He3
    isplitl [He4]; · iexists _; iexact He4
    isplitl [He5]; · iexists _; iexact He5
    isplitl [Hs12']; · iexists _; iexact Hs12'
    isplitl [Hs13']; · iexists _; iexact Hs13'
    iexact Hbufs
  isplitl [Hm0 Hm1 Hm2 Hm3 Hm4 Hm5 Hm6 Hm7 Hm8 Hm9 Hm10 Hm11 Hm12 Hm13 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    iexact Hsems
  iexists _
  isplitr
  rotate_left
  · iexact HO
  · ipureintro
    intro p hp
    simp only [Finset.mem_insert] at hp
    rcases hp with rfl | rfl | rfl | rfl | rfl | rfl | rfl | rfl | rfl | rfl | rfl | rfl | rfl | rfl | h
    all_goals first | exact Or.inl h | exact Or.inr (Or.inl rfl)

end Tile
end Cert.KernelIdeal.Sc
end
-- ==== Proof.SplitI.lean ====
/-
  The arrays of the SparseCore call dealt to the thirty-two tiles and gathered again: the two results along the tiles'
  pieces, the three inputs by read shares.
-/
module

public import proofs.«01_k».proof.Proof.ScI

@[expose] public section

set_option maxRecDepth 4096

noncomputable section

namespace Cert.KernelIdeal.Sc

open Cert.KernelIdeal Cert.KernelIdeal.Gen Cert.Slots Cert.Model

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The tile of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The tile's coordinates from plain numbers. -/
abbrev tl (c : Fin 2) (i : Fin 16) : grid0.Coords := coordsV c i
/-- The worker number of a subcore. -/
theorem wk_tl (c : Fin 2) (i : Fin 16) : wk (tl c i) = 2 * i.val + c.val := rfl

/-- What a row's piece covers: the slots whose thousand is the tile's. -/
theorem mem_oSl (L : grid0.Coords) (ch : Fin 6) (x : S196608.Idx) :
    x ∈ (oSl L ch).view.set ↔ (x 0).val / 1024 = bk L * 48 + ch.val * 8 + rk L := by
  have ev : ∀ y : S1024.Idx, (((oSl L ch).view.emb y) 0).val = bk L * 49152 + ch.val * 8192 + rk L * 1024 + (y 0).val := by
    intro y
    change k0_off6 L (BitVec.ofNat 32 ch.val) 0 + 1 * (y 0).val = _
    rw [off6_eq]
    change bk L * 49152 + ch.val * 8192 + rk L * 1024 + 1 * (y 0).val = _
    omega
  constructor
  · intro h
    obtain ⟨y, -, rfl⟩ := Finset.mem_map.1 h
    have hy : (y 0).val < 1024 := (y 0).isLt
    rw [ev]; omega
  · intro h
    have hlt : (x 0).val % 1024 < 1024 := Nat.mod_lt _ (by decide)
    refine Finset.mem_map.2 ⟨ix (n := 1024) ((x 0).val % 1024) hlt, Finset.mem_univ _, ?_⟩
    funext a
    rw [Subsingleton.elim (α := Fin 1) a 0]
    refine Fin.ext ((ev _).trans ?_)
    change bk L * 49152 + ch.val * 8192 + rk L * 1024 + (x 0).val % 1024 = _
    omega

/-- What a count's piece covers. -/
theorem mem_nSl (L : grid0.Coords) (x : S512.Idx) : x ∈ (nSl L).view.set ↔ (x 0).val / 16 = wk L := by
  have ev : ∀ y : S16.Idx, (((nSl L).view.emb y) 0).val = wk L * 16 + (y 0).val := by
    intro y
    change k0_off7 L 0 + 1 * (y 0).val = _
    rw [off7_eq]
    change bk L * 128 + rk L * 16 + 1 * (y 0).val = _
    unfold bk rk; omega
  constructor
  · intro h
    obtain ⟨y, -, rfl⟩ := Finset.mem_map.1 h
    have hy : (y 0).val < 16 := (y 0).isLt
    rw [ev]; omega
  · intro h
    have hlt : (x 0).val % 16 < 16 := Nat.mod_lt _ (by decide)
    refine Finset.mem_map.2 ⟨ix (n := 16) ((x 0).val % 16) hlt, Finset.mem_univ _, ?_⟩
    funext a
    rw [Subsingleton.elim (α := Fin 1) a 0]
    refine Fin.ext ((ev _).trans ?_)
    change wk L * 16 + (x 0).val % 16 = _
    omega

/-- The rows' pieces, by core, subcore and channel. -/
abbrev oSet (t : Fin 2 × Fin 16 × Fin 6) : Finset S196608.Idx := (oSl (tl t.1 t.2.1) t.2.2).view.set
/-- The counts' pieces, by core and subcore. -/
abbrev nSet (t : Fin 2 × Fin 16) : Finset S512.Idx := (nSl (tl t.1 t.2)).view.set

/-- Different workers and channels write different compacted entries. -/
theorem oSet_disjoint : ∀ t ∈ (Finset.univ : Finset (Fin 2 × Fin 16 × Fin 6)), ∀ t' ∈ (Finset.univ : Finset (Fin 2 × Fin 16 × Fin 6)), t ≠ t' → Disjoint (oSet t) (oSet t') := by
  rintro ⟨c, i, ch⟩ - ⟨c', i', ch'⟩ - hne
  refine Finset.disjoint_left.2 fun x hx hx' => hne ?_
  have h := (mem_oSl _ _ x).1 hx
  have h' := (mem_oSl _ _ x).1 hx'
  simp only [bk, rk, wk_tl] at h h'
  have := c.isLt; have := c'.isLt; have := i.isLt; have := i'.isLt; have := ch.isLt; have := ch'.isLt
  have hc : c = c' := Fin.ext (by omega)
  have hi : i = i' := Fin.ext (by omega)
  have hch : ch = ch' := Fin.ext (by omega)
  rw [hc, hi, hch]

/-- The workers and channels together write every compacted entry. -/
theorem oSet_cover : (Finset.univ : Finset (Fin 2 × Fin 16 × Fin 6)).biUnion oSet = Finset.univ := by
  refine Finset.eq_univ_iff_forall.2 fun x => Finset.mem_biUnion.2 ?_
  have hx : (x 0).val < 196608 := (x 0).isLt
  refine ⟨(⟨(8 * ((x 0).val / 1024 / 48) + (x 0).val / 1024 % 8) % 2, Nat.mod_lt _ (by decide)⟩,
    ⟨(8 * ((x 0).val / 1024 / 48) + (x 0).val / 1024 % 8) / 2, by omega⟩, ⟨(x 0).val / 1024 % 48 / 8, by omega⟩), Finset.mem_univ _, ?_⟩
  refine (mem_oSl _ _ x).2 ?_
  simp only [bk, rk, wk_tl]
  omega

/-- Different workers write different counts. -/
theorem nSet_disjoint : ∀ t ∈ (Finset.univ : Finset (Fin 2 × Fin 16)), ∀ t' ∈ (Finset.univ : Finset (Fin 2 × Fin 16)), t ≠ t' → Disjoint (nSet t) (nSet t') := by
  rintro ⟨c, i⟩ - ⟨c', i'⟩ - hne
  refine Finset.disjoint_left.2 fun x hx hx' => hne ?_
  have h := (mem_nSl _ x).1 hx
  have h' := (mem_nSl _ x).1 hx'
  rw [wk_tl] at h h'
  dsimp only at h h'
  have := c.isLt; have := c'.isLt
  have hc : c = c' := Fin.ext (by omega)
  have hi : i = i' := Fin.ext (by omega)
  rw [hc, hi]

/-- The workers together write every count. -/
theorem nSet_cover : (Finset.univ : Finset (Fin 2 × Fin 16)).biUnion nSet = Finset.univ := by
  refine Finset.eq_univ_iff_forall.2 fun x => Finset.mem_biUnion.2 ?_
  have hx : (x 0).val < 512 := (x 0).isLt
  refine ⟨(⟨(x 0).val / 16 % 2, Nat.mod_lt _ (by decide)⟩, ⟨(x 0).val / 16 / 2, by omega⟩), Finset.mem_univ _, ?_⟩
  refine (mem_nSl _ x).2 ?_
  rw [wk_tl]
  change _ = 2 * ((x 0).val / 16 / 2) + (x 0).val / 16 % 2
  omega

/-- Two assertions that entail each other are one. -/
theorem both {P Q : sProp 𝕄} (h : P ⊢ Q) (h' : Q ⊢ P) : P = Q := Idealize.SL.BI.Entails.antisymm h h'

/-- Six conjuncts for a product over six. -/
theorem bigSep_fin_six (Φ : Fin 6 → sProp 𝕄) :
    bigSep Finset.univ Φ = iprop(Φ 0 ∗ Φ 1 ∗ Φ 2 ∗ Φ 3 ∗ Φ 4 ∗ Φ 5) := by
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]

/-- The compacted rows are the tiles' pieces of them. -/
theorem oPts_split (d : Dev nD) (f : Buf (Elt F) (oLoc d)) :
    (oLoc d ↦{fullShare} f : sProp 𝕄) = bigSep Finset.univ fun c : Fin 2 => bigSep Finset.univ fun i : Fin 16 =>
      iprop(oPc d (tl c i) 0 f ∗ oPc d (tl c i) 1 f ∗ oPc d (tl c i) 2 f ∗ oPc d (tl c i) 3 f ∗ oPc d (tl c i) 4 f ∗ oPc d (tl c i) 5 f) := by
  have h : (oLoc d ↦{fullShare} f : sProp 𝕄) = bigSep Finset.univ fun t : Fin 2 × Fin 16 × Fin 6 => oLoc d ↦[oSet t]{fullShare} f := by
    rw [← pointsTo_biUnion Finset.univ (ℓ := oLoc d) oSet oSet_disjoint, oSet_cover]; try rfl
  rw [h, bigSep_univ_prod]
  refine bigSep_congr fun c _ => ?_
  rw [bigSep_univ_prod]
  exact bigSep_congr fun i _ => bigSep_fin_six fun ch => oPc d (tl c i) ch f

/-- The counts are the tiles' pieces of them. -/
theorem nPts_split (d : Dev nD) (f : Buf (Elt F) (nLoc d)) :
    (nLoc d ↦{fullShare} f : sProp 𝕄) = bigSep Finset.univ fun c : Fin 2 => bigSep Finset.univ fun i : Fin 16 => nPc d (tl c i) f := by
  have h : (nLoc d ↦{fullShare} f : sProp 𝕄) = bigSep Finset.univ fun t : Fin 2 × Fin 16 => nLoc d ↦[nSet t]{fullShare} f := by
    rw [← pointsTo_biUnion Finset.univ (ℓ := nLoc d) nSet nSet_disjoint, nSet_cover]; try rfl
  rw [h, bigSep_univ_prod]

/-- The read share of a tile. -/
abbrev sh (c : Fin 2) (i : Fin 16) : PosShare TreeShare := Transfers.shareTok (Transfers.shareTok fullShare 2 c) 16 i

/-- What is left of an input once every tile has its share. -/
abbrev left (ℓ : Loc nD τ sig) (f : Buf (Elt F) ℓ) : sProp 𝕄 :=
  iprop((ℓ ↦{Transfers.shareDrop fullShare 2} f) ∗ bigSep Finset.univ fun c : Fin 2 => ℓ ↦{Transfers.shareDrop (Transfers.shareTok fullShare 2 c) 16} f)

/-- An input is what is left of it and the tiles' shares. -/
theorem in_split (ℓ : Loc nD τ sig) (f : Buf (Elt F) ℓ) :
    (ℓ ↦{fullShare} f : sProp 𝕄) = iprop(left ℓ f ∗ bigSep Finset.univ fun c : Fin 2 => bigSep Finset.univ fun i : Fin 16 => ℓ ↦{sh c i} f) := by
  have e : ∀ (q : PosShare TreeShare) (n : ℕ), (ℓ ↦{q} f : sProp 𝕄)
      = iprop((ℓ ↦{Transfers.shareDrop q n} f) ∗ bigSep Finset.univ fun i : Fin n => ℓ ↦{Transfers.shareTok q n i} f) := fun q n =>
    Entails.antisymm (Transfers.pointsTo_toks q n).1 (Transfers.pointsTo_toks q n).2
  unfold left
  rw [e fullShare 2, bigSep_congr fun c _ => e (Transfers.shareTok fullShare 2 c) 16, bigSep_sep']
  refine both ?_ ?_
  · iintro ⟨H0, H1, H2⟩
    isplitr [H2]
    · isplitl [H0] <;> iassumption
    · iexact H2
  · iintro ⟨⟨H0, H1⟩, H2⟩
    isplitl [H0]; · iexact H0
    isplitl [H1] <;> iassumption

/-- The call's five arrays are the tiles' operands and what is left of the inputs. -/
theorem call_split (X G : Dev nD → Vec F S393216 .f32) (R : Dev nD → Vec F S64 .f32) (d : Dev nD) (fo : Buf (Elt F) (oLoc d)) (fn : Buf (Elt F) (nLoc d)) :
    (iprop((xLoc d ↦{fullShare} X d) ∗ (gLoc d ↦{fullShare} G d) ∗ (rLoc d ↦{fullShare} R d) ∗ (oLoc d ↦{fullShare} fo) ∗ nLoc d ↦{fullShare} fn) : sProp 𝕄)
      = iprop((left (xLoc d) (X d) ∗ left (gLoc d) (G d) ∗ left (rLoc d) (R d))
          ∗ bigSep Finset.univ fun c : Fin 2 => bigSep Finset.univ fun i : Fin 16 => goP X G R d (tl c i) (sh c i) fo fn) := by
  rw [in_split (xLoc d), in_split (gLoc d), in_split (rLoc d), oPts_split, nPts_split]
  have e : (bigSep Finset.univ fun c : Fin 2 => bigSep Finset.univ fun i : Fin 16 => goP X G R d (tl c i) (sh c i) fo fn : sProp 𝕄)
      = iprop((bigSep Finset.univ fun c : Fin 2 => bigSep Finset.univ fun i : Fin 16 => xLoc d ↦{sh c i} X d)
        ∗ (bigSep Finset.univ fun c : Fin 2 => bigSep Finset.univ fun i : Fin 16 => gLoc d ↦{sh c i} G d)
        ∗ (bigSep Finset.univ fun c : Fin 2 => bigSep Finset.univ fun i : Fin 16 => rLoc d ↦{sh c i} R d)
        ∗ (bigSep Finset.univ fun c : Fin 2 => bigSep Finset.univ fun i : Fin 16 =>
          iprop(oPc d (tl c i) 0 fo ∗ oPc d (tl c i) 1 fo ∗ oPc d (tl c i) 2 fo ∗ oPc d (tl c i) 3 fo ∗ oPc d (tl c i) 4 fo ∗ oPc d (tl c i) 5 fo))
        ∗ bigSep Finset.univ fun c : Fin 2 => bigSep Finset.univ fun i : Fin 16 => nPc d (tl c i) fn) := by
    rw [← bigSep_sep', ← bigSep_sep', ← bigSep_sep', ← bigSep_sep']
    refine bigSep_congr fun c _ => ?_
    rw [← bigSep_sep', ← bigSep_sep', ← bigSep_sep', ← bigSep_sep']
  rw [e]
  refine both ?_ ?_
  · iintro ⟨⟨Lx, Hx⟩, ⟨Lg, Hg⟩, ⟨Lr, Hr⟩, Ho, Hn⟩
    isplitl [Lx Lg Lr]
    · isplitl [Lx]; · iexact Lx
      isplitl [Lg] <;> iassumption
    isplitl [Hx]; · iexact Hx
    isplitl [Hg]; · iexact Hg
    isplitl [Hr]; · iexact Hr
    isplitl [Ho] <;> iassumption
  · iintro ⟨⟨Lx, Lg, Lr⟩, Hx, Hg, Hr, Ho, Hn⟩
    isplitl [Lx Hx]; · isplitl [Lx] <;> iassumption
    isplitl [Lg Hg]; · isplitl [Lg] <;> iassumption
    isplitl [Lr Hr]; · isplitl [Lr] <;> iassumption
    isplitl [Ho] <;> iassumption

end Cert.KernelIdeal.Sc

end
-- ==== Proof.TcI.lean ====
/-
  The pooling kernel's body and its region: the body run once on whole staging buffers, what it leaves in its two
  result windows as functions of the fifteen input blocks, the pipeline's proof data at any contents of the arrays,
  and the region over the unscoped buffers of a core.
-/
module

public import proofs.«01_k».proof.Proof.ScI
public import proofs.«01_k».proof.Proof.Gen.KernelIdeal.Launch
public import proofs.«01_k».proof.Proof.Gen.KernelIdeal.Points
public import Idealize.ShloMosaic.Lib.Pipeline.FrameBody
public import Idealize.ShloMosaic.Lib.VecWindow

@[expose] public section

set_option maxRecDepth 8192

noncomputable section

namespace Cert.KernelIdeal.Tc

open Cert.KernelIdeal Cert.KernelIdeal.Gen Cert.KernelIdeal.Sc

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-! ## What the body computes -/

/-- The lanes of image `i` whose slot holds a point: slot `s` of run `r` does when `s` is below the run's count. -/
def lanes (i : grid1.Coords) (n : Vec F S4x8 .i32) : IVec S1x8192 1 :=
  k1_pay5 (F := F) (iota .tc S1x8192 32 [1] iota_S1x8192_d1_w32)
    (k1_pay4 (n ((Rect.unit (s := S4x8) (k1_off1 i) S1x1.size (k1_off1_inb i)).point numel1_S1x1)) (n ((Rect.unit (s := S4x8) (k1_off2 i) S1x1.size (k1_off2_inb i)).point numel1_S1x1))
      (n ((Rect.unit (s := S4x8) (k1_off3 i) S1x1.size (k1_off3_inb i)).point numel1_S1x1)) (n ((Rect.unit (s := S4x8) (k1_off4 i) S1x1.size (k1_off4_inb i)).point numel1_S1x1)))
    4096#32 (n ((Rect.unit (s := S4x8) (k1_off5 i) S1x1.size (k1_off5_inb i)).point numel1_S1x1)) (n ((Rect.unit (s := S4x8) (k1_off6 i) S1x1.size (k1_off6_inb i)).point numel1_S1x1))
    (n ((Rect.unit (s := S4x8) (k1_off7 i) S1x1.size (k1_off7_inb i)).point numel1_S1x1)) (n ((Rect.unit (s := S4x8) (k1_off8 i) S1x1.size (k1_off8_inb i)).point numel1_S1x1))

/-- The softmax weights of the lanes. -/
def wgt (i : grid1.Coords) (x0 : Vec F S4x8 .i32) (x1 : Vec F S1x3x8192 .f32) (x2 : Vec F S1x3x8192 .f32) (x3 : Vec F S256x3 .f32) (x4 : Vec F S256x1 .f32) (x5 : Vec F S256x256 .f32) (x6 : Vec F S256x1 .f32) (x7 : Vec F S1x256 .f32) (x8 : Vec F S1x1 .f32) : FVec F S1x8192 .f32 :=
  k1_pay7 (lanes i x0) (k1_pay6 (k1_pay3 x2) x3 x4) (Scalar.ofBits .f32 0x00000000#32) x5 x6 x7 x8

/-- The pooled position as a column. -/
def col (i : grid1.Coords) (x0 : Vec F S4x8 .i32) (x1 : Vec F S1x3x8192 .f32) (x2 : Vec F S1x3x8192 .f32) (x3 : Vec F S256x3 .f32) (x4 : Vec F S256x1 .f32) (x5 : Vec F S256x256 .f32) (x6 : Vec F S256x1 .f32) (x7 : Vec F S1x256 .f32) (x8 : Vec F S1x1 .f32) : FVec F S3x1 .f32 :=
  k1_pay8 (k1_pay2 x1) (lanes i x0) (k1_pay6 (k1_pay3 x2) x3 x4) (Scalar.ofBits .f32 0x00000000#32) x5 x6 x7 x8

/-- The first result's block: the pooled position. -/
def out15 (i : grid1.Coords) (x0 : Vec F S4x8 .i32) (x1 : Vec F S1x3x8192 .f32) (x2 : Vec F S1x3x8192 .f32) (x3 : Vec F S256x3 .f32) (x4 : Vec F S256x1 .f32) (x5 : Vec F S256x256 .f32) (x6 : Vec F S256x1 .f32) (x7 : Vec F S1x256 .f32) (x8 : Vec F S1x1 .f32) : Vec F S1x3x1 .f32 := k1_pay9 (col i x0 x1 x2 x3 x4 x5 x6 x7 x8)

/-- The orientation features of the lanes. -/
def ori (x2 : Vec F S1x3x8192 .f32) (x9 : Vec F S256x3 .f32) (x10 : Vec F S256x1 .f32) (x11 : Vec F S256x256 .f32) (x12 : Vec F S256x1 .f32) (x13 : Vec F S9x256 .f32) (x14 : Vec F S9x1 .f32) : FVec F S9x8192 .f32 :=
  k1_pay10 (k1_pay3 x2) x9 x10 x11 x12 x13 x14

/-- The lanes near the pooled position, and their number as a float vector. -/
def near (i : grid1.Coords) (x0 : Vec F S4x8 .i32) (x1 : Vec F S1x3x8192 .f32) (x2 : Vec F S1x3x8192 .f32) (x3 : Vec F S256x3 .f32) (x4 : Vec F S256x1 .f32) (x5 : Vec F S256x256 .f32) (x6 : Vec F S256x1 .f32) (x7 : Vec F S1x256 .f32) (x8 : Vec F S1x1 .f32) : IVec S1x8192 1 := k1_pay11 (k1_pay2 x1) (lanes i x0) (col i x0 x1 x2 x3 x4 x5 x6 x7 x8)
/-- The closeness bits as floats. -/
def nearF (i : grid1.Coords) (x0 : Vec F S4x8 .i32) (x1 : Vec F S1x3x8192 .f32) (x2 : Vec F S1x3x8192 .f32) (x3 : Vec F S256x3 .f32) (x4 : Vec F S256x1 .f32) (x5 : Vec F S256x256 .f32) (x6 : Vec F S256x1 .f32) (x7 : Vec F S1x256 .f32) (x8 : Vec F S1x1 .f32) : FVec F S1x1x8192 .f32 := k1_pay12 (k1_pay2 x1) (lanes i x0) (col i x0 x1 x2 x3 x4 x5 x6 x7 x8)

/-- The second result's block: the pooled orientation, each of its three columns over its length. -/
def out16 (i : grid1.Coords) (x0 : Vec F S4x8 .i32) (x1 : Vec F S1x3x8192 .f32) (x2 : Vec F S1x3x8192 .f32) (x3 : Vec F S256x3 .f32) (x4 : Vec F S256x1 .f32) (x5 : Vec F S256x256 .f32) (x6 : Vec F S256x1 .f32) (x7 : Vec F S1x256 .f32) (x8 : Vec F S1x1 .f32) (x9 : Vec F S256x3 .f32) (x10 : Vec F S256x1 .f32) (x11 : Vec F S256x256 .f32) (x12 : Vec F S256x1 .f32) (x13 : Vec F S9x256 .f32) (x14 : Vec F S9x1 .f32) : Vec F S1x9x1 .f32 :=
  k1_pay1
    (k1_pay13 (wgt i x0 x1 x2 x3 x4 x5 x6 x7 x8) (ori x2 x9 x10 x11 x12 x13 x14) (near i x0 x1 x2 x3 x4 x5 x6 x7 x8) (nearF i x0 x1 x2 x3 x4 x5 x6 x7 x8))
    k1_pay14 k1_pay15 k1_pay16
    (k1_pay17 (wgt i x0 x1 x2 x3 x4 x5 x6 x7 x8) (ori x2 x9 x10 x11 x12 x13 x14) (near i x0 x1 x2 x3 x4 x5 x6 x7 x8) (nearF i x0 x1 x2 x3 x4 x5 x6 x7 x8))
    (k1_pay18 (wgt i x0 x1 x2 x3 x4 x5 x6 x7 x8) (ori x2 x9 x10 x11 x12 x13 x14) (near i x0 x1 x2 x3 x4 x5 x6 x7 x8) (nearF i x0 x1 x2 x3 x4 x5 x6 x7 x8))
    (k1_pay19 (wgt i x0 x1 x2 x3 x4 x5 x6 x7 x8) (ori x2 x9 x10 x11 x12 x13 x14) (near i x0 x1 x2 x3 x4 x5 x6 x7 x8) (nearF i x0 x1 x2 x3 x4 x5 x6 x7 x8))

/-! ## The body run -/

/-! A load of a whole block reads what the block's view reads. -/

/-- A read of a whole 1 × 3 × 8192 block is the block. -/
theorem read_S1x3x8192 {κ : Kind} {sp : Space} (v : View sig κ sp S1x3x8192 .f32) (f : v.ty.Contents (Elt F)) (h : ∀ a, ![0, 0, 0] a + ![1, 3, 8192] a ≤ S1x3x8192.size a) :
    v.readAt (Elt F) (Rect.unit (s := S1x3x8192) ![0, 0, 0] ![1, 3, 8192] h).toLoadRect f = v.read (Elt F) f := View.readAt_full v f h
/-- A read of a whole 256 × 3 block is the block. -/
theorem read_S256x3 {κ : Kind} {sp : Space} (v : View sig κ sp S256x3 .f32) (f : v.ty.Contents (Elt F)) (h : ∀ a, ![0, 0] a + ![256, 3] a ≤ S256x3.size a) :
    v.readAt (Elt F) (Rect.unit (s := S256x3) ![0, 0] ![256, 3] h).toLoadRect f = v.read (Elt F) f := View.readAt_full v f h
/-- A read of a whole 256 × 1 block is the block. -/
theorem read_S256x1 {κ : Kind} {sp : Space} (v : View sig κ sp S256x1 .f32) (f : v.ty.Contents (Elt F)) (h : ∀ a, ![0, 0] a + ![256, 1] a ≤ S256x1.size a) :
    v.readAt (Elt F) (Rect.unit (s := S256x1) ![0, 0] ![256, 1] h).toLoadRect f = v.read (Elt F) f := View.readAt_full v f h
/-- A read of a whole 256 × 256 block is the block. -/
theorem read_S256x256 {κ : Kind} {sp : Space} (v : View sig κ sp S256x256 .f32) (f : v.ty.Contents (Elt F)) (h : ∀ a, ![0, 0] a + ![256, 256] a ≤ S256x256.size a) :
    v.readAt (Elt F) (Rect.unit (s := S256x256) ![0, 0] ![256, 256] h).toLoadRect f = v.read (Elt F) f := View.readAt_full v f h
/-- A read of a whole 1 × 256 block is the block. -/
theorem read_S1x256 {κ : Kind} {sp : Space} (v : View sig κ sp S1x256 .f32) (f : v.ty.Contents (Elt F)) (h : ∀ a, ![0, 0] a + ![1, 256] a ≤ S1x256.size a) :
    v.readAt (Elt F) (Rect.unit (s := S1x256) ![0, 0] ![1, 256] h).toLoadRect f = v.read (Elt F) f := View.readAt_full v f h
/-- A read of a whole 1 × 1 block is the block. -/
theorem read_S1x1 {κ : Kind} {sp : Space} (v : View sig κ sp S1x1 .f32) (f : v.ty.Contents (Elt F)) (h : ∀ a, ![0, 0] a + ![1, 1] a ≤ S1x1.size a) :
    v.readAt (Elt F) (Rect.unit (s := S1x1) ![0, 0] ![1, 1] h).toLoadRect f = v.read (Elt F) f := View.readAt_full v f h
/-- A read of a whole 9 × 256 block is the block. -/
theorem read_S9x256 {κ : Kind} {sp : Space} (v : View sig κ sp S9x256 .f32) (f : v.ty.Contents (Elt F)) (h : ∀ a, ![0, 0] a + ![9, 256] a ≤ S9x256.size a) :
    v.readAt (Elt F) (Rect.unit (s := S9x256) ![0, 0] ![9, 256] h).toLoadRect f = v.read (Elt F) f := View.readAt_full v f h
/-- A read of a whole 9 × 1 block is the block. -/
theorem read_S9x1 {κ : Kind} {sp : Space} (v : View sig κ sp S9x1 .f32) (f : v.ty.Contents (Elt F)) (h : ∀ a, ![0, 0] a + ![9, 1] a ≤ S9x1.size a) :
    v.readAt (Elt F) (Rect.unit (s := S9x1) ![0, 0] ![9, 1] h).toLoadRect f = v.read (Elt F) f := View.readAt_full v f h

set_option maxHeartbeats 4000000 in
/-- The body on whole staging buffers, the inputs' at `xW`, runs to its return with the inputs' as they were and the
    results' at `out15` and `out16` of them. -/
theorem body_run (c : Dev nD) (E : Set ℕ) (i : grid1.Coords) (arg1 : Memref sig .tc .smem S4x8 .i32) (harg1 : arg1.IsWhole) (arg2 : Memref sig .tc .vmem S1x3x8192 .f32) (harg2 : arg2.IsWhole) (arg3 : Memref sig .tc .vmem S1x3x8192 .f32) (harg3 : arg3.IsWhole) (arg4 : Memref sig .tc .vmem S256x3 .f32) (harg4 : arg4.IsWhole) (arg5 : Memref sig .tc .vmem S256x1 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S256x3 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S9x256 .f32) (harg14 : arg14.IsWhole) (arg15 : Memref sig .tc .vmem S9x1 .f32) (harg15 : arg15.IsWhole) (arg16 : Memref sig .tc .vmem S1x3x1 .f32) (harg16 : arg16.IsWhole) (arg17 : Memref sig .tc .vmem S1x9x1 .f32) (harg17 : arg17.IsWhole)
    (x0 : Vec F S4x8 .i32) (x1 : Vec F S1x3x8192 .f32) (x2 : Vec F S1x3x8192 .f32) (x3 : Vec F S256x3 .f32) (x4 : Vec F S256x1 .f32) (x5 : Vec F S256x256 .f32) (x6 : Vec F S256x1 .f32) (x7 : Vec F S1x256 .f32) (x8 : Vec F S1x1 .f32) (x9 : Vec F S256x3 .f32) (x10 : Vec F S256x1 .f32) (x11 : Vec F S256x256 .f32) (x12 : Vec F S256x1 .f32) (x13 : Vec F S9x256 .f32) (x14 : Vec F S9x1 .f32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out15 i x0 x1 x2 x3 x4 x5 x6 x7 x8) ∗ owns (c : Thread nD τ) arg17 fullShare (out16 i x0 x1 x2 x3 x4 x5 x6 x7 x8 x9 x10 x11 x12 x13 x14)) -∗ Q ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  simp only [cc1__tc_body_eq_skeleton]; unfold cc1__tc_body_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    rw [View.read_writes_full]
    try delta body_run.sl.r_21
    try delta body_run.sl.r_20
    try delta body_run.sl.r_19
    try delta body_run.sl.r_18
    try delta body_run.sl.r_17
    try delta body_run.sl.r_16
    try delta body_run.sl.r_15
    try delta body_run.sl.r_14
    try delta body_run.sl.r_13
    try delta body_run.sl.r_12
    try delta body_run.sl.r_11
    try delta body_run.sl.r_10
    try delta body_run.sl.r_9
    try delta body_run.sl.r_8
    try delta body_run.sl.r_7
    try delta body_run.sl.r_6
    try delta body_run.sl.r_5
    try delta body_run.sl.r_4
    try delta body_run.sl.r_3
    try delta body_run.sl.r_2
    try delta body_run.sl.r_1
    delta body_run.sl.r body_run.sl.v4
    delta body_run.sl.r body_run.sl.v4 body_run.sl.cst_18
    simp only [read_S1x3x8192, read_S256x3, read_S256x1, read_S256x256, read_S1x256, read_S1x1, read_S9x256, read_S9x1]
    unfold out15 col lanes
    rfl
  · iexists _; isplitr
    swap; · iexact H16
    ipureintro
    rw [View.read_writes_full]
    try delta body_run.sl.r_21
    try delta body_run.sl.r_20
    try delta body_run.sl.r_19
    try delta body_run.sl.r_18
    try delta body_run.sl.r_17
    try delta body_run.sl.r_16
    try delta body_run.sl.r_15
    try delta body_run.sl.r_14
    try delta body_run.sl.r_13
    try delta body_run.sl.r_12
    try delta body_run.sl.r_11
    try delta body_run.sl.r_10
    try delta body_run.sl.r_9
    try delta body_run.sl.r_8
    try delta body_run.sl.r_7
    try delta body_run.sl.r_6
    try delta body_run.sl.r_5
    try delta body_run.sl.r_4
    try delta body_run.sl.r_3
    try delta body_run.sl.r_2
    try delta body_run.sl.r_1
    delta body_run.sl.r body_run.sl.v4
    delta body_run.sl.r body_run.sl.v4 body_run.sl.cst_18
    simp only [read_S1x3x8192, read_S256x3, read_S256x1, read_S256x256, read_S1x256, read_S1x1, read_S9x256, read_S9x1]
    unfold out16 wgt ori near nearF col lanes
    rfl

end Cert.KernelIdeal.Tc

end
-- ==== Proof.TcRegionI.lean ====
/-
  The pooling kernel's region at any contents of the arrays: its proof data, the library's body obligation, and the
  region itself, entered from a core's unscoped buffers at one valuation and left with them at `Pipeline.afterRegion`.
-/
module

public import proofs.«01_k».proof.Proof.TcI
public import Idealize.ShloMosaic.Lib.Pipeline.FrameTail
public import Idealize.ShloMosaic.Lib.Pipeline.RegionsLoop

@[expose] public section

set_option maxRecDepth 8192

noncomputable section

namespace Cert.KernelIdeal.Tc

open Cert.KernelIdeal Cert.KernelIdeal.Gen Cert.KernelIdeal.Sc

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig (HIx 1) (Elt F) ℕ UU ℕ

/-- The configuration prefetches nothing. -/
abbrev adm (p : Fin 1) : (pcfgs (F := F) p).Adm := (cfgs p).toPCfg_adm

variable (V : Dev nD → Valuation τ sig (Elt F)) (b : ℕ)

/-- Window `w`'s block at point `t`: the array at `V`, read through the window's block view. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The pairs a core's waits may have recorded: those of level at most `b`. -/
def recd (c : Dev nD) : Set (SemLoc sig × HIx 1) := {p | (K (F := F)).lev ((c : Thread nD τ), p.1) p.2 ≤ b}

/-- The proof data: every input window left as found, the results' at `out15` and `out16` of the inputs' blocks;
    no invariant, nothing owed, every array whole. -/
def dat (c : Dev nD) : Dat τ (Elt F) (HIx 1) ℕ UU ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => out15 (grid1.coords t) (iblk V c 0 t) (iblk V c 1 t) (iblk V c 2 t) (iblk V c 3 t) (iblk V c 4 t) (iblk V c 5 t) (iblk V c 6 t) (iblk V c 7 t) (iblk V c 8 t)
    | ⟨16, _⟩ => out16 (grid1.coords t) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t)
    | ⟨_ + 17, h⟩ => absurd h (Nat.not_lt.2 (Nat.le_add_left _ _))
  Φ _ := BI.emp
  q _ := fullShare
  owed _ := 0
  recorded _ := recd (F := F) b c

/-- The family of proof data over the one pipeline. -/
def pdats (p : Fin 1) (c : Dev nD) : Dat τ (Elt F) (HIx 1) ℕ UU ℕ (Pipeline.pin (pcfgs (F := F)) adm p) c :=
  match p with
  | ⟨0, _⟩ => dat V b c

/-- Window 0's buffer holds its block at every point, fetched there or kept. -/
theorem before0 (c : Dev nD) (t : Fin cfg1.N) (d : (cfg1.win 0).block.Idx → Elt F (cfg1.win 0).elt) : (dat V b c).before 0 t d = iblk V c 0 t :=
  ((dat V b c).before_in_eq_fetched 0 rfl (fun _ => rfl) (fun _ _ _ => rfl) (fun _ => rfl) t d).trans rfl

/-- Window 1's buffer holds its block at every point, fetched there or kept. -/
theorem before1 (c : Dev nD) (t : Fin cfg1.N) (d : (cfg1.win 1).block.Idx → Elt F (cfg1.win 1).elt) : (dat V b c).before 1 t d = iblk V c 1 t :=
  ((dat V b c).before_in_eq_fetched 1 rfl (fun _ => rfl) (fun _ _ _ => rfl) (fun _ => rfl) t d).trans rfl

/-- Window 2's buffer holds its block at every point, fetched there or kept. -/
theorem before2 (c : Dev nD) (t : Fin cfg1.N) (d : (cfg1.win 2).block.Idx → Elt F (cfg1.win 2).elt) : (dat V b c).before 2 t d = iblk V c 2 t :=
  ((dat V b c).before_in_eq_fetched 2 rfl (fun _ => rfl) (fun _ _ _ => rfl) (fun _ => rfl) t d).trans rfl

/-- Window 3's buffer holds its block at every point, fetched there or kept. -/
theorem before3 (c : Dev nD) (t : Fin cfg1.N) (d : (cfg1.win 3).block.Idx → Elt F (cfg1.win 3).elt) : (dat V b c).before 3 t d = iblk V c 3 t :=
  ((dat V b c).before_in_eq_fetched 3 rfl (fun _ => rfl) (fun _ _ _ => rfl) (fun _ => rfl) t d).trans rfl

/-- Window 4's buffer holds its block at every point, fetched there or kept. -/
theorem before4 (c : Dev nD) (t : Fin cfg1.N) (d : (cfg1.win 4).block.Idx → Elt F (cfg1.win 4).elt) : (dat V b c).before 4 t d = iblk V c 4 t :=
  ((dat V b c).before_in_eq_fetched 4 rfl (fun _ => rfl) (fun _ _ _ => rfl) (fun _ => rfl) t d).trans rfl

/-- Window 5's buffer holds its block at every point, fetched there or kept. -/
theorem before5 (c : Dev nD) (t : Fin cfg1.N) (d : (cfg1.win 5).block.Idx → Elt F (cfg1.win 5).elt) : (dat V b c).before 5 t d = iblk V c 5 t :=
  ((dat V b c).before_in_eq_fetched 5 rfl (fun _ => rfl) (fun _ _ _ => rfl) (fun _ => rfl) t d).trans rfl

/-- Window 6's buffer holds its block at every point, fetched there or kept. -/
theorem before6 (c : Dev nD) (t : Fin cfg1.N) (d : (cfg1.win 6).block.Idx → Elt F (cfg1.win 6).elt) : (dat V b c).before 6 t d = iblk V c 6 t :=
  ((dat V b c).before_in_eq_fetched 6 rfl (fun _ => rfl) (fun _ _ _ => rfl) (fun _ => rfl) t d).trans rfl

/-- Window 7's buffer holds its block at every point, fetched there or kept. -/
theorem before7 (c : Dev nD) (t : Fin cfg1.N) (d : (cfg1.win 7).block.Idx → Elt F (cfg1.win 7).elt) : (dat V b c).before 7 t d = iblk V c 7 t :=
  ((dat V b c).before_in_eq_fetched 7 rfl (fun _ => rfl) (fun _ _ _ => rfl) (fun _ => rfl) t d).trans rfl

/-- Window 8's buffer holds its block at every point, fetched there or kept. -/
theorem before8 (c : Dev nD) (t : Fin cfg1.N) (d : (cfg1.win 8).block.Idx → Elt F (cfg1.win 8).elt) : (dat V b c).before 8 t d = iblk V c 8 t :=
  ((dat V b c).before_in_eq_fetched 8 rfl (fun _ => rfl) (fun _ _ _ => rfl) (fun _ => rfl) t d).trans rfl

/-- Window 9's buffer holds its block at every point, fetched there or kept. -/
theorem before9 (c : Dev nD) (t : Fin cfg1.N) (d : (cfg1.win 9).block.Idx → Elt F (cfg1.win 9).elt) : (dat V b c).before 9 t d = iblk V c 9 t :=
  ((dat V b c).before_in_eq_fetched 9 rfl (fun _ => rfl) (fun _ _ _ => rfl) (fun _ => rfl) t d).trans rfl

/-- Window 10's buffer holds its block at every point, fetched there or kept. -/
theorem before10 (c : Dev nD) (t : Fin cfg1.N) (d : (cfg1.win 10).block.Idx → Elt F (cfg1.win 10).elt) : (dat V b c).before 10 t d = iblk V c 10 t :=
  ((dat V b c).before_in_eq_fetched 10 rfl (fun _ => rfl) (fun _ _ _ => rfl) (fun _ => rfl) t d).trans rfl

/-- Window 11's buffer holds its block at every point, fetched there or kept. -/
theorem before11 (c : Dev nD) (t : Fin cfg1.N) (d : (cfg1.win 11).block.Idx → Elt F (cfg1.win 11).elt) : (dat V b c).before 11 t d = iblk V c 11 t :=
  ((dat V b c).before_in_eq_fetched 11 rfl (fun _ => rfl) (fun _ _ _ => rfl) (fun _ => rfl) t d).trans rfl

/-- Window 12's buffer holds its block at every point, fetched there or kept. -/
theorem before12 (c : Dev nD) (t : Fin cfg1.N) (d : (cfg1.win 12).block.Idx → Elt F (cfg1.win 12).elt) : (dat V b c).before 12 t d = iblk V c 12 t :=
  ((dat V b c).before_in_eq_fetched 12 rfl (fun _ => rfl) (fun _ _ _ => rfl) (fun _ => rfl) t d).trans rfl

/-- Window 13's buffer holds its block at every point, fetched there or kept. -/
theorem before13 (c : Dev nD) (t : Fin cfg1.N) (d : (cfg1.win 13).block.Idx → Elt F (cfg1.win 13).elt) : (dat V b c).before 13 t d = iblk V c 13 t :=
  ((dat V b c).before_in_eq_fetched 13 rfl (fun _ => rfl) (fun _ _ _ => rfl) (fun _ => rfl) t d).trans rfl

/-- Window 14's buffer holds its block at every point, fetched there or kept. -/
theorem before14 (c : Dev nD) (t : Fin cfg1.N) (d : (cfg1.win 14).block.Idx → Elt F (cfg1.win 14).elt) : (dat V b c).before 14 t d = iblk V c 14 t :=
  ((dat V b c).before_in_eq_fetched 14 rfl (fun _ => rfl) (fun _ _ _ => rfl) (fun _ => rfl) t d).trans rfl

set_option maxHeartbeats 4000000 in
/-- The library's body obligation: the windows' buffers taken apart, the body run at the blocks, its post reassembled. -/
theorem body_obligation (c : Dev nD) : BodyObligation (dat V b c) (defs₀ (F := F)) Variants.none (none : HIx 1) Set.univ := fun t => by
  rw [bigSep_W1, bigSep_W1]
  simp only [before0, before1, before2, before3, before4, before5, before6, before7, before8, before9, before10, before11, before12, before13, before14]
  rw [show (dat V b c).Φ t.castSucc = BI.emp from rfl, show (dat V b c).Φ t.succ = BI.emp from rfl,
    show (dat V b c).owesAt none t.succ = (dat V b c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (body_run c Set.univ (grid1.coords t) _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-! ## The region over the thread state -/

-- `iapply` of a lemma stated over `pin pcs a p` at the pinned configuration unifies only when unification may unfold
-- plain definitions in a metavariable's type
set_option backward.isDefEq.respectTransparency.types false in
/-- The region: entered from every unscoped buffer at `V c` and the core's `owes` (nothing owed, what it recorded of
    level at most `b`); left with the buffers at `Pipeline.afterRegion` of them and the same `owes`. -/
def reg [∀ e, Nonempty (Elt F e)] : Pipeline.RegionSeg (pcfgs (F := F)) adm (pdats V b) (none : HIx 1) defs₀ Variants.none (K (F := F)).L (K (F := F)).lev 0 where
  win := launch1.win.to₀
  block_pos := launch1.block_pos
  stage_whole := launch1.stage_whole
  K := PEmpty
  osem k := k.elim
  ho := Pipeline.OwnSemFacts.none _
  hbody c := (body_obligation V b c).loose
  hwaits := Pipeline.hwaits_of_owed_zero _ _ _ _ _ _ 0 fun _ _ => rfl
  pre c := iprop(unscopedBufs c (fun r => V c (Proc.devRef .tc r)) ∗ ∃ W, ⌜∀ p ∈ W, (K (F := F)).lev ((c : Thread nD τ), p.1) p.2 ≤ b⌝ ∗ owes (c : Thread nD τ) (0 : CellTallies nD τ sig (HIx 1)) W)
  post c := iprop(unscopedBufs c (fun r => Pipeline.afterRegion (dat V b c) (V c) (Proc.devRef .tc r)) ∗ ∃ W, ⌜∀ p ∈ W, (K (F := F)).lev ((c : Thread nD τ), p.1) p.2 ≤ b⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (fun r => V c (Proc.devRef .tc r))
  hentry c := by
    rw [Pipeline.ownSems0_none]
    have hsplit := Pipeline.arrays_of_unscopedBufs (p := 0) (pcfgs (F := F)) adm (pdats V b) launch1.win launch1.arr_whole c
      ((pdats V b 0 c).share_full fun _ => rfl) (fun r => V c (Proc.devRef .tc r)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, %hW, HO⟩
      iexists W; isplitr; · ipureintro; exact fun p hp => Or.inl (hW p hp)
      iexact HO
    isplitr; · iempintro
    iexact Hrest
  hin c := by
    rw [show (pdats V b 0 c).Φ 0 = BI.emp from rfl]
    iintro ⟨H, -, -⟩; iexact H
  hout c := by
    rw [Pipeline.ownSems0_none, show (pdats V b 0 c).Φ (Fin.last _) = BI.emp from rfl]
    iintro -
    isplitr; · iempintro
    isplitr; · iempintro
    rw [show Pipeline.scopedRest (Pipeline.pin (pcfgs (F := F)) adm 0).spec c = (BI.emp : sProp 𝕄) from scopedRest1_eq c]
    iempintro
  hexit c := by
    have hjoin := Pipeline.unscopedBufs_of_arrays (p := 0) (pcfgs (F := F)) adm (Ix := HIx 1) (Name := ℕ) (U := UU) (Lvl := ℕ) launch1.win launch1.arr_whole c
      (pdats V b) ((pdats V b 0 c).share_full fun _ => rfl) (fun r => V c (Proc.devRef .tc r)) (fun r => Pipeline.afterRegion (dat V b c) (V c) (Proc.devRef .tc r)) ((pdats V b 0 c).arrAt · cfg1.N)
      (fun w => (Pipeline.afterRegion_arr (dat V b c) (V c) launch1.win.arr_inj w).symm)
      (fun r hr => Pipeline.afterRegion_of_not_arr (dat V b c) (V c) fun w h => hr (h ▸ Finset.mem_image.mpr ⟨w, Finset.mem_univ _, rfl⟩))
    iintro ⟨Ha, HO, -, Hrest⟩
    imodintro
    isplitl [Ha Hrest]
    · iapply hjoin; isplitl [Ha] <;> iassumption
    icases HO with ⟨%W, %hW, HO⟩
    iexists W; isplitr
    · ipureintro
      intro p hp
      rcases hW hp with h | ⟨w, s, rfl⟩
      · exact h
      · exact Nat.zero_le _
    iexact HO

end Cert.KernelIdeal.Tc

end
-- ==== Proof.LaunchI.lean ====
/-
  The program's run: the host operations, the SparseCore call over its thirty-two tiles, the host operations between,
  the TensorCore region, the last two reshapes. What every buffer of the TensorCore holds at the end is one valuation.
-/
module

public import proofs.«01_k».proof.Proof.SplitI
public import proofs.«01_k».proof.Proof.TcRegionI

@[expose] public section

set_option maxRecDepth 4096

noncomputable section

namespace Cert.KernelIdeal.Sc

open Cert.KernelIdeal Cert.KernelIdeal.Gen Cert.Slots Cert.Model

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "xV" => (Memref.whole Cert.KernelIdeal.main_v1_scv : Memref Cert.KernelIdeal.sig Kind.scVector Space.hbm Cert.KernelIdeal.S393216 EltTy.f32)
local notation "gV" => (Memref.whole Cert.KernelIdeal.main_v3_scv : Memref Cert.KernelIdeal.sig Kind.scVector Space.hbm Cert.KernelIdeal.S393216 EltTy.f32)
local notation "rV" => (Memref.whole Cert.KernelIdeal.main_v5_scv : Memref Cert.KernelIdeal.sig Kind.scVector Space.hbm Cert.KernelIdeal.S64 EltTy.f32)
local notation "oV" => (Memref.whole Cert.KernelIdeal.main_v6_0_scv : Memref Cert.KernelIdeal.sig Kind.scVector Space.hbm Cert.KernelIdeal.S196608 EltTy.f32)
local notation "nV" => (Memref.whole Cert.KernelIdeal.main_v6_1_scv : Memref Cert.KernelIdeal.sig Kind.scVector Space.hbm Cert.KernelIdeal.S512 EltTy.i32)
local notation "sI0" => (Memref.whole Cert.KernelIdeal.cc0_scratch0 : Memref Cert.KernelIdeal.sig Kind.scVector Space.vmem Cert.KernelIdeal.S4096 EltTy.f32)
local notation "sI1" => (Memref.whole Cert.KernelIdeal.cc0_scratch1 : Memref Cert.KernelIdeal.sig Kind.scVector Space.vmem Cert.KernelIdeal.S4096 EltTy.f32)
local notation "sI2" => (Memref.whole Cert.KernelIdeal.cc0_scratch2 : Memref Cert.KernelIdeal.sig Kind.scVector Space.vmem Cert.KernelIdeal.S4096 EltTy.f32)
local notation "sI3" => (Memref.whole Cert.KernelIdeal.cc0_scratch3 : Memref Cert.KernelIdeal.sig Kind.scVector Space.vmem Cert.KernelIdeal.S4096 EltTy.f32)
local notation "sI4" => (Memref.whole Cert.KernelIdeal.cc0_scratch4 : Memref Cert.KernelIdeal.sig Kind.scVector Space.vmem Cert.KernelIdeal.S4096 EltTy.f32)
local notation "sI5" => (Memref.whole Cert.KernelIdeal.cc0_scratch5 : Memref Cert.KernelIdeal.sig Kind.scVector Space.vmem Cert.KernelIdeal.S4096 EltTy.f32)
local notation "sO0" => (Memref.whole Cert.KernelIdeal.cc0_scratch6 : Memref Cert.KernelIdeal.sig Kind.scVector Space.vmem Cert.KernelIdeal.S1040 EltTy.f32)
local notation "sO1" => (Memref.whole Cert.KernelIdeal.cc0_scratch7 : Memref Cert.KernelIdeal.sig Kind.scVector Space.vmem Cert.KernelIdeal.S1040 EltTy.f32)
local notation "sO2" => (Memref.whole Cert.KernelIdeal.cc0_scratch8 : Memref Cert.KernelIdeal.sig Kind.scVector Space.vmem Cert.KernelIdeal.S1040 EltTy.f32)
local notation "sO3" => (Memref.whole Cert.KernelIdeal.cc0_scratch9 : Memref Cert.KernelIdeal.sig Kind.scVector Space.vmem Cert.KernelIdeal.S1040 EltTy.f32)
local notation "sO4" => (Memref.whole Cert.KernelIdeal.cc0_scratch10 : Memref Cert.KernelIdeal.sig Kind.scVector Space.vmem Cert.KernelIdeal.S1040 EltTy.f32)
local notation "sO5" => (Memref.whole Cert.KernelIdeal.cc0_scratch11 : Memref Cert.KernelIdeal.sig Kind.scVector Space.vmem Cert.KernelIdeal.S1040 EltTy.f32)
local notation "sR" => (Memref.whole Cert.KernelIdeal.cc0_scratch12 : Memref Cert.KernelIdeal.sig Kind.scVector Space.vmem Cert.KernelIdeal.S16 EltTy.f32)
local notation "sN" => (Memref.whole Cert.KernelIdeal.cc0_scratch13 : Memref Cert.KernelIdeal.sig Kind.scVector Space.vmem Cert.KernelIdeal.S16 EltTy.i32)

/-! ## @main as three lines of host operations around the two calls -/

/-- The host operations ahead of the SparseCore call. -/
abbrev opsA : List (HloOp τ sig (Elt F)) :=
  [ StableHlo.unary main_arg0 main_v0 ((transpose S4x3x32768 [0, 2, 1] · transposes_S4x32768x3_S4x3x32768_0_2_1) : (⟨S4x32768x3, .f32⟩ : BufTy).Contents (Elt F) → (⟨S4x3x32768, .f32⟩ : BufTy).Contents (Elt F)),
    StableHlo.reshape main_v0 main_v1 (rfl : (.f32 : EltTy) = .f32) shapeCasts_S4x3x32768_S393216,
    StableHlo.unary main_arg1 main_v2 ((transpose S4x3x32768 [0, 2, 1] · transposes_S4x32768x3_S4x3x32768_0_2_1) : (⟨S4x32768x3, .f32⟩ : BufTy).Contents (Elt F) → (⟨S4x3x32768, .f32⟩ : BufTy).Contents (Elt F)),
    StableHlo.reshape main_v2 main_v3 (rfl : (.f32 : EltTy) = .f32) shapeCasts_S4x3x32768_S393216,
    StableHlo.nullary main_c (constantI S_ 32 0#32),
    StableHlo.TRef.unary (StableHlo.TRef.of main_c : StableHlo.TRef sig ⟨S_, .i32⟩) main_call0.v0 (sitofp .f32),
    StableHlo.TRef.binary (StableHlo.TRef.of main_arg2 : StableHlo.TRef sig ⟨S4x3, .f32⟩) main_call0.v0 main_call0.v1 (fun x v => pad S4x16 ![0, 0] ![0, 13] ![0, 0] x v pads_S4x3_S4x16_000_0130 h_S_),
    StableHlo.reshape main_v4 main_v5 (rfl : (.f32 : EltTy) = .f32) shapeCasts_S4x16_S64 ]

/-- Those between the two calls. -/
abbrev opsB : List (HloOp τ sig (Elt F)) :=
  [ StableHlo.reshape main_v6_0 main_v7 (rfl : (.f32 : EltTy) = .f32) shapeCasts_S196608_S4x6x8192,
    StableHlo.unary main_v7 main_v8 ((extractStridedSlice S4x3x8192 ![0, 0, 0] · slices_S4x6x8192_S4x3x8192_0_0_0) : (⟨S4x6x8192, .f32⟩ : BufTy).Contents (Elt F) → (⟨S4x3x8192, .f32⟩ : BufTy).Contents (Elt F)),
    StableHlo.unary main_v7 main_v9 ((extractStridedSlice S4x3x8192 ![0, 3, 0] · slices_S4x6x8192_S4x3x8192_0_3_0) : (⟨S4x6x8192, .f32⟩ : BufTy).Contents (Elt F) → (⟨S4x3x8192, .f32⟩ : BufTy).Contents (Elt F)),
    StableHlo.reshape main_v6_1 main_v10 (rfl : (.i32 : EltTy) = .i32) shapeCasts_S512_S4x8x16,
    StableHlo.unary main_v10 main_v11 ((extractStridedSlice S4x8x1 ![0, 0, 0] · slices_S4x8x16_S4x8x1_0_0_0) : (⟨S4x8x16, .i32⟩ : BufTy).Contents (Elt F) → (⟨S4x8x1, .i32⟩ : BufTy).Contents (Elt F)),
    StableHlo.reshape main_v11 main_v12 (rfl : (.i32 : EltTy) = .i32) shapeCasts_S4x8x1_S4x8,
    StableHlo.unary main_arg3 main_v13 ((transpose S256x3 [1, 0] · transposes_S3x256_S256x3_1_0) : (⟨S3x256, .f32⟩ : BufTy).Contents (Elt F) → (⟨S256x3, .f32⟩ : BufTy).Contents (Elt F)),
    StableHlo.reshape main_arg4 main_v14 (rfl : (.f32 : EltTy) = .f32) shapeCasts_S256_S256x1,
    StableHlo.unary main_arg5 main_v15 ((transpose S256x256 [1, 0] · transposes_S256x256_S256x256_1_0) : (⟨S256x256, .f32⟩ : BufTy).Contents (Elt F) → (⟨S256x256, .f32⟩ : BufTy).Contents (Elt F)),
    StableHlo.reshape main_arg6 main_v16 (rfl : (.f32 : EltTy) = .f32) shapeCasts_S256_S256x1,
    StableHlo.unary main_arg7 main_v17 ((transpose S1x256 [1, 0] · transposes_S256x1_S1x256_1_0) : (⟨S256x1, .f32⟩ : BufTy).Contents (Elt F) → (⟨S1x256, .f32⟩ : BufTy).Contents (Elt F)),
    StableHlo.reshape main_arg8 main_v18 (rfl : (.f32 : EltTy) = .f32) shapeCasts_S1_S1x1,
    StableHlo.unary main_arg9 main_v19 ((transpose S256x3 [1, 0] · transposes_S3x256_S256x3_1_0) : (⟨S3x256, .f32⟩ : BufTy).Contents (Elt F) → (⟨S256x3, .f32⟩ : BufTy).Contents (Elt F)),
    StableHlo.reshape main_arg10 main_v20 (rfl : (.f32 : EltTy) = .f32) shapeCasts_S256_S256x1,
    StableHlo.unary main_arg11 main_v21 ((transpose S256x256 [1, 0] · transposes_S256x256_S256x256_1_0) : (⟨S256x256, .f32⟩ : BufTy).Contents (Elt F) → (⟨S256x256, .f32⟩ : BufTy).Contents (Elt F)),
    StableHlo.reshape main_arg12 main_v22 (rfl : (.f32 : EltTy) = .f32) shapeCasts_S256_S256x1,
    StableHlo.unary main_arg13 main_v23 ((transpose S9x256 [1, 0] · transposes_S256x9_S9x256_1_0) : (⟨S256x9, .f32⟩ : BufTy).Contents (Elt F) → (⟨S9x256, .f32⟩ : BufTy).Contents (Elt F)),
    StableHlo.reshape main_arg14 main_v24 (rfl : (.f32 : EltTy) = .f32) shapeCasts_S9_S9x1 ]

/-- Those after the TensorCore call. -/
abbrev opsC : List (HloOp τ sig (Elt F)) :=
  [ StableHlo.reshape main_v25_0 main_v26 (rfl : (.f32 : EltTy) = .f32) shapeCasts_S4x3x1_S4x3,
    StableHlo.reshape main_v25_1 main_v27 (rfl : (.f32 : EltTy) = .f32) shapeCasts_S4x9x1_S4x9 ]

/-- The program is three stretches of host code with a call after each of the first two. -/
theorem main_eq (d : Dev nD) : main (F := F) d
    = StableHlo.seq opsA >>= fun _ => (K (F := F)).run d 0 >>= fun _ => StableHlo.seq opsB >>= fun _ =>
        Prog.lift (.customCall (SparseCore.inner (Pipeline.entry 0)) ()) >>= fun _ => StableHlo.seq opsC >>= fun _ => pure ⟨⟩ := by
  simp only [main, fn_pad.body, bind_assoc, pure_bind, StableHlo.seq]

/-- The first stretch of host code uses the shared buffers only. -/
theorem opsA_sub : ∀ op ∈ (opsA : List (HloOp τ sig (Elt F))), op.bufs ⊆ Pipeline.ucRefs τ sig := by
  intro op h
  refine Pipeline.sub_ucRefs op ?_
  simp only [opsA, List.mem_cons, List.not_mem_nil, _root_.or_false] at h
  rcases h with rfl | rfl | rfl | rfl | rfl | rfl | rfl | rfl <;>
    first | exact StableHlo.unary_bufs_sub .. | exact StableHlo.reshape_bufs_sub .. | exact StableHlo.nullary_bufs_sub .. | exact StableHlo.binary_bufs_sub ..
/-- The second stretch of host code uses the shared buffers only. -/
theorem opsB_sub : ∀ op ∈ (opsB : List (HloOp τ sig (Elt F))), op.bufs ⊆ Pipeline.ucRefs τ sig := by
  intro op h
  refine Pipeline.sub_ucRefs op ?_
  simp only [opsB, List.mem_cons, List.not_mem_nil, _root_.or_false] at h
  rcases h with rfl | rfl | rfl | rfl | rfl | rfl | rfl | rfl | rfl | rfl | rfl | rfl | rfl | rfl | rfl | rfl | rfl | rfl <;>
    first | exact StableHlo.unary_bufs_sub .. | exact StableHlo.reshape_bufs_sub ..
/-- The third stretch of host code uses the shared buffers only. -/
theorem opsC_sub : ∀ op ∈ (opsC : List (HloOp τ sig (Elt F))), op.bufs ⊆ Pipeline.ucRefs τ sig := by
  intro op h
  refine Pipeline.sub_ucRefs op ?_
  simp only [opsC, List.mem_cons, List.not_mem_nil, _root_.or_false] at h
  rcases h with rfl | rfl <;> exact StableHlo.reshape_bufs_sub ..
/-- The first stretch of host code allocates nothing. -/
theorem opsA_fresh : ∀ op ∈ (opsA : List (HloOp τ sig (Elt F))), op.fresh = ∅ := by
  intro _ h; (repeat (cases h with | head => rfl | tail _ h => ?_)); exact nomatch h
/-- The second stretch of host code allocates nothing. -/
theorem opsB_fresh : ∀ op ∈ (opsB : List (HloOp τ sig (Elt F))), op.fresh = ∅ := by
  intro _ h; (repeat (cases h with | head => rfl | tail _ h => ?_)); exact nomatch h
/-- The third stretch of host code allocates nothing. -/
theorem opsC_fresh : ∀ op ∈ (opsC : List (HloOp τ sig (Elt F))), op.fresh = ∅ := by
  intro _ h; (repeat (cases h with | head => rfl | tail _ h => ?_)); exact nomatch h

/-! ## The valuations along @main -/

section Run

variable (m : (ℓ : Loc nD τ sig) → Buf (Elt F) ℓ) (ρ : Dev nD → PrngReg)

abbrev bx : DevRef τ sig := Proc.devRef .tc main_v1
abbrev bg : DevRef τ sig := Proc.devRef .tc main_v3
abbrev br : DevRef τ sig := Proc.devRef .tc main_v5
abbrev bo : DevRef τ sig := Proc.devRef .tc main_v6_0
abbrev bn : DevRef τ sig := Proc.devRef .tc main_v6_1

/-- At launch. -/
def V0 (d : Dev nD) : Valuation τ sig (Elt F) := fun b => m (d, b)
/-- When the SparseCore call starts. -/
def V1 (d : Dev nD) : Valuation τ sig (Elt F) := StableHlo.after opsA (V0 m d)
/-- The call's inputs. -/
def X (d : Dev nD) : Vec F S393216 .f32 := V1 m d bx
/-- The flat colours that the SparseCore call reads. -/
def G (d : Dev nD) : Vec F S393216 .f32 := V1 m d bg
/-- The flat, padded reference points that the SparseCore call reads. -/
def R (d : Dev nD) : Vec F S64 .f32 := V1 m d br
/-- When it has ended: the two results written. -/
def V2 (d : Dev nD) : Valuation τ sig (Elt F) :=
  Function.update (Function.update (V1 m d) bo (outC (X m d) (G m d) (R m d))) bn (outN (X m d) (R m d))
/-- When the TensorCore region starts. -/
def V3 (d : Dev nD) : Valuation τ sig (Elt F) := StableHlo.after opsB (V2 m d)
/-- The bound on the levels of what the TensorCore has waited for by then. -/
def lvl : ℕ := 8
/-- When it has ended. -/
def V4 (d : Dev nD) : Valuation τ sig (Elt F) := Pipeline.afterRegion (Tc.dat (V3 m) lvl d) (V3 m d)
/-- At the end. -/
def V5 (d : Dev nD) : Valuation τ sig (Elt F) := StableHlo.after opsC (V4 m d)

/-! ## What the handshakes carry -/

/-- A task's operands. -/
abbrev goT (d : Dev nD) (c : Fin 2) (i : Fin 16) : sProp 𝕄 := goP (X m) (G m) (R m) d (tl c i) (sh c i) (V1 m d bo) (V1 m d bn)
/-- A task's operands once it has run. -/
abbrev tdT (d : Dev nD) (c : Fin 2) (i : Fin 16) : sProp 𝕄 :=
  goP (X m) (G m) (R m) d (tl c i) (sh c i) (outC (X m d) (G m d) (R m d)) (outN (X m d) (R m d))

/-- The call gives each core its tasks' operands and brings them back with the results in them. -/
def P : (K (F := F)).Pay (nD := nD) (Val := Elt F) (Name := ℕ) (U := UU) where
  st := fun q d c => match q with | 0 => bigSep Finset.univ fun i : Fin 16 => goT m d (Fin.cast nCore_zero c) i
  dn := fun q d c => match q with | 0 => bigSep Finset.univ fun i : Fin 16 => tdT m d (Fin.cast nCore_zero c) i
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goT m d (Fin.cast nCore_zero c) i))
  dn q d c := match q with
    | 0 => (inferInstance : BI.Storable (upEmb : UEmb _ 𝕄) (bigSep Finset.univ fun i : Fin 16 => tdT m d (Fin.cast nCore_zero c) i))
  go q d c i := match q with
    | 0 => (inferInstance : BI.Storable (upEmb : UEmb _ 𝕄) (goT m d (Fin.cast nCore_zero c) (Fin.cast nSub_zero i)))
  td q d c i := match q with
    | 0 => (inferInstance : BI.Storable (upEmb : UEmb _ 𝕄) (tdT m d (Fin.cast nCore_zero c) (Fin.cast nSub_zero i)))

/-- A vector subcore runs the compaction's body. -/
theorem defs₀_vector (c : Fin τ.nSC) (s : Fin τ.nSub) :
    defs₀ (F := F) (.scVector c s) 0 ()
      = SparseCore.onTile hcore0 hsub0 (fun c s => cc0__sc_compact_body (coordsV c s)
          xV (Memref.isWhole_whole _) gV (Memref.isWhole_whole _) rV (Memref.isWhole_whole _) oV (Memref.isWhole_whole _) nV (Memref.isWhole_whole _) sI0 (Memref.isWhole_whole _) sI1 (Memref.isWhole_whole _) sI2 (Memref.isWhole_whole _) sI3 (Memref.isWhole_whole _) sI4 (Memref.isWhole_whole _) sI5 (Memref.isWhole_whole _) sO0 (Memref.isWhole_whole _) sO1 (Memref.isWhole_whole _) sO2 (Memref.isWhole_whole _) sO3 (Memref.isWhole_whole _) sO4 (Memref.isWhole_whole _) sO5 (Memref.isWhole_whole _) sR (Memref.isWhole_whole _) sN (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13) ⟨⟩ c s := rfl

/-- Every task does what the call asks of it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body (X m) (G m) (R m) d (coordsV ⟨_, hci.1⟩ ⟨_, hci.2⟩) hF (sh (Fin.cast nCore_zero c) (Fin.cast nSub_zero i)) _ _ O W hO

/-- A core's operands are its tasks'. -/
theorem vecSplit : (K (F := F)).VecSplit' (P m) 0 := by
  intro d c
  show (bigSep Finset.univ fun i : Fin 16 => goT m d (Fin.cast nCore_zero c) i) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ bigSep Finset.univ fun i : Fin 16 => tdT m d (Fin.cast nCore_zero c) i))
  have e : ∀ Φ : Fin 16 → sProp 𝕄, (bigSep Finset.univ fun i : Fin ((K (F := F)).nSub 0) => Φ (Fin.cast nSub_zero i)) = bigSep Finset.univ Φ :=
    fun Φ => bigSep_congr fun _ _ => congrArg Φ (Fin.ext rfl)
  rw [e, e]
  iintro H; imodintro
  isplitl [H]; · iexact H
  iintro H; iexact H

/-! ## The launch's ghost state: the handshakes' rounds and the pipeline's -/

abbrev pcf := Pipeline.pin (pcfgs (F := F)) Tc.adm

/-- The ghost state at the launch. -/
def u₀ : UU := (initOf (K (F := F)).hsCells (K (F := F)).hsToks,
  (initOf (Pipeline.cells (pcf (F := F)) cellOf_inj) (Pipeline.launchToks (pcf (F := F)) cellOf_inj), 1))

/-- The pipeline's ghost state on one device. -/
abbrev Gh (d : Dev nD) : sProp 𝕄 :=
  iprop(Pipeline.cellsGhost (pcf (F := F)) EP 0 d ∗ Pipeline.toksInit (pcf (F := F)) EP 0 d)

/-- Many empty resources are an empty resource. -/
theorem bigSep_emp' {I : Type} (s : Finset I) : (bigSep s fun _ => iprop(emp)) = (iprop(emp) : sProp 𝕄) := bigSep_emp_const s

/-- The launch's ghost state yields what the threads start with. -/
theorem hu₀ : (ownU (u₀ (F := F)) : sProp 𝕄)
    ⊢ |={Set.univ}=> iprop(BI.own (EH (initOf (K (F := F)).hsCells (K (F := F)).hsToks)) ∗ (bigSep Finset.univ Gh)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HP⟩
  ihave HP' := (own_pair_emb _ (initOf (Pipeline.cells (pcf (F := F)) cellOf_inj) (Pipeline.launchToks (pcf (F := F)) cellOf_inj)) (1 : Counters)) $$ HP
  icases HP' with ⟨HP, -⟩
  imod (Pipeline.fund_ghost (pcf (F := F)) EP cellOf_inj) $$ HP with ⟨Hc, Ht⟩
  imodintro
  isplitl [HH]; · iexact HH
  isplitl [Hc Ht]
  · ihave Hc' := (Entails.of_eq (bigSep_congr fun (c : Dev nD) _ => bigSep_univ_of_subsingleton (M := 𝕄) (Φ := fun p => Pipeline.cellsGhost (pcf (F := F)) EP p c) (0 : Fin 1))) $$ Hc
    ihave Ht' := (Entails.of_eq (bigSep_congr fun (c : Dev nD) _ => bigSep_univ_of_subsingleton (M := 𝕄) (Φ := fun p => Pipeline.toksInit (pcf (F := F)) EP p c) (0 : Fin 1))) $$ Ht
    ihave H := (Entails.of_eq (bigSep_sep' (Finset.univ : Finset (Dev nD)) (fun c => Pipeline.cellsGhost (pcf (F := F)) EP 0 c) (fun c => (Pipeline.toksInit (pcf (F := F)) EP 0 c : sProp 𝕄))).symm) $$ [Hc' Ht']
    · isplitl [Hc'] <;> iassumption
    iexact H
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The SparseCore call on the TensorCore's side -/

/-- The five buffers of the call. -/
abbrev five : Finset (DevRef τ sig) := {bx, bg, br, bo, bn}

/-- The SparseCore call's operands are shared buffers. -/
theorem five_sub : five ⊆ Pipeline.ucRefs τ sig := by
  intro b hb
  simp only [five, Finset.mem_insert, Finset.mem_singleton] at hb
  rcases hb with rfl | rfl | rfl | rfl | rfl <;> exact Pipeline.devRef_mem_ucRefs rfl

/-- Holding the SparseCore call's operands is holding the five arrays. -/
theorem held_five (d : Dev nD) (W : Valuation τ sig (Elt F)) :
    (StableHlo.held (SparseCore.T d) five W : sProp 𝕄)
      = iprop((xLoc d ↦{fullShare} W bx) ∗ (gLoc d ↦{fullShare} W bg) ∗ (rLoc d ↦{fullShare} W br) ∗ (oLoc d ↦{fullShare} W bo) ∗ nLoc d ↦{fullShare} W bn) := by
  unfold StableHlo.held five
  rw [SparseCore.bigSep_insert' (by decide), SparseCore.bigSep_insert' (by decide), SparseCore.bigSep_insert' (by decide), SparseCore.bigSep_insert' (by decide), bigSep_singleton]

/-- The SparseCore call leaves its coordinates as they were. -/
theorem V2_bx (d : Dev nD) : V2 m d bx = X m d :=
  (Function.update_of_ne (by decide) _ _).trans (Function.update_of_ne (by decide) _ _)
/-- The SparseCore call leaves its colours as they were. -/
theorem V2_bg (d : Dev nD) : V2 m d bg = G m d :=
  (Function.update_of_ne (by decide) _ _).trans (Function.update_of_ne (by decide) _ _)
/-- The SparseCore call leaves its reference points as they were. -/
theorem V2_br (d : Dev nD) : V2 m d br = R m d :=
  (Function.update_of_ne (by decide) _ _).trans (Function.update_of_ne (by decide) _ _)
/-- The SparseCore call leaves the compacted points. -/
theorem V2_bo (d : Dev nD) : V2 m d bo = outC (X m d) (G m d) (R m d) :=
  (Function.update_of_ne (by decide) _ _).trans (Function.update_self _ _ _)
/-- The SparseCore call leaves the counts. -/
theorem V2_bn (d : Dev nD) : V2 m d bn = outN (X m d) (R m d) := Function.update_self _ _ _

/-- The unscoped buffers ahead of the call: the tiles' operands and the rest. -/
theorem held_before (d : Dev nD) :
    (StableHlo.held (SparseCore.T d) (Pipeline.ucRefs τ sig) (V1 m d) : sProp 𝕄)
      = iprop(((left (xLoc d) (X m d) ∗ left (gLoc d) (G m d) ∗ left (rLoc d) (R m d))
          ∗ bigSep Finset.univ fun c : Fin 2 => bigSep Finset.univ fun i : Fin 16 => goT m d c i)
        ∗ StableHlo.held (SparseCore.T d) (Pipeline.ucRefs τ sig \ five) (V1 m d)) := by
  rw [StableHlo.held_sub_split _ five_sub, held_five]
  exact congrArg (fun p => iprop(p ∗ _)) (call_split (X m) (G m) (R m) d _ _)

/-- The same after it. -/
theorem held_after (d : Dev nD) :
    (StableHlo.held (SparseCore.T d) (Pipeline.ucRefs τ sig) (V2 m d) : sProp 𝕄)
      = iprop(((left (xLoc d) (X m d) ∗ left (gLoc d) (G m d) ∗ left (rLoc d) (R m d))
          ∗ bigSep Finset.univ fun c : Fin 2 => bigSep Finset.univ fun i : Fin 16 => tdT m d c i)
        ∗ StableHlo.held (SparseCore.T d) (Pipeline.ucRefs τ sig \ five) (V1 m d)) := by
  rw [StableHlo.held_sub_split _ five_sub, held_five, V2_bx, V2_bg, V2_br, V2_bo, V2_bn,
    StableHlo.held_congr _ (S := Pipeline.ucRefs τ sig \ five) (V := V2 m d) (V' := V1 m d) fun b hb => ?_]
  · exact congrArg (fun p => iprop(p ∗ _)) (call_split (X m) (G m) (R m) d _ _)
  · have hb' := (Finset.mem_sdiff.1 hb).2
    have h1 : b ≠ bn := by rintro rfl; exact hb' (by decide)
    have h2 : b ≠ bo := by rintro rfl; exact hb' (by decide)
    exact (Function.update_of_ne h1 _ _).trans (Function.update_of_ne h2 _ _)

/-! ## @main on the TensorCore -/

/-- What the TensorCore ends with: its unscoped buffers at the last valuation. -/
abbrev FIN (d : Dev nD) : sProp 𝕄 := StableHlo.held (SparseCore.T d) (Pipeline.ucRefs τ sig) (V5 m d)

/-- What the subcores receive, together. -/
theorem st0_eq (d : Dev nD) : (bigSep Finset.univ fun c : Fin ((K (F := F)).nCore 0) => (P m).st 0 d c)
    = bigSep Finset.univ fun c : Fin 2 => bigSep Finset.univ fun i : Fin 16 => goT m d c i := rfl
/-- What the subcores give back, together. -/
theorem dn0_eq (d : Dev nD) : (bigSep Finset.univ fun c : Fin ((K (F := F)).nCore 0) => (P m).dn 0 d c)
    = bigSep Finset.univ fun c : Fin 2 => bigSep Finset.univ fun i : Fin 16 => tdT m d c i := rfl

set_option backward.isDefEq.respectTransparency.types false in
set_option maxHeartbeats 2000000 in
/-- @main on a device's TensorCore, from the launch to its end. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show unscopedBufs d (fun b => m ((SparseCore.T d).loc b))
        = StableHlo.held (SparseCore.T d) (Pipeline.ucRefs τ sig) (V0 m d) from Pipeline.unscopedBufs_held d (V0 m d)]
  iintro ⟨#Hctx, Hst, ⟨Hb, Hbufs, Hts, -⟩, ⟨Hcg, Htk⟩⟩
  iapply (StableHlo.wp_seq 𝒱 none Set.univ d (Pipeline.ucRefs τ sig) _ opsA opsA_sub opsA_fresh (V0 m d)) $$ [Hb Hbufs]
  · isplitl [Hb] <;> iassumption
  iintro ⟨Hb, Hbufs⟩
  ihave Hs := (show StableHlo.held d.tc (Pipeline.ucRefs τ sig) (StableHlo.after opsA (V0 m d)) ⊢ _ from Entails.of_eq (held_before m d)) $$ Hbufs
  icases Hs with ⟨⟨Hleft, Hgo⟩, Hrest⟩
  rw [wp_bind]
  iapply ((K (F := F)).wp_run (D (F := F)) 𝒱 (EH := EH) (P := P m) κ d 0)
  isplitr; · iexact Hctx
  isplitl [Hst]; · iexact Hst
  isplitl [Hgo]; · rw [st0_eq]; iexact Hgo
  iintro ⟨Hst, Hdn⟩
  ihave Hdn' := (Entails.of_eq (dn0_eq m d)) $$ Hdn
  ihave Hbufs := (Entails.of_eq (held_after m d).symm) $$ [Hleft Hdn' Hrest]
  · isplitr [Hrest]
    · isplitl [Hleft]; · iexact Hleft
      iexact Hdn'
    iexact Hrest
  iapply (StableHlo.wp_seq 𝒱 none Set.univ d (Pipeline.ucRefs τ sig) _ opsB opsB_sub opsB_fresh (V2 m d)) $$ [Hb Hbufs]
  · isplitl [Hb] <;> iassumption
  iintro ⟨Hb, Hbufs⟩
  rw [show (Prog.lift (.customCall (SparseCore.inner (Pipeline.entry 0)) ()) : Prog (TpuEff nD τ sig (Elt F) (SparseCore.Sig (ΛP (F := F)) 1) .tc) PUnit)
      = SparseCore.liftProg (Prog.op (.customCall (Pipeline.entry 0) ()) fun x => .ret x) from rfl, wp_bind]
  iapply ((K (F := F)).wp_liftProg (D (F := F)) 𝒱 (SparseCore.T d) Set.univ none _ _)
  ihave #Hlev := ((K (F := F)).ctx_levAts κ) $$ Hctx
  unfold SparseCore.Cfg.tcSt
  icases Hst with ⟨⟨%W, %hW, HO⟩, Hst⟩
  iapply (Pipeline.RegionSeg.wp (pcfgs (F := F)) Tc.adm (Tc.pdats (V3 m) lvl) (none : HIx 1) cellOf_inj EP defs₀ Variants.none (K (F := F)).L (K (F := F)).lev
    (Tc.reg (V3 m) lvl) d none (fun _ h => nomatch h) (fun x => .ret x) _)
  rw [show (Tc.reg (V3 m) lvl).pre d = iprop(StableHlo.held (SparseCore.T d) (Pipeline.ucRefs τ sig) (V3 m d)
        ∗ ∃ W, ⌜∀ p ∈ W, (K (F := F)).lev ((d.tc : Thread nD τ), p.1) p.2 ≤ lvl⌝ ∗ owes (d.tc : Thread nD τ) (0 : CellTallies nD τ sig (HIx 1)) W) from
      congrArg (fun p => iprop(p ∗ _)) (Pipeline.unscopedBufs_held d (V3 m d)),
    show (Tc.reg (V3 m) lvl).post d = iprop(StableHlo.held (SparseCore.T d) (Pipeline.ucRefs τ sig) (V4 m d)
        ∗ ∃ W, ⌜∀ p ∈ W, (K (F := F)).lev ((d.tc : Thread nD τ), p.1) p.2 ≤ lvl⌝ ∗ owes (d.tc : Thread nD τ) (0 : CellTallies nD τ sig (HIx 1)) W) from
      congrArg (fun p => iprop(p ∗ _)) (Pipeline.unscopedBufs_held d (V4 m d))]
  isplitl [Hst Hts]
  · iintro ⟨Hb, Hbufs, %W', %hW', HO⟩
    rw [wp_ret]
    imodintro
    rw [show (StableHlo.seq opsC >>= fun _ => (pure ⟨⟩ : Prog (TpuEff nD τ sig (Elt F) (SparseCore.Sig (ΛP (F := F)) 1) .tc) PUnit)) = _ from rfl]
    iapply (StableHlo.wp_seq 𝒱 none Set.univ d (Pipeline.ucRefs τ sig) _ opsC opsC_sub opsC_fresh (V4 m d)) $$ [Hb Hbufs]
    · isplitl [Hb] <;> iassumption
    iintro ⟨Hb, Hbufs⟩
    rw [wp_pure]
    imodintro
    isplitl [Hst HO]
    · isplitl [HO]
      · iexists W'
        isplitr; · ipureintro; exact hW'
        rw [show (K (F := F)).Otc d 1 = 0 from (K (F := F)).Otc_end d (Nat.le_refl 1)]
        iexact HO
      iexact Hst
    isplitl [Hbufs]; · iexact Hbufs
    isplitl [Hb] <;> iassumption
  isplitl [Hb]; · iexact Hb
  isplitl [Hbufs HO]
  · isplitl [Hbufs]; · iexact Hbufs
    iexists W
    isplitr; · ipureintro; exact hW
    rw [← show (K (F := F)).Otc d 1 = 0 from (K (F := F)).Otc_end d (Nat.le_refl 1)]
    iexact HO
  isplitr; · iexact Hlev
  isplitl [Hcg] <;> iassumption

/-! ## The end -/

/-- Every unscoped buffer of the TensorCore at the last valuation. -/
def fq (d : Dev nD) (s' : Phys nD τ sig (Elt F)) : Prop := ∀ b ∈ Pipeline.ucRefs τ sig, s'.mem.mem (d, b) = V5 m d b

/-- At the end memory holds the stated contents. -/
theorem hfin (d : Dev nD) (s' : Phys nD τ sig (Elt F)) : iprop(FIN m d ∗ SI s') ⊢ (⌜fq m d s'⌝ : sProp 𝕄) := by
  refine BIBase.Entails.trans ?_ (pure_forall (PROP := sProp 𝕄) (φ := fun b => b ∈ Pipeline.ucRefs τ sig → s'.mem.mem (d, b) = V5 m d b)).2
  iintro ⟨H, HSI⟩ %b
  by_cases hb : b ∈ Pipeline.ucRefs τ sig
  · ihave Hx := (show FIN m d ⊢ ((d, b) ↦{fullShare} V5 m d b : sProp 𝕄) from bigSep_elim hb) $$ H
    ihave H := (SI_pointsTo_agree (st := s') (ℓ := (d, b)) (I := Finset.univ) (q := fullShare) (f := V5 m d b)) $$ [HSI Hx]
    · isplitl [HSI] <;> iassumption
    icases H with %h
    ipureintro; exact fun _ => funext fun i => h i (Finset.mem_univ i)
  · ipureintro; exact fun h => absurd h hb

/-- What a run ends with. -/
def QC : PUnit × MemSt nD τ sig (Elt F) → Prop := fun r =>
  (∀ (d : Dev nD), ∀ b ∈ Pipeline.ucRefs τ sig, r.2.mem (d, b) = V5 m d b) ∧ r.2.sem = fun _ => 0

/-- Every run ends with the stated contents of every shared buffer and all counters at zero. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main Gh (FIN m) (u₀ (F := F)) (sep_elim_left.trans (hu₀ m)) (hmain m ρ) (fq m) (hfin m) (QC m) (fun _ h hz => ⟨h, hz⟩)

end Run

end Cert.KernelIdeal.Sc

end
-- ==== Proof.FrameI.lean ====
/-
  What the program leaves alone: none of its host operations and neither of its calls writes an argument, so each
  argument array ends as it began. With the counters at zero this is the frame.
-/
module

public import proofs.«01_k».proof.Defs
public import proofs.«01_k».proof.Proof.LaunchI

@[expose] public section

set_option maxRecDepth 4096

noncomputable section

namespace Cert.KernelIdeal.Sc

open Cert.KernelIdeal Cert.KernelIdeal.Gen Cert.Model

open Idealize.ShloMosaic Idealize.SL Idealize.SL.Sem

variable {F : FTy → Type} [FloatOps F] [Named F]

/-- The arrays the first line of host operations writes. -/
abbrev wrA : List (Ref sig .tc) := [main_v0, main_v1, main_v2, main_v3, main_c, main_call0_v0, main_v4, main_v5]
/-- Those the second line writes. -/
abbrev wrB : List (Ref sig .tc) := [main_v7, main_v8, main_v9, main_v10, main_v11, main_v12, main_v13, main_v14, main_v15, main_v16,
  main_v17, main_v18, main_v19, main_v20, main_v21, main_v22, main_v23, main_v24]
/-- Those the last line writes. -/
abbrev wrC : List (Ref sig .tc) := [main_v26, main_v27]

/-- The host code before the SparseCore call writes the listed buffers only. -/
theorem opsA_writes : (opsA : List (HloOp τ sig (Elt F))).Forall fun op => op.writes ⊆ (wrA.map (Proc.devRef (τ := τ) .tc)).toFinset :=
  StableHlo.forall_writes_sub_of_map rfl
/-- The host code between the two calls writes the listed buffers only. -/
theorem opsB_writes : (opsB : List (HloOp τ sig (Elt F))).Forall fun op => op.writes ⊆ (wrB.map (Proc.devRef (τ := τ) .tc)).toFinset :=
  StableHlo.forall_writes_sub_of_map rfl
/-- The host code after the TensorCore call writes the listed buffers only. -/
theorem opsC_writes : (opsC : List (HloOp τ sig (Elt F))).Forall fun op => op.writes ⊆ (wrC.map (Proc.devRef (τ := τ) .tc)).toFinset :=
  StableHlo.forall_writes_sub_of_map rfl

section
variable (m : (ℓ : Loc nD τ sig) → Buf (Elt F) ℓ)

/-- The host code before the SparseCore call leaves every other buffer as it was. -/
theorem V1_keep (d : Dev nD) (r : Ref sig .tc) (h : r ∉ wrA) : V1 m d (Proc.devRef .tc r) = m (d, Proc.devRef .tc r) :=
  StableHlo.after_of_writes_sub opsA _ opsA_writes h

/-- The SparseCore call leaves every buffer but its two results as it was. -/
theorem V2_keep (d : Dev nD) (r : Ref sig .tc) (h₀ : r ≠ main_v6_0) (h₁ : r ≠ main_v6_1) :
    V2 m d (Proc.devRef .tc r) = V1 m d (Proc.devRef .tc r) := by
  unfold V2
  rw [Function.update_of_ne (fun e => h₁ (Proc.devRef_injective _ e)), Function.update_of_ne (fun e => h₀ (Proc.devRef_injective _ e))]

/-- The host code between the two calls leaves every other buffer as it was. -/
theorem V3_keep (d : Dev nD) (r : Ref sig .tc) (h : r ∉ wrB) : V3 m d (Proc.devRef .tc r) = V2 m d (Proc.devRef .tc r) :=
  StableHlo.after_of_writes_sub opsB _ opsB_writes h

/-- The TensorCore call leaves every buffer that is no operand of it as it was. -/
theorem V4_keep (d : Dev nD) (r : Ref sig .tc) (h : ∀ w, r ≠ Pipeline.arrRef spec1 w) :
    V4 m d (Proc.devRef .tc r) = V3 m d (Proc.devRef .tc r) :=
  Pipeline.afterRegion_of_not_arr (Tc.dat (V3 m) lvl d) (V3 m d) h

/-- A buffer that no step writes ends as it began. -/
theorem V5_keep (d : Dev nD) (r : Ref sig .tc) (hA : r ∉ wrA) (hB : r ∉ wrB) (hC : r ∉ wrC) (h₀ : r ≠ main_v6_0) (h₁ : r ≠ main_v6_1)
    (h : ∀ w, r ≠ Pipeline.arrRef spec1 w) : V5 m d (Proc.devRef .tc r) = m (d, Proc.devRef .tc r) :=
  (StableHlo.after_of_writes_sub opsC _ opsC_writes hC).trans
    ((V4_keep m d r h).trans ((V3_keep m d r hB).trans ((V2_keep m d r h₀ h₁).trans (V1_keep m d r hA))))

/-- Argument 0 ends as it began. -/
theorem V5_arg0 (d : Dev nD) : V5 m d (Proc.devRef .tc main_arg0) = m ((d.tc : Thread nD τ).loc main_arg0) :=
  V5_keep m d main_arg0 (by decide) (by decide) (by decide) (by decide) (by decide) (by decide)
/-- Argument 1 ends as it began. -/
theorem V5_arg1 (d : Dev nD) : V5 m d (Proc.devRef .tc main_arg1) = m ((d.tc : Thread nD τ).loc main_arg1) :=
  V5_keep m d main_arg1 (by decide) (by decide) (by decide) (by decide) (by decide) (by decide)
/-- Argument 2 ends as it began. -/
theorem V5_arg2 (d : Dev nD) : V5 m d (Proc.devRef .tc main_arg2) = m ((d.tc : Thread nD τ).loc main_arg2) :=
  V5_keep m d main_arg2 (by decide) (by decide) (by decide) (by decide) (by decide) (by decide)
/-- Argument 3 ends as it began. -/
theorem V5_arg3 (d : Dev nD) : V5 m d (Proc.devRef .tc main_arg3) = m ((d.tc : Thread nD τ).loc main_arg3) :=
  V5_keep m d main_arg3 (by decide) (by decide) (by decide) (by decide) (by decide) (by decide)
/-- Argument 4 ends as it began. -/
theorem V5_arg4 (d : Dev nD) : V5 m d (Proc.devRef .tc main_arg4) = m ((d.tc : Thread nD τ).loc main_arg4) :=
  V5_keep m d main_arg4 (by decide) (by decide) (by decide) (by decide) (by decide) (by decide)
/-- Argument 5 ends as it began. -/
theorem V5_arg5 (d : Dev nD) : V5 m d (Proc.devRef .tc main_arg5) = m ((d.tc : Thread nD τ).loc main_arg5) :=
  V5_keep m d main_arg5 (by decide) (by decide) (by decide) (by decide) (by decide) (by decide)
/-- Argument 6 ends as it began. -/
theorem V5_arg6 (d : Dev nD) : V5 m d (Proc.devRef .tc main_arg6) = m ((d.tc : Thread nD τ).loc main_arg6) :=
  V5_keep m d main_arg6 (by decide) (by decide) (by decide) (by decide) (by decide) (by decide)
/-- Argument 7 ends as it began. -/
theorem V5_arg7 (d : Dev nD) : V5 m d (Proc.devRef .tc main_arg7) = m ((d.tc : Thread nD τ).loc main_arg7) :=
  V5_keep m d main_arg7 (by decide) (by decide) (by decide) (by decide) (by decide) (by decide)
/-- Argument 8 ends as it began. -/
theorem V5_arg8 (d : Dev nD) : V5 m d (Proc.devRef .tc main_arg8) = m ((d.tc : Thread nD τ).loc main_arg8) :=
  V5_keep m d main_arg8 (by decide) (by decide) (by decide) (by decide) (by decide) (by decide)
/-- Argument 9 ends as it began. -/
theorem V5_arg9 (d : Dev nD) : V5 m d (Proc.devRef .tc main_arg9) = m ((d.tc : Thread nD τ).loc main_arg9) :=
  V5_keep m d main_arg9 (by decide) (by decide) (by decide) (by decide) (by decide) (by decide)
/-- Argument 10 ends as it began. -/
theorem V5_arg10 (d : Dev nD) : V5 m d (Proc.devRef .tc main_arg10) = m ((d.tc : Thread nD τ).loc main_arg10) :=
  V5_keep m d main_arg10 (by decide) (by decide) (by decide) (by decide) (by decide) (by decide)
/-- Argument 11 ends as it began. -/
theorem V5_arg11 (d : Dev nD) : V5 m d (Proc.devRef .tc main_arg11) = m ((d.tc : Thread nD τ).loc main_arg11) :=
  V5_keep m d main_arg11 (by decide) (by decide) (by decide) (by decide) (by decide) (by decide)
/-- Argument 12 ends as it began. -/
theorem V5_arg12 (d : Dev nD) : V5 m d (Proc.devRef .tc main_arg12) = m ((d.tc : Thread nD τ).loc main_arg12) :=
  V5_keep m d main_arg12 (by decide) (by decide) (by decide) (by decide) (by decide) (by decide)
/-- Argument 13 ends as it began. -/
theorem V5_arg13 (d : Dev nD) : V5 m d (Proc.devRef .tc main_arg13) = m ((d.tc : Thread nD τ).loc main_arg13) :=
  V5_keep m d main_arg13 (by decide) (by decide) (by decide) (by decide) (by decide) (by decide)
/-- Argument 14 ends as it began. -/
theorem V5_arg14 (d : Dev nD) : V5 m d (Proc.devRef .tc main_arg14) = m ((d.tc : Thread nD τ).loc main_arg14) :=
  V5_keep m d main_arg14 (by decide) (by decide) (by decide) (by decide) (by decide) (by decide)

end

/-- Every execution ends with the arguments as they were and the counters at zero. -/
theorem frame : Cert.quiescent_KernelIdeal := by
  intro m g _
  refine (θ_run defs _ _).mono (fun r h => ⟨fun d => ?_, h.2⟩) (run_main (F := Ideal) m g)
  exact ⟨(h.1 d _ (Pipeline.devRef_mem_ucRefs rfl)).trans (V5_arg0 m d), (h.1 d _ (Pipeline.devRef_mem_ucRefs rfl)).trans (V5_arg1 m d), (h.1 d _ (Pipeline.devRef_mem_ucRefs rfl)).trans (V5_arg2 m d), (h.1 d _ (Pipeline.devRef_mem_ucRefs rfl)).trans (V5_arg3 m d), (h.1 d _ (Pipeline.devRef_mem_ucRefs rfl)).trans (V5_arg4 m d), (h.1 d _ (Pipeline.devRef_mem_ucRefs rfl)).trans (V5_arg5 m d), (h.1 d _ (Pipeline.devRef_mem_ucRefs rfl)).trans (V5_arg6 m d), (h.1 d _ (Pipeline.devRef_mem_ucRefs rfl)).trans (V5_arg7 m d), (h.1 d _ (Pipeline.devRef_mem_ucRefs rfl)).trans (V5_arg8 m d), (h.1 d _ (Pipeline.devRef_mem_ucRefs rfl)).trans (V5_arg9 m d), (h.1 d _ (Pipeline.devRef_mem_ucRefs rfl)).trans (V5_arg10 m d), (h.1 d _ (Pipeline.devRef_mem_ucRefs rfl)).trans (V5_arg11 m d), (h.1 d _ (Pipeline.devRef_mem_ucRefs rfl)).trans (V5_arg12 m d), (h.1 d _ (Pipeline.devRef_mem_ucRefs rfl)).trans (V5_arg13 m d), (h.1 d _ (Pipeline.devRef_mem_ucRefs rfl)).trans (V5_arg14 m d)⟩

end Cert.KernelIdeal.Sc

end
-- ==== Proof.SlotIdx.lean ====
/-
  The compaction as a bijection: slot `k` below the count holds the value of the `k`-th marked place, and every marked
  place is some slot's.
-/
module

public import proofs.«01_k».proof.Proof.Slots

@[expose] public section

namespace Cert.Slots

variable {α : Type} (nr : ℕ → Prop) [DecidablePred nr]

/-- The place whose value slot `k` holds after `m` places. -/
def idx : ℕ → ℕ → ℕ
  | 0, _ => 0
  | m + 1, k => if nr m ∧ k = Nat.count nr m then m else idx m k

/-- The point of rank `k` is kept, and `k` points are kept before it. -/
theorem idx_spec (m k : ℕ) (h : k < Nat.count nr m) :
    idx nr m k < m ∧ nr (idx nr m k) ∧ Nat.count nr (idx nr m k) = k := by
  induction m with
  | zero => simp at h
  | succ m ih =>
    rw [idx]
    split
    · rename_i hk
      exact ⟨Nat.lt_succ_self m, hk.1, hk.2.symm⟩
    · rename_i hk
      rw [Nat.count_succ] at h
      have : k < Nat.count nr m := by
        split at h
        · rename_i hm
          have : k ≠ Nat.count nr m := fun e => hk ⟨hm, e⟩
          omega
        · simpa using h
      obtain ⟨a, b⟩ := ih this
      exact ⟨a.trans (Nat.lt_succ_self m), b⟩

/-- A slot below the count holds the value of the point of its rank. -/
theorem slot_idx (val : ℕ → α) (z : α) (m k : ℕ) (h : k < Nat.count nr m) :
    slot nr val z m k = val (idx nr m k) := by
  induction m with
  | zero => simp at h
  | succ m ih =>
    rw [idx]
    split
    · rename_i hk
      rw [slot, if_pos hk]
    · rename_i hk
      rw [slot, if_neg hk]
      rw [Nat.count_succ] at h
      refine ih ?_
      split at h
      · rename_i hm
        have : k ≠ Nat.count nr m := fun e => hk ⟨hm, e⟩
        omega
      · simpa using h

/-- A kept point is the point of its own rank. -/
theorem idx_count (m p : ℕ) (hp : p < m) (h : nr p) : idx nr m (Nat.count nr p) = p := by
  have hlt : Nat.count nr p < Nat.count nr m := by
    have h1 : Nat.count nr (p + 1) = Nat.count nr p + 1 := by rw [Nat.count_succ, if_pos h]
    have h2 := Nat.count_monotone nr (show p + 1 ≤ m from hp)
    omega
  obtain ⟨_, b, c⟩ := idx_spec nr m _ hlt
  exact Nat.count_injective b h c

end Cert.Slots
-- ==== Proof.Spec.lean ====
/-
  The estimator's arithmetic over the extended reals, with no mention of a program: a two-hidden-layer perceptron, a
  softmax over a set of points, the position it pools, the points near that position, the orientation they pool and its
  rows' normalisation. Every quantity is a sum over a finite set, so it moves along a map that is injective on the set.
-/
module

public import Idealize.ShloMosaic.PureOps.Ideal
public import Idealize.ShloMosaic.Lib.IdealHost

@[expose] public section

noncomputable section

namespace Cert.Spec

open Idealize.ShloMosaic Finset

/-- A perceptron of three inputs, two hidden layers of 256 units each and one output. -/
def mlp (W1 : Fin 3 → Fin 256 → EReal) (b1 : Fin 256 → EReal) (W2 : Fin 256 → Fin 256 → EReal) (b2 : Fin 256 → EReal)
    (w3 : Fin 256 → EReal) (b3 : EReal) (g : Fin 3 → EReal) : EReal :=
  ∑ k, max (∑ j, max (∑ i, g i * W1 i j + b1 j) 0 * W2 j k + b2 k) 0 * w3 k + b3

variable {ι κ : Type} [DecidableEq ι] [DecidableEq κ]

/-- The normaliser of the softmax of `f` over `S`. -/
def tot (S : Finset ι) (f : ι → EReal) : EReal := ∑ k ∈ S, Ideal.exp (f k - S.sup f)

/-- The softmax weight of `i` in `S`. -/
def att (S : Finset ι) (f : ι → EReal) (i : ι) : EReal := Ideal.div (Ideal.exp (f i - S.sup f)) (tot S f)

/-- A coordinate pooled with the softmax weights. -/
def pool (S : Finset ι) (f x : ι → EReal) : EReal := ∑ i ∈ S, x i * att S f i

/-- The points of `S` at most `T` from the pooled position. -/
def close (T : EReal) (S : Finset ι) (f : ι → EReal) (x : Fin 3 → ι → EReal) : Finset ι :=
  S.filter fun i => Ideal.sqrt (∑ c, (x c i - pool S f (x c)) * (x c i - pool S f (x c))) ≤ T

/-- One orientation feature: its mean over the close points, or the softmax's pooling when there is none. -/
def ori (T : EReal) (S : Finset ι) (f : ι → EReal) (x : Fin 3 → ι → EReal) (o : ι → EReal) : EReal :=
  if 0 < (close T S f x).card then Ideal.div (∑ i ∈ close T S f x, o i) (max (((close T S f x).card : ℝ) : EReal) 1)
  else pool S f o

/-- The row of three that entry `o` of nine lies in. -/
def row (v : Fin 9 → EReal) (o : Fin 9) (c : Fin 3) : EReal := v ⟨o.val / 3 * 3 + c.val, by omega⟩

/-- An entry of nine divided by its row's length plus `e`. -/
def unit (e : EReal) (v : Fin 9 → EReal) (o : Fin 9) : EReal :=
  Ideal.div (v o) (Ideal.sqrt (∑ c, row v o c * row v o c) + e)

/-! ## Along a map injective on the set -/

section Transport

variable (σ : ι → κ) (S : Finset ι) (h : Set.InjOn σ S) (f : κ → EReal) (g : ι → EReal) (hg : ∀ i ∈ S, g i = f (σ i))

include hg in
/-- The largest value over the image. -/
theorem sup_image' : (S.image σ).sup f = S.sup g := by
  rw [Finset.sup_image]; exact (Finset.sup_congr rfl hg).symm

include h hg in
/-- The normaliser over the image. -/
theorem tot_image : tot (S.image σ) f = tot S g := by
  unfold tot
  rw [Finset.sum_image h, sup_image' σ S f g hg]
  exact Finset.sum_congr rfl fun i hi => by rw [hg i hi]

include h hg in
/-- A weight over the image. -/
theorem att_image (i : ι) (hi : i ∈ S) : att (S.image σ) f (σ i) = att S g i := by
  unfold att
  rw [tot_image σ S h f g hg, sup_image' σ S f g hg, hg i hi]

include h hg in
/-- A weighted sum over the image. -/
theorem pool_image (x : κ → EReal) (y : ι → EReal) (hx : ∀ i ∈ S, y i = x (σ i)) : pool (S.image σ) f x = pool S g y := by
  unfold pool
  rw [Finset.sum_image h]
  exact Finset.sum_congr rfl fun i hi => by rw [att_image σ S h f g hg i hi, hx i hi]

include h hg in
/-- The close points of the image are the image of the close points. -/
theorem close_image (T : EReal) (x : Fin 3 → κ → EReal) (y : Fin 3 → ι → EReal) (hx : ∀ c, ∀ i ∈ S, y c i = x c (σ i)) :
    close T (S.image σ) f x = (close T S g y).image σ := by
  unfold close
  ext j
  simp only [Finset.mem_filter, Finset.mem_image]
  have e : ∀ c, pool (S.image σ) f (x c) = pool S g (y c) := fun c => pool_image σ S h f g hg _ _ (hx c)
  constructor
  · rintro ⟨⟨i, hi, rfl⟩, hj⟩
    refine ⟨i, ⟨hi, ?_⟩, rfl⟩
    simpa only [e, hx _ i hi] using hj
  · rintro ⟨i, ⟨hi, hj⟩, rfl⟩
    refine ⟨⟨i, hi, rfl⟩, ?_⟩
    simpa only [e, hx _ i hi] using hj

include h hg in
/-- An orientation feature over the image. -/
theorem ori_image (T : EReal) (x : Fin 3 → κ → EReal) (y : Fin 3 → ι → EReal) (hx : ∀ c, ∀ i ∈ S, y c i = x c (σ i))
    (o : κ → EReal) (p : ι → EReal) (ho : ∀ i ∈ S, p i = o (σ i)) : ori T (S.image σ) f x o = ori T S g y p := by
  have hsub : (close T S g y : Set ι) ⊆ S := fun i hi => (Finset.mem_filter.1 hi).1
  unfold ori
  rw [close_image σ S h f g hg T x y hx, Finset.card_image_of_injOn (h.mono hsub), Finset.sum_image (h.mono hsub),
    pool_image σ S h f g hg o p ho]
  rw [Finset.sum_congr rfl fun i hi => (ho i (hsub hi)).symm]

end Transport

/-! ## The normaliser is not zero -/

/-- The exponential of minus infinity. -/
theorem exp_bot : Ideal.exp ⊥ = 0 := rfl
/-- The exponential of infinity. -/
theorem exp_top : Ideal.exp ⊤ = ⊤ := rfl
/-- The exponential of a real. -/
theorem exp_coe (r : ℝ) : Ideal.exp (r : EReal) = (Real.exp r : EReal) := rfl

/-- An exponential is not negative. -/
theorem exp_nonneg (x : EReal) : 0 ≤ Ideal.exp x := by
  induction x with
  | bot => exact le_of_eq exp_bot.symm
  | top => rw [exp_top]; exact le_top
  | coe r => rw [exp_coe]; exact_mod_cast (Real.exp_pos r).le

/-- Where the set is not empty and its logits are real, the largest logit contributes one. -/
theorem tot_ne_zero (S : Finset ι) (f : ι → EReal) (hS : S.Nonempty) (hf : ∀ i ∈ S, f i ≠ ⊥ ∧ f i ≠ ⊤) : tot S f ≠ 0 := by
  obtain ⟨i, hi, e⟩ := Finset.exists_mem_eq_sup S hS f
  unfold tot
  have h1 : Ideal.exp (f i - S.sup f) = 1 := by
    rw [e]
    obtain ⟨h0, h1⟩ := hf i hi
    lift f i to ℝ using ⟨h1, h0⟩ with r hr
    rw [← EReal.coe_sub, sub_self, exp_coe, Real.exp_zero, EReal.coe_one]
  have h2 : (1 : EReal) ≤ ∑ k ∈ S, Ideal.exp (f k - S.sup f) := by
    rw [← h1]; exact Finset.single_le_sum (f := fun k => Ideal.exp (f k - S.sup f)) (fun k _ => exp_nonneg _) hi
  intro h
  rw [h] at h2
  exact absurd h2 (by norm_num)

/-! ## The masked forms -/

section Mask

variable [Fintype ι] (P : ι → Prop) [DecidablePred P] (f : ι → EReal)

/-- The points where the mask holds. -/
def on : Finset ι := Finset.univ.filter P

/-- Membership in the set of points where the mask holds. -/
theorem mem_on (i : ι) : i ∈ on P ↔ P i := by simp [on]

/-- The largest logit, those off the mask set to −∞. -/
theorem fold_max_mask : Finset.univ.fold max ⊥ (fun i => if P i then f i else ⊥) = (on P).sup f := by
  have : Finset.univ.fold max ⊥ (fun i => if P i then f i else ⊥) = Finset.univ.sup (fun i => if P i then f i else (⊥ : EReal)) := rfl
  rw [this, Finset.sup_ite]
  simp [on]

/-- A sum gated by membership is the sum over the set. -/
theorem sum_mem (C : Finset ι) (e : ι → EReal) : (∑ i, if i ∈ C then e i else 0) = ∑ i ∈ C, e i := by
  rw [← Finset.sum_filter]
  congr 1
  ext n; simp

/-- The sum of the membership bits is the number of members. -/
theorem card_mem (C : Finset ι) : (∑ i, if i ∈ C then (1 : EReal) else 0) = ((C.card : ℝ) : EReal) := by
  rw [Finset.sum_boole, EReal.coe_natCast]
  congr 2
  ext n; simp

/-- A masked sum is a sum over the mask. -/
theorem sum_mask (e : ι → EReal) : (∑ i, if P i then e i else 0) = ∑ i ∈ on P, e i := by
  rw [on, Finset.sum_filter]

/-- Weights gated by the mask pool over the points where it holds. -/
theorem pool_mask (x a : ι → EReal) : (∑ i, x i * (if P i then a i else 0)) = ∑ i ∈ on P, x i * a i := by
  rw [on, Finset.sum_filter]
  exact Finset.sum_congr rfl fun i _ => by split <;> simp

/-- The weights where lanes off the mask are dropped from the exponentials. -/
theorem att_drop (h : tot (on P) f ≠ 0) (i : ι) :
    Ideal.div (if P i then Ideal.exp ((if P i then f i else ⊥) - (on P).sup f) else 0)
      (∑ k, if P k then Ideal.exp ((if P k then f k else ⊥) - (on P).sup f) else 0)
      = if P i then att (on P) f i else 0 := by
  have e : (∑ k, if P k then Ideal.exp ((if P k then f k else ⊥) - (on P).sup f) else 0) = tot (on P) f := by
    rw [tot, ← sum_mask]
    exact Finset.sum_congr rfl fun k _ => by split <;> rfl
  rw [e]
  split
  · rfl
  · exact Ideal.zero_div h

/-- The weights where points off the mask have the logit −∞. -/
theorem att_bot (h : tot (on P) f ≠ 0) (i : ι) :
    Ideal.div (Ideal.exp ((if P i then f i else ⊥) - (on P).sup f))
      (∑ k, Ideal.exp ((if P k then f k else ⊥) - (on P).sup f))
      = if P i then att (on P) f i else 0 := by
  rw [← att_drop P f h i]
  have e : ∀ k, (if P k then Ideal.exp ((if P k then f k else ⊥) - (on P).sup f) else 0)
      = Ideal.exp ((if P k then f k else ⊥) - (on P).sup f) := by
    intro k
    split
    · rfl
    · rw [EReal.bot_sub, exp_bot]
  rw [e i, Finset.sum_congr rfl fun k _ => e k]

end Mask

/-! ## Real values are closed under the perceptron -/

/-- A value that is neither infinity. -/
def Fin' (x : EReal) : Prop := x ≠ ⊥ ∧ x ≠ ⊤

/-- A real is finite. -/
theorem fin_coe (r : ℝ) : Fin' (r : EReal) := ⟨EReal.coe_ne_bot r, EReal.coe_ne_top r⟩

/-- The finite extended reals are the reals. -/
theorem fin_iff (x : EReal) : Fin' x ↔ ∃ r : ℝ, x = r := by
  constructor
  · rintro ⟨h0, h1⟩
    exact ⟨x.toReal, (EReal.coe_toReal h1 h0).symm⟩
  · rintro ⟨r, rfl⟩; exact fin_coe r

/-- Zero is finite. -/
theorem fin_zero : Fin' 0 := fin_coe 0

/-- A sum of finite numbers is finite. -/
theorem fin_add {x y : EReal} (hx : Fin' x) (hy : Fin' y) : Fin' (x + y) := by
  obtain ⟨a, rfl⟩ := (fin_iff x).1 hx
  obtain ⟨b, rfl⟩ := (fin_iff y).1 hy
  rw [← EReal.coe_add]; exact fin_coe _

/-- A product of finite numbers is finite. -/
theorem fin_mul {x y : EReal} (hx : Fin' x) (hy : Fin' y) : Fin' (x * y) := by
  obtain ⟨a, rfl⟩ := (fin_iff x).1 hx
  obtain ⟨b, rfl⟩ := (fin_iff y).1 hy
  rw [← EReal.coe_mul]; exact fin_coe _

/-- A maximum of finite numbers is finite. -/
theorem fin_max {x y : EReal} (hx : Fin' x) (hy : Fin' y) : Fin' (max x y) := by
  rcases max_choice x y with h | h <;> rw [h] <;> assumption

/-- A finite sum of finite numbers is finite. -/
theorem fin_sum {α : Type} (s : Finset α) (f : α → EReal) (hf : ∀ i ∈ s, Fin' (f i)) : Fin' (∑ i ∈ s, f i) := by
  classical
  induction s using Finset.induction_on with
  | empty => simpa using fin_zero
  | insert a s ha ih =>
    rw [Finset.sum_insert ha]
    exact fin_add (hf a (Finset.mem_insert_self a s)) (ih fun i hi => hf i (Finset.mem_insert_of_mem hi))

/-- A perceptron with finite weights sends a finite input to a finite output. -/
theorem fin_mlp {W1 : Fin 3 → Fin 256 → EReal} {b1 : Fin 256 → EReal} {W2 : Fin 256 → Fin 256 → EReal} {b2 : Fin 256 → EReal}
    {w3 : Fin 256 → EReal} {b3 : EReal} {g : Fin 3 → EReal} (h1 : ∀ i j, Fin' (W1 i j)) (h2 : ∀ j, Fin' (b1 j))
    (h3 : ∀ j k, Fin' (W2 j k)) (h4 : ∀ k, Fin' (b2 k)) (h5 : ∀ k, Fin' (w3 k)) (h6 : Fin' b3) (h7 : ∀ i, Fin' (g i)) :
    Fin' (mlp W1 b1 W2 b2 w3 b3 g) := by
  unfold mlp
  refine fin_add (fin_sum _ _ fun k _ => fin_mul (fin_max (fin_add (fin_sum _ _ fun j _ => fin_mul (fin_max
    (fin_add (fin_sum _ _ fun i _ => fin_mul (h7 i) (h1 i j)) (h2 j)) fin_zero) (h3 j k)) (h4 k)) fin_zero) (h5 k)) h6

/-! ## Comparing roots -/

/-- The root of infinity. -/
theorem sqrt_top : Ideal.sqrt ⊤ = ⊤ := rfl
/-- The root of a real. -/
theorem sqrt_coe (r : ℝ) : Ideal.sqrt (r : EReal) = if r < 0 then ⊥ else (Real.sqrt r : EReal) := rfl

/-- On non-negative arguments the root keeps and reflects order. -/
theorem sqrt_le_sqrt {x : EReal} (hx : 0 ≤ x) {r : ℝ} (hr : 0 ≤ r) : Ideal.sqrt x ≤ Ideal.sqrt (r : EReal) ↔ x ≤ (r : EReal) := by
  induction x with
  | bot => exact absurd hx (by simp)
  | top => rw [sqrt_top, sqrt_coe, if_neg (not_lt.2 hr)]; simp
  | coe a =>
    have ha : 0 ≤ a := by exact_mod_cast hx
    rw [sqrt_coe, sqrt_coe, if_neg (not_lt.2 ha), if_neg (not_lt.2 hr), EReal.coe_le_coe_iff, EReal.coe_le_coe_iff]
    exact Real.sqrt_le_sqrt_iff hr

/-- A square is not negative. -/
theorem mul_self_nonneg' (x : EReal) : 0 ≤ x * x := by
  induction x with
  | bot => simp
  | top => simp
  | coe a => rw [← EReal.coe_mul]; exact_mod_cast mul_self_nonneg a

end Cert.Spec

end
-- ==== Proof.Item.lean ====
/-
  One item of the batch, in terms of the fifteen arguments: which points lie within the radius, and each point's logit,
  orientation features and coordinates.
-/
module

public import proofs.«01_k».proof.Proof.Spec
public import Idealize.ShloMosaic.Lib.Pointwise

@[expose] public section

noncomputable section

namespace Cert.Item

open Idealize.ShloMosaic Cert.Spec

/-- The radius's square. -/
def sqRad : EReal := Ideal.ofBits FTy.f32 0x3DB851ED#32

/-- The radius of the pooled position's neighbourhood. -/
def rad : EReal := Ideal.ofBits FTy.f32 0x3CA3D70A#32

/-- What is added to a row's length before dividing by it. -/
def eps : EReal := Ideal.ofBits FTy.f32 0x322BCC77#32

/-- Point `p` of item `b` lies within the radius of the item's reference point. -/
def inside (A0 : FVec Ideal ⟨3, ![4, 32768, 3]⟩ .f32) (A2 : FVec Ideal ⟨2, ![4, 3]⟩ .f32) (b : Fin 4) (p : Fin 32768) : Prop :=
  (∑ x : Fin 3, (A0 (ix3 b p x) - A2 (ix2 b x)) * (A0 (ix3 b p x) - A2 (ix2 b x))) ≤ sqRad

instance (A0 : FVec Ideal ⟨3, ![4, 32768, 3]⟩ .f32) (A2 : FVec Ideal ⟨2, ![4, 3]⟩ .f32) (b : Fin 4) : DecidablePred (inside A0 A2 b) :=
  fun _ => Classical.propDecidable _

/-- A point's logit. -/
def lgt (A1 : FVec Ideal ⟨3, ![4, 32768, 3]⟩ .f32) (A3 : FVec Ideal ⟨2, ![3, 256]⟩ .f32) (A4 : FVec Ideal ⟨1, ![256]⟩ .f32)
    (A5 : FVec Ideal ⟨2, ![256, 256]⟩ .f32) (A6 : FVec Ideal ⟨1, ![256]⟩ .f32) (A7 : FVec Ideal ⟨2, ![256, 1]⟩ .f32)
    (A8 : FVec Ideal ⟨1, ![1]⟩ .f32) (b : Fin 4) (p : Fin 32768) : EReal :=
  mlp (fun i j => A3 (ix2 i j)) (fun j => A4 (ix1 j)) (fun j k => A5 (ix2 j k)) (fun k => A6 (ix1 k)) (fun k => A7 (ix2 k 0))
    (A8 (ix1 0)) (fun c => A1 (ix3 b p c))

/-- A point's orientation feature. -/
def feat (A1 : FVec Ideal ⟨3, ![4, 32768, 3]⟩ .f32) (A9 : FVec Ideal ⟨2, ![3, 256]⟩ .f32) (A10 : FVec Ideal ⟨1, ![256]⟩ .f32)
    (A11 : FVec Ideal ⟨2, ![256, 256]⟩ .f32) (A12 : FVec Ideal ⟨1, ![256]⟩ .f32) (A13 : FVec Ideal ⟨2, ![256, 9]⟩ .f32)
    (A14 : FVec Ideal ⟨1, ![9]⟩ .f32) (b : Fin 4) (o : Fin 9) (p : Fin 32768) : EReal :=
  mlp (fun i j => A9 (ix2 i j)) (fun j => A10 (ix1 j)) (fun j k => A11 (ix2 j k)) (fun k => A12 (ix1 k)) (fun k => A13 (ix2 k o))
    (A14 (ix1 o)) (fun c => A1 (ix3 b p c))

/-- A coordinate of a point. -/
def crd (A0 : FVec Ideal ⟨3, ![4, 32768, 3]⟩ .f32) (b : Fin 4) (c : Fin 3) (p : Fin 32768) : EReal := A0 (ix3 b p c)

/-- The radius's square is a positive real. -/
theorem sqRad_coe : ∃ r : ℝ, 0 ≤ r ∧ sqRad = (r : EReal) := by
  refine ⟨_, ?_, by unfold sqRad; simp [Ideal.ofBits, Ideal.ieee]; rfl⟩
  positivity

/-- A sum of three squares is not negative. -/
theorem sum_sq_nonneg (f : Fin 3 → EReal) : 0 ≤ ∑ x, f x * f x := Finset.sum_nonneg fun x _ => mul_self_nonneg' (f x)

/-- Comparing distances is comparing their squares. -/
theorem sqrt_inside (f : Fin 3 → EReal) : Ideal.sqrt (∑ x, f x * f x) ≤ Ideal.sqrt sqRad ↔ (∑ x, f x * f x) ≤ sqRad := by
  obtain ⟨r, hr, e⟩ := sqRad_coe
  rw [e]
  exact sqrt_le_sqrt (sum_sq_nonneg f) hr

/-! ## Words and bits -/

/-- The accumulator of a maximum is −∞. -/
theorem negInf : Ideal.ofBits FTy.f32 0xFF800000#32 = ⊥ := by simp [Ideal.ofBits, Ideal.ieee]

/-- A select on a decided bit. -/
theorem select_bit {α : Type} (p : Prop) [Decidable p] (a b : α) :
    Scalar.select (BitVec.ofBool (decide p)) a b = if p then a else b := by
  by_cases h : p <;> simp [h, Scalar.select]

/-- The conjunction of two decided bits. -/
theorem andi_bit (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

/-- The disjunction of two decided bits. -/
theorem ori_bit (p q : Prop) [Decidable p] [Decidable q] :
    IntOp.ori (BitVec.ofBool (decide p)) (BitVec.ofBool (decide q)) = BitVec.ofBool (decide (p ∨ q)) := by
  by_cases h : p <;> by_cases h' : q <;> simp [h, h', IntOp.ori]

/-- A decided bit is one exactly where the statement holds. -/
theorem bit_eq_one (p : Prop) [Decidable p] : BitVec.ofBool (decide p) = 1#1 ↔ p := by
  by_cases h : p <;> simp [h]

/-- A bit as a float, by either conversion: one or zero. -/
theorem sitofp_bit (p : Prop) [Decidable p] :
    (FloatOps.sitofp FTy.f32 (BitVec.setWidth 32 (BitVec.ofBool (decide p))) : Ideal .f32) = if p then 1 else 0 := by
  show (((BitVec.setWidth 32 (BitVec.ofBool (decide p))).toInt : ℝ) : EReal) = _
  by_cases h : p <;> simp [h]

/-- A decided bit as a float: one or zero. -/
theorem uitofp_bit (p : Prop) [Decidable p] :
    (FloatOps.uitofp FTy.f32 (BitVec.ofBool (decide p)) : Ideal .f32) = if p then 1 else 0 := by
  show (((BitVec.ofBool (decide p)).toNat : ℝ) : EReal) = _
  by_cases h : p <;> simp [h]

/-- A small number as a signed word is that number. -/
theorem toInt_ofNat {n : ℕ} (h : n < 2 ^ 31) : (BitVec.ofNat 32 n).toInt = n := by
  rw [BitVec.toInt_eq_toNat_of_lt] <;> simp [Nat.mod_eq_of_lt (show n < 4294967296 by omega)]; omega

/-- A small number as a word is above zero exactly when it is positive. -/
theorem sgt_zero {n : ℕ} (h : n < 2 ^ 31) : IntOp.cmpi .sgt (BitVec.ofNat 32 n) 0#32 = BitVec.ofBool (decide (0 < n)) := by
  have e : (0#32).slt (BitVec.ofNat 32 n) = decide (0 < n) := by
    rw [BitVec.slt, toInt_ofNat h]; simp
  exact congrArg BitVec.ofBool e

/-- The maximum of a small number and one, as a float. -/
theorem sitofp_maxsi {n : ℕ} (h : n < 2 ^ 31) :
    (FloatOps.sitofp FTy.f32 (IntOp.maxsi (BitVec.ofNat 32 n) 1#32) : Ideal .f32) = max ((n : ℝ) : EReal) 1 := by
  show (((IntOp.maxsi (BitVec.ofNat 32 n) 1#32).toInt : ℝ) : EReal) = _
  unfold IntOp.maxsi
  rw [BitVec.slt, toInt_ofNat h]
  have h1 : (1#32).toInt = 1 := by decide
  rw [h1]
  by_cases hn : 1 < n
  · rw [if_pos (by simpa using hn), toInt_ofNat h, max_eq_left]
    · norm_cast
    · exact_mod_cast hn.le
  · rw [if_neg (by simpa using hn), h1, max_eq_right]
    · norm_num
    · have : (n : ℝ) ≤ 1 := by exact_mod_cast not_lt.1 hn
      exact_mod_cast this

end Cert.Item

end
-- ==== Proof.LanesVal.lean ====
/-
  Which lanes of the pooling kernel hold a point: slot `s` of run `r` does when `s` is below the run's count.
-/
module

public import proofs.«01_k».proof.Proof.TcI
public import proofs.«01_k».proof.Proof.Item

@[expose] public section

noncomputable section

namespace Cert.KernelIdeal.Tc

open Idealize.ShloMosaic Cert.KernelIdeal Cert.KernelIdeal.Gen

/-- Lane `n` is in run `n / 1024`, at slot `n % 1024`. -/
def full (c : Fin 8 → ℕ) (n : Fin 8192) : Prop := n.val % 1024 < c ⟨n.val / 1024, by omega⟩

instance (c : Fin 8 → ℕ) : DecidablePred (full c) := fun _ => by unfold full; infer_instance

/-- Comparing small numbers as words: at least. -/
theorem sge_ofNat {n k : ℕ} (hn : n < 2 ^ 31) (hk : k < 2 ^ 31) :
    IntOp.cmpi .sge (BitVec.ofNat 32 n) (BitVec.ofNat 32 k) = BitVec.ofBool (decide (k ≤ n)) := by
  have e : (BitVec.ofNat 32 k).sle (BitVec.ofNat 32 n) = decide (k ≤ n) := by
    rw [BitVec.sle, Item.toInt_ofNat hn, Item.toInt_ofNat hk]; simp
  exact congrArg BitVec.ofBool e

/-- Comparing small numbers as words: less than. -/
theorem slt_ofNat {n k : ℕ} (hn : n < 2 ^ 31) (hk : k < 2 ^ 31) :
    IntOp.cmpi .slt (BitVec.ofNat 32 n) (BitVec.ofNat 32 k) = BitVec.ofBool (decide (n < k)) := by
  have e : (BitVec.ofNat 32 n).slt (BitVec.ofNat 32 k) = decide (n < k) := by
    rw [BitVec.slt, Item.toInt_ofNat hn, Item.toInt_ofNat hk]; simp
  exact congrArg BitVec.ofBool e

/-- One run's interval of lanes, as the kernel tests it. -/
theorem run_bit {n k c : ℕ} (hn : n < 8192) (hk : k < 8192) (hc : c ≤ 1024) :
    IntOp.andi (IntOp.cmpi .sge (BitVec.ofNat 32 n) (BitVec.ofNat 32 k))
      (IntOp.cmpi .slt (BitVec.ofNat 32 n) (Scalar.addi (BitVec.ofNat 32 k) (BitVec.ofNat 32 c)))
      = BitVec.ofBool (decide (k ≤ n ∧ n < k + c)) := by
  have e : Scalar.addi (BitVec.ofNat 32 k) (BitVec.ofNat 32 c) = BitVec.ofNat 32 (k + c) := (BitVec.ofNat_add ..).symm
  rw [e, sge_ofNat (by omega) (by omega), slt_ofNat (by omega) (by omega)]
  exact Item.andi_bit _ _

/-- The count a scalar load reads: the item's row of the table, at a fixed column. -/
theorem load_count (i : grid1.Coords) (x0 : Vec Ideal S4x8 .i32) (c : Fin 8 → ℕ)
    (h : ∀ r : Fin 8, x0 (ix2 (i 0) r) = BitVec.ofNat 32 (c r)) (r : Fin 8) (off : Fin 2 → ℕ) (ho : off = ![(i 0).val, r.val])
    (inb : ∀ a, off a + S1x1.size a ≤ S4x8.size a) :
    x0 ((Rect.unit (s := S4x8) off S1x1.size inb).point numel1_S1x1) = BitVec.ofNat 32 (c r) := by
  subst ho
  rw [← h]
  congr 1
  funext a; apply Fin.ext
  fin_cases a <;> rfl

/-- The kernel's mask of lanes: lane `n` is kept exactly when its run's count exceeds its slot. -/
theorem lanes_eq (i : grid1.Coords) (x0 : Vec Ideal S4x8 .i32) (c : Fin 8 → ℕ) (hc : ∀ r, c r ≤ 1024)
    (h : ∀ r : Fin 8, x0 (ix2 (i 0) r) = BitVec.ofNat 32 (c r)) (n : Fin 8192) :
    lanes (F := Ideal) i x0 (ix2 0 n) = BitVec.ofBool (decide (full c n)) := by
  have p0 := load_count i x0 c h 0 _ (k1_off1_eq i) (k1_off1_inb i)
  have p1 := load_count i x0 c h 1 _ (k1_off2_eq i) (k1_off2_inb i)
  have p2 := load_count i x0 c h 2 _ (k1_off3_eq i) (k1_off3_inb i)
  have p3 := load_count i x0 c h 3 _ (k1_off4_eq i) (k1_off4_inb i)
  have p4 := load_count i x0 c h 4 _ (k1_off5_eq i) (k1_off5_inb i)
  have p5 := load_count i x0 c h 5 _ (k1_off6_eq i) (k1_off6_inb i)
  have p6 := load_count i x0 c h 6 _ (k1_off7_eq i) (k1_off7_inb i)
  have p7 := load_count i x0 c h 7 _ (k1_off8_eq i) (k1_off8_inb i)
  have b0 := run_bit (c := c 0) n.isLt (k := 0) (by omega) (hc 0)
  have b1 := run_bit (c := c 1) n.isLt (k := 1024) (by omega) (hc 1)
  have b2 := run_bit (c := c 2) n.isLt (k := 2048) (by omega) (hc 2)
  have b3 := run_bit (c := c 3) n.isLt (k := 3072) (by omega) (hc 3)
  have b4 := run_bit (c := c 4) n.isLt (k := 4096) (by omega) (hc 4)
  have b5 := run_bit (c := c 5) n.isLt (k := 5120) (by omega) (hc 5)
  have b6 := run_bit (c := c 6) n.isLt (k := 6144) (by omega) (hc 6)
  have b7 := run_bit (c := c 7) n.isLt (k := 7168) (by omega) (hc 7)
  have key : lanes (F := Ideal) i x0 (ix2 0 n) = BitVec.ofBool (decide ((((((((0 ≤ n.val ∧ n.val < 0 + c 0) ∨ (1024 ≤ n.val ∧ n.val < 1024 + c 1))
      ∨ (2048 ≤ n.val ∧ n.val < 2048 + c 2)) ∨ (3072 ≤ n.val ∧ n.val < 3072 + c 3)) ∨ (4096 ≤ n.val ∧ n.val < 4096 + c 4))
      ∨ (5120 ≤ n.val ∧ n.val < 5120 + c 5)) ∨ (6144 ≤ n.val ∧ n.val < 6144 + c 6)) ∨ (7168 ≤ n.val ∧ n.val < 7168 + c 7))) := by
    rw [← Item.ori_bit, ← Item.ori_bit, ← Item.ori_bit, ← Item.ori_bit, ← Item.ori_bit, ← Item.ori_bit, ← Item.ori_bit,
      ← b0, ← b1, ← b2, ← b3, ← b4, ← b5, ← b6, ← b7, ← p0, ← p1, ← p2, ← p3, ← p4, ← p5, ← p6, ← p7]
    pointwise [lanes, k1_pay5, k1_pay4]
  refine key.trans (congrArg BitVec.ofBool (decide_eq_decide.2 ?_))
  obtain ⟨n, hn⟩ := n
  have h0 := hc 0
  have h1 := hc 1
  have h2 := hc 2
  have h3 := hc 3
  have h4 := hc 4
  have h5 := hc 5
  have h6 := hc 6
  have h7 := hc 7
  have hq : ∀ q (hq : q < 8), n / 1024 = q → (full c ⟨n, hn⟩ ↔ n % 1024 < c ⟨q, hq⟩) := by
    intro q hq e; subst e; exact Iff.rfl
  have lt : n / 1024 < 8 := by omega
  have cases8 : n / 1024 = 0 ∨ n / 1024 = 1 ∨ n / 1024 = 2 ∨ n / 1024 = 3 ∨ n / 1024 = 4 ∨ n / 1024 = 5 ∨ n / 1024 = 6 ∨ n / 1024 = 7 := by
    omega
  rcases cases8 with e | e | e | e | e | e | e | e
  · have := hq 0 (by omega) e; rw [this]; simp only [Fin.zero_eta] at *; omega
  · have := hq 1 (by omega) e; rw [this]; change _ ↔ _ < c 1; simp only at *; omega
  · have := hq 2 (by omega) e; rw [this]; change _ ↔ _ < c 2; simp only at *; omega
  · have := hq 3 (by omega) e; rw [this]; change _ ↔ _ < c 3; simp only at *; omega
  · have := hq 4 (by omega) e; rw [this]; change _ ↔ _ < c 4; simp only at *; omega
  · have := hq 5 (by omega) e; rw [this]; change _ ↔ _ < c 5; simp only at *; omega
  · have := hq 6 (by omega) e; rw [this]; change _ ↔ _ < c 6; simp only at *; omega
  · have := hq 7 (by omega) e; rw [this]; change _ ↔ _ < c 7; simp only at *; omega

end Cert.KernelIdeal.Tc

end
-- ==== Proof.Runs.lean ====
/-
  The lanes that hold a point, matched with the points they hold: lane `n` is slot `n % 1024` of run `n / 1024`, and
  the map sending it to its point is one to one onto the points within the radius, where no run overflows.
-/
module

public import proofs.«01_k».proof.Proof.SlotIdx
public import proofs.«01_k».proof.Proof.LanesVal

@[expose] public section

noncomputable section

namespace Cert.Runs

open Cert.Slots Cert.Spec Cert.KernelIdeal.Tc

variable (N : ℕ → ℕ → Prop) [∀ r, DecidablePred (N r)]

/-- How many points of run `r` are kept. -/
def cnt (r : Fin 8) : ℕ := Nat.count (N r.val) 4096

/-- The point that lane `n` holds. -/
def place (n : Fin 8192) : Fin 32768 :=
  ⟨n.val / 1024 * 4096 + idx (N (n.val / 1024)) 4096 (n.val % 1024) % 4096, by have := Nat.mod_lt (idx (N (n.val / 1024)) 4096 (n.val % 1024)) (show 0 < 4096 by omega); omega⟩

/-- A full lane's point: its run is the lane's, and its place in the run is the one whose rank is the lane's slot. -/
theorem place_spec (n : Fin 8192) (h : full (cnt N) n) :
    (place N n).val = n.val / 1024 * 4096 + idx (N (n.val / 1024)) 4096 (n.val % 1024) ∧ idx (N (n.val / 1024)) 4096 (n.val % 1024) < 4096
      ∧ N (n.val / 1024) (idx (N (n.val / 1024)) 4096 (n.val % 1024))
      ∧ Nat.count (N (n.val / 1024)) (idx (N (n.val / 1024)) 4096 (n.val % 1024)) = n.val % 1024 := by
  obtain ⟨a, b, c⟩ := idx_spec (N (n.val / 1024)) 4096 (n.val % 1024) h
  refine ⟨?_, a, b, c⟩
  exact congrArg (n.val / 1024 * 4096 + ·) (Nat.mod_eq_of_lt a)

/-- Two full lanes hold different points. -/
theorem place_inj : Set.InjOn (place N) (on (full (cnt N)) : Set (Fin 8192)) := by
  intro n hn n' hn' e
  have hn := (mem_on _ _).1 (Finset.mem_coe.1 hn)
  have hn' := (mem_on _ _).1 (Finset.mem_coe.1 hn')
  obtain ⟨a, b, c, k⟩ := place_spec N n hn
  obtain ⟨a', b', c', k'⟩ := place_spec N n' hn'
  have e' := congrArg Fin.val e
  rw [a, a'] at e'
  have hq : n.val / 1024 = n'.val / 1024 := by omega
  have hi : idx (N (n.val / 1024)) 4096 (n.val % 1024) = idx (N (n'.val / 1024)) 4096 (n'.val % 1024) := by omega
  rw [hi, hq] at k
  have : n.val % 1024 = n'.val % 1024 := k.symm.trans k'
  apply Fin.ext
  omega

/-- The points that the full lanes hold are exactly the points kept. -/
theorem place_image (P : Fin 32768 → Prop) [DecidablePred P] (hN : ∀ r (hr : r < 8) p (hp : p < 4096), N r p ↔ P ⟨r * 4096 + p, by omega⟩)
    (hc : ∀ r, cnt N r ≤ 1024) : (on (full (cnt N))).image (place N) = on P := by
  ext j
  rw [Finset.mem_image, mem_on]
  constructor
  · rintro ⟨n, hn, rfl⟩
    obtain ⟨a, b, c, k⟩ := place_spec N n ((mem_on _ _).1 hn)
    have := (hN _ (by omega) _ b).1 c
    have e : place N n = ⟨n.val / 1024 * 4096 + idx (N (n.val / 1024)) 4096 (n.val % 1024), by omega⟩ := Fin.ext a
    rw [e]; exact this
  · intro hj
    have hj' : P ⟨j.val / 4096 * 4096 + j.val % 4096, by omega⟩ := by
      have e : (⟨j.val / 4096 * 4096 + j.val % 4096, by omega⟩ : Fin 32768) = j := Fin.ext (by simp only; omega)
      rw [e]; exact hj
    have hp : j.val % 4096 < 4096 := Nat.mod_lt _ (by omega)
    have hn := (hN (j.val / 4096) (by omega) (j.val % 4096) hp).2 hj'
    have lt : Nat.count (N (j.val / 4096)) (j.val % 4096) < Nat.count (N (j.val / 4096)) 4096 := by
      have h1 : Nat.count (N (j.val / 4096)) (j.val % 4096 + 1) = Nat.count (N (j.val / 4096)) (j.val % 4096) + 1 := by
        rw [Nat.count_succ, if_pos hn]
      have h2 := Nat.count_monotone (N (j.val / 4096)) (show j.val % 4096 + 1 ≤ 4096 from hp)
      omega
    have hr : j.val / 4096 < 8 := by omega
    have le := hc ⟨j.val / 4096, hr⟩
    have ic := idx_count (N (j.val / 4096)) 4096 (j.val % 4096) hp hn
    generalize hk : Nat.count (N (j.val / 4096)) (j.val % 4096) = k at *
    have hk' : k < 1024 := lt_of_lt_of_le lt le
    have e1 : (j.val / 4096 * 1024 + k) / 1024 = j.val / 4096 := by omega
    have e2 : (j.val / 4096 * 1024 + k) % 1024 = k := by omega
    have hf : full (cnt N) ⟨j.val / 4096 * 1024 + k, by omega⟩ := by
      unfold full cnt
      simp only [e1, e2]
      exact lt
    refine ⟨⟨j.val / 4096 * 1024 + k, by omega⟩, (mem_on _ _).2 hf, ?_⟩
    have s := (place_spec N _ hf).1
    apply Fin.ext
    rw [s]
    simp only [e1, e2, ic]
    omega

end Cert.Runs

end
-- ==== Proof.Blocks.lean ====
/-
  The pooling kernel's blocks read at an index: each input window's block as entries of its array, and each result
  array after the region as entries of the blocks its grid points left.
-/
module

public import proofs.«01_k».proof.Proof.TcRegionI
public import Idealize.ShloMosaic.Lib.Pipeline.ValueKit
public import Idealize.ShloMosaic.Lib.Pointwise

@[expose] public section

set_option maxRecDepth 8192

noncomputable section

namespace Cert.KernelIdeal.Tc

open Cert.KernelIdeal Cert.KernelIdeal.Gen Idealize.ShloMosaic

variable {F : FTy → Type} [FloatOps F] [Named F]
variable (V : Dev nD → Valuation τ sig (Elt F)) (b : ℕ)

/-- The block that a grid point takes of operand 0. -/
theorem index1_0 : ∀ t, win1_0.index t = ![0, 0] := by decide +kernel
/-- The block that a grid point takes of operand 1. -/
theorem index1_1 : ∀ t, win1_1.index t = ![(grid1.coords t 0).val, 0, 0] := by decide +kernel
/-- The block that a grid point takes of operand 2. -/
theorem index1_2 : ∀ t, win1_2.index t = ![(grid1.coords t 0).val, 0, 0] := by decide +kernel
/-- The block that a grid point takes of operand 3. -/
theorem index1_3 : ∀ t, win1_3.index t = ![0, 0] := by decide +kernel
/-- The block that a grid point takes of operand 4. -/
theorem index1_4 : ∀ t, win1_4.index t = ![0, 0] := by decide +kernel
/-- The block that a grid point takes of operand 5. -/
theorem index1_5 : ∀ t, win1_5.index t = ![0, 0] := by decide +kernel
/-- The block that a grid point takes of operand 6. -/
theorem index1_6 : ∀ t, win1_6.index t = ![0, 0] := by decide +kernel
/-- The block that a grid point takes of operand 7. -/
theorem index1_7 : ∀ t, win1_7.index t = ![0, 0] := by decide +kernel
/-- The block that a grid point takes of operand 8. -/
theorem index1_8 : ∀ t, win1_8.index t = ![0, 0] := by decide +kernel
/-- The block that a grid point takes of operand 9. -/
theorem index1_9 : ∀ t, win1_9.index t = ![0, 0] := by decide +kernel
/-- The block that a grid point takes of operand 10. -/
theorem index1_10 : ∀ t, win1_10.index t = ![0, 0] := by decide +kernel
/-- The block that a grid point takes of operand 11. -/
theorem index1_11 : ∀ t, win1_11.index t = ![0, 0] := by decide +kernel
/-- The block that a grid point takes of operand 12. -/
theorem index1_12 : ∀ t, win1_12.index t = ![0, 0] := by decide +kernel
/-- The block that a grid point takes of operand 13. -/
theorem index1_13 : ∀ t, win1_13.index t = ![0, 0] := by decide +kernel
/-- The block that a grid point takes of operand 14. -/
theorem index1_14 : ∀ t, win1_14.index t = ![0, 0] := by decide +kernel
/-- The block that a grid point takes of operand 15. -/
theorem index1_15 : ∀ t, win1_15.index t = ![(grid1.coords t 0).val, 0, 0] := by decide +kernel
/-- The block that a grid point takes of operand 16. -/
theorem index1_16 : ∀ t, win1_16.index t = ![(grid1.coords t 0).val, 0, 0] := by decide +kernel

/-- The grid point of item `k`. -/
def pt (k : Fin 4) : Fin cfg1.N := ⟨k.val, by rw [show cfg1.N = 4 from N_1]; exact k.isLt⟩

/-- The grid point of item `k` has the coordinate `k`. -/
theorem coords_pt : ∀ k : Fin 4, (grid1.coords (pt k) 0).val = k.val := by decide +kernel
/-- A grid point is the point of its own coordinate. -/
theorem pt_coords : ∀ t : Fin cfg1.N, ∀ k : Fin 4, k.val = (grid1.coords t 0).val → pt k = t := by decide +kernel

/-- The block of the counts is the whole table of counts. -/
theorem iblk0 (c : Dev nD) (t : Fin cfg1.N) (i : Fin 4) (r : Fin 8) :
    iblk V c 0 t (ix2 i r) = V c (Proc.devRef .tc main_v12) (ix2 i r) := by
  blk_ext [iblk, index1_0 t]

/-- Window 1's block at item `k` is the item's slice of its array. -/
theorem iblk1 (c : Dev nD) (k : Fin 4) (ch : Fin 3) (n : Fin 8192) :
    iblk V c 1 (pt k) (ix3 0 ch n) = V c (Proc.devRef .tc main_v8) (ix3 k ch n) := by
  have hk := coords_pt k
  blk_ext [iblk, index1_1 (pt k)]

/-- Window 2's block at item `k` is the item's slice of its array. -/
theorem iblk2 (c : Dev nD) (k : Fin 4) (ch : Fin 3) (n : Fin 8192) :
    iblk V c 2 (pt k) (ix3 0 ch n) = V c (Proc.devRef .tc main_v9) (ix3 k ch n) := by
  have hk := coords_pt k
  blk_ext [iblk, index1_2 (pt k)]

/-- The block of the position head's first weights is the whole array. -/
theorem iblk3 (c : Dev nD) (t : Fin cfg1.N) (i : Fin 256) (j : Fin 3) :
    iblk V c 3 t (ix2 i j) = V c (Proc.devRef .tc main_v13) (ix2 i j) := by
  blk_ext [iblk, index1_3 t]

/-- The block of the position head's first bias is the whole array. -/
theorem iblk4 (c : Dev nD) (t : Fin cfg1.N) (i : Fin 256) (j : Fin 1) :
    iblk V c 4 t (ix2 i j) = V c (Proc.devRef .tc main_v14) (ix2 i j) := by
  blk_ext [iblk, index1_4 t]

/-- The block of the position head's second weights is the whole array. -/
theorem iblk5 (c : Dev nD) (t : Fin cfg1.N) (i : Fin 256) (j : Fin 256) :
    iblk V c 5 t (ix2 i j) = V c (Proc.devRef .tc main_v15) (ix2 i j) := by
  blk_ext [iblk, index1_5 t]

/-- The block of the position head's second bias is the whole array. -/
theorem iblk6 (c : Dev nD) (t : Fin cfg1.N) (i : Fin 256) (j : Fin 1) :
    iblk V c 6 t (ix2 i j) = V c (Proc.devRef .tc main_v16) (ix2 i j) := by
  blk_ext [iblk, index1_6 t]

/-- The block of the position head's third weights is the whole array. -/
theorem iblk7 (c : Dev nD) (t : Fin cfg1.N) (i : Fin 1) (j : Fin 256) :
    iblk V c 7 t (ix2 i j) = V c (Proc.devRef .tc main_v17) (ix2 i j) := by
  blk_ext [iblk, index1_7 t]

/-- The block of the position head's third bias is the whole array. -/
theorem iblk8 (c : Dev nD) (t : Fin cfg1.N) (i : Fin 1) (j : Fin 1) :
    iblk V c 8 t (ix2 i j) = V c (Proc.devRef .tc main_v18) (ix2 i j) := by
  blk_ext [iblk, index1_8 t]

/-- The block of the orientation head's first weights is the whole array. -/
theorem iblk9 (c : Dev nD) (t : Fin cfg1.N) (i : Fin 256) (j : Fin 3) :
    iblk V c 9 t (ix2 i j) = V c (Proc.devRef .tc main_v19) (ix2 i j) := by
  blk_ext [iblk, index1_9 t]

/-- The block of the orientation head's first bias is the whole array. -/
theorem iblk10 (c : Dev nD) (t : Fin cfg1.N) (i : Fin 256) (j : Fin 1) :
    iblk V c 10 t (ix2 i j) = V c (Proc.devRef .tc main_v20) (ix2 i j) := by
  blk_ext [iblk, index1_10 t]

/-- The block of the orientation head's second weights is the whole array. -/
theorem iblk11 (c : Dev nD) (t : Fin cfg1.N) (i : Fin 256) (j : Fin 256) :
    iblk V c 11 t (ix2 i j) = V c (Proc.devRef .tc main_v21) (ix2 i j) := by
  blk_ext [iblk, index1_11 t]

/-- The block of the orientation head's second bias is the whole array. -/
theorem iblk12 (c : Dev nD) (t : Fin cfg1.N) (i : Fin 256) (j : Fin 1) :
    iblk V c 12 t (ix2 i j) = V c (Proc.devRef .tc main_v22) (ix2 i j) := by
  blk_ext [iblk, index1_12 t]

/-- The block of the orientation head's third weights is the whole array. -/
theorem iblk13 (c : Dev nD) (t : Fin cfg1.N) (i : Fin 9) (j : Fin 256) :
    iblk V c 13 t (ix2 i j) = V c (Proc.devRef .tc main_v23) (ix2 i j) := by
  blk_ext [iblk, index1_13 t]

/-- The block of the orientation head's third bias is the whole array. -/
theorem iblk14 (c : Dev nD) (t : Fin cfg1.N) (i : Fin 9) (j : Fin 1) :
    iblk V c 14 t (ix2 i j) = V c (Proc.devRef .tc main_v24) (ix2 i j) := by
  blk_ext [iblk, index1_14 t]

/-- What point `t` leaves in result window 15. -/
def left15 (c : Dev nD) (t : Fin cfg1.N) : Vec F S1x3x1 .f32 := out15 (grid1.coords t) (iblk V c 0 t) (iblk V c 1 t) (iblk V c 2 t) (iblk V c 3 t) (iblk V c 4 t) (iblk V c 5 t) (iblk V c 6 t) (iblk V c 7 t) (iblk V c 8 t)

/-- Result array 15 after the region. -/
def arr15 (c : Dev nD) : Vec F S4x3x1 .f32 := fun i => left15 V c (pt (i 0)) (ix3 0 (i 1) 0)

/-- Result array 15 after the region: item `k`'s entries are those its grid point left. -/
theorem final15 (c : Dev nD) : (dat V b c).arrAt 15 cfg1.N = arr15 V c := by
  refine (dat V b c).arrAt_eq_of_covers 15 (arr15 V c) (by decide +kernel) fun t hf y => ?_
  have e0 : (((cfg1.win 15).blk t).view.emb y 0).val = (grid1.coords t 0).val := by
    have h0 : (y 0).val < 1 := (y 0).isLt
    blk_simp [index1_15 t]
  have e1 : (((cfg1.win 15).blk t).view.emb y 1).val = (y 1).val := by
    blk_simp [index1_15 t]
  unfold arr15
  rw [pt_coords t _ e0]
  change left15 V c t ((cfg1.win 15).xinj (cfg1.grid.coords t) y) = _
  refine congrArg (left15 V c t) ?_
  funext a; apply Fin.ext
  fin_cases a
  · have h0 : (y 0).val < 1 := (y 0).isLt
    change (y 0).val = 0; omega
  · exact e1.symm
  · have h0 : (y 2).val < 1 := (y 2).isLt
    change (y 2).val = 0; omega

/-- What point `t` leaves in result window 16. -/
def left16 (c : Dev nD) (t : Fin cfg1.N) : Vec F S1x9x1 .f32 := out16 (grid1.coords t) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t)

/-- Result array 16 after the region. -/
def arr16 (c : Dev nD) : Vec F S4x9x1 .f32 := fun i => left16 V c (pt (i 0)) (ix3 0 (i 1) 0)

/-- Result array 16 after the region: item `k`'s entries are those its grid point left. -/
theorem final16 (c : Dev nD) : (dat V b c).arrAt 16 cfg1.N = arr16 V c := by
  refine (dat V b c).arrAt_eq_of_covers 16 (arr16 V c) (by decide +kernel) fun t hf y => ?_
  have e0 : (((cfg1.win 16).blk t).view.emb y 0).val = (grid1.coords t 0).val := by
    have h0 : (y 0).val < 1 := (y 0).isLt
    blk_simp [index1_16 t]
  have e1 : (((cfg1.win 16).blk t).view.emb y 1).val = (y 1).val := by
    blk_simp [index1_16 t]
  unfold arr16
  rw [pt_coords t _ e0]
  change left16 V c t ((cfg1.win 16).xinj (cfg1.grid.coords t) y) = _
  refine congrArg (left16 V c t) ?_
  funext a; apply Fin.ext
  fin_cases a
  · have h0 : (y 0).val < 1 := (y 0).isLt
    change (y 0).val = 0; omega
  · exact e1.symm
  · have h0 : (y 2).val < 1 := (y 2).isLt
    change (y 2).val = 0; omega

end Cert.KernelIdeal.Tc

end
-- ==== Proof.HostVal.lean ====
/-
  The host's layout operations read at an index: what the two calls' inputs are of the arguments, and what the two
  results are of the pooling kernel's arrays.
-/
module

public import proofs.«01_k».proof.Proof.FrameI
public import proofs.«01_k».proof.Proof.Blocks
public import Idealize.ShloMosaic.Lib.StableHlo.RunRead

@[expose] public section

set_option maxRecDepth 8192

noncomputable section

namespace Cert.KernelIdeal.Sc

open Cert.KernelIdeal Cert.KernelIdeal.Gen Cert.Model Cert.Slots Idealize.ShloMosaic

variable {F : FTy → Type} [FloatOps F] [Named F]
variable (m : (ℓ : Loc nD τ sig) → Buf (Elt F) ℓ) (d : Dev nD)

/-- The first result, in terms of what the TensorCore call leaves at each item's grid point. -/
theorem V5_v26 (k : Fin 4) (c : Fin 3) : V5 m d (Proc.devRef .tc main_v26) (ix2 k c) = Tc.left15 (V3 m) d (Tc.pt k) (ix3 0 c 0) := by
  unfold V5 opsC
  after_reads_simp
  have h : V4 m d (Proc.devRef .tc main_v25_0) = Tc.arr15 (V3 m) d :=
    (Pipeline.afterRegion_arr (Tc.dat (V3 m) lvl d) (V3 m d) launch1.win.arr_inj 15).trans (Tc.final15 _ _ _)
  rw [h]
  pointwise
  rfl

/-- The second result, in terms of what the TensorCore call leaves at each item's grid point. -/
theorem V5_v27 (k : Fin 4) (o : Fin 9) : V5 m d (Proc.devRef .tc main_v27) (ix2 k o) = Tc.left16 (V3 m) d (Tc.pt k) (ix3 0 o 0) := by
  unfold V5 opsC
  after_reads_simp
  have h : V4 m d (Proc.devRef .tc main_v25_1) = Tc.arr16 (V3 m) d :=
    (Pipeline.afterRegion_arr (Tc.dat (V3 m) lvl d) (V3 m d) launch1.win.arr_inj 16).trans (Tc.final16 _ _ _)
  rw [h]
  pointwise
  rfl

/-- One entry of the compacted rows. -/
theorem outC_at (X G : Vec F S393216 .f32) (R : Vec F S64 .f32) {k ch n : ℕ} (hk : k < 4) (hc : ch < 6) (hn : n < 8192) (h : k * 49152 + ch * 8192 + n < 196608) :
    outC X G R (ix1 ⟨k * 49152 + ch * 8192 + n, h⟩) = slot (nr X R k (n / 1024)) (pv X G k (n / 1024) ch) zero 4096 (n % 1024) := by
  have e1 : (k * 49152 + ch * 8192 + n) / 49152 = k := by omega
  have e2 : (k * 49152 + ch * 8192 + n) / 1024 % 8 = n / 1024 := by omega
  have e3 : (k * 49152 + ch * 8192 + n) / 8192 % 6 = ch := by omega
  have e4 : (k * 49152 + ch * 8192 + n) % 1024 = n % 1024 := by omega
  unfold outC
  change slot (nr X R ((k * 49152 + ch * 8192 + n) / 49152) ((k * 49152 + ch * 8192 + n) / 1024 % 8)) (pv X G ((k * 49152 + ch * 8192 + n) / 49152) ((k * 49152 + ch * 8192 + n) / 1024 % 8) ((k * 49152 + ch * 8192 + n) / 8192 % 6)) zero 4096 ((k * 49152 + ch * 8192 + n) % 1024) = _
  simp only [e1, e2, e3, e4]

/-- Channels 0 to 2 of the compacted array, as entries of the flat one. -/
theorem slice8 (Y : Vec F S196608 .f32) (k : Fin 4) (c : Fin 3) (n : Fin 8192) :
    extractStridedSlice S4x3x8192 ![0, 0, 0] (fun i => shapeCast S4x6x8192 Y shapeCasts_S196608_S4x6x8192 i) slices_S4x6x8192_S4x3x8192_0_0_0 (ix3 k c n)
      = Y (ix1 ⟨k.val * 49152 + c.val * 8192 + n.val, by omega⟩) := by
  refine (extractStridedSlice_apply _ _ _ _ (ix3 k (⟨c.val, by omega⟩ : Fin 6) n) ?_).trans (shapeCast_apply _ _ _ _ ?_)
  · intro a
    fin_cases a
    · exact (Nat.zero_add _).symm
    · exact (Nat.zero_add _).symm
    · exact (Nat.zero_add _).symm
  · rw [Shape.rowMajor_val_one, Shape.rowMajor_val_three]
    change k.val * 49152 + (c.val) * 8192 + n.val = (k.val * 6 + (c.val)) * 8192 + n.val
    omega

/-- Channels 3 to 5 of the compacted array, as entries of the flat one. -/
theorem slice9 (Y : Vec F S196608 .f32) (k : Fin 4) (c : Fin 3) (n : Fin 8192) :
    extractStridedSlice S4x3x8192 ![0, 3, 0] (fun i => shapeCast S4x6x8192 Y shapeCasts_S196608_S4x6x8192 i) slices_S4x6x8192_S4x3x8192_0_3_0 (ix3 k c n)
      = Y (ix1 ⟨k.val * 49152 + (c.val + 3) * 8192 + n.val, by omega⟩) := by
  refine (extractStridedSlice_apply _ _ _ _ (ix3 k (⟨c.val + 3, by omega⟩ : Fin 6) n) ?_).trans (shapeCast_apply _ _ _ _ ?_)
  · intro a
    fin_cases a
    · exact (Nat.zero_add _).symm
    · exact Nat.add_comm _ _
    · exact (Nat.zero_add _).symm
  · rw [Shape.rowMajor_val_one, Shape.rowMajor_val_three]
    change k.val * 49152 + (c.val + 3) * 8192 + n.val = (k.val * 6 + (c.val + 3)) * 8192 + n.val
    omega

/-- The compacted coordinates that the TensorCore call reads, slot by slot. -/
theorem V3_v8 (k : Fin 4) (c : Fin 3) (n : Fin 8192) :
    V3 m d (Proc.devRef .tc main_v8) (ix3 k c n) = slot (nr (X m d) (R m d) k (n.val / 1024)) (pv (X m d) (G m d) k (n.val / 1024) (c.val)) zero 4096 (n.val % 1024) := by
  unfold V3 opsB
  after_reads_simp
  rw [show V2 m d (Proc.tc.devRef main_v6_0) = _ from V2_bo m d]
  generalize hY : outC (X m d) (G m d) (R m d) = Y
  refine (slice8 Y k c n).trans ?_
  subst hY
  exact outC_at _ _ _ (by omega) (by omega) n.isLt _

/-- The compacted colours that the TensorCore call reads, slot by slot. -/
theorem V3_v9 (k : Fin 4) (c : Fin 3) (n : Fin 8192) :
    V3 m d (Proc.devRef .tc main_v9) (ix3 k c n) = slot (nr (X m d) (R m d) k (n.val / 1024)) (pv (X m d) (G m d) k (n.val / 1024) (c.val + 3)) zero 4096 (n.val % 1024) := by
  unfold V3 opsB
  after_reads_simp
  rw [show V2 m d (Proc.tc.devRef main_v6_0) = _ from V2_bo m d]
  generalize hY : outC (X m d) (G m d) (R m d) = Y
  refine (slice9 Y k c n).trans ?_
  subst hY
  exact outC_at _ _ _ (by omega) (by omega) n.isLt _

/-- The counts that the TensorCore call reads: the near points of each run, at most 1024. -/
theorem V3_v12 (k : Fin 4) (r : Fin 8) :
    V3 m d (Proc.devRef .tc main_v12) (ix2 k r) = BitVec.ofNat 32 (min (Nat.count (nr (X m d) (R m d) k r) 4096) 1024) := by
  unfold V3 opsB
  after_reads_simp
  rw [show V2 m d (Proc.tc.devRef main_v6_1) = _ from V2_bn m d]
  generalize hY : outN (X m d) (R m d) = Y
  pointwise
  subst hY
  have e1 : (k.val * 128 + r.val * 16) / 128 = k := by omega
  have e2 : (k.val * 128 + r.val * 16) / 16 % 8 = r := by omega
  change BitVec.ofNat 32 (min (Nat.count (nr (X m d) (R m d) ((k.val * 128 + r.val * 16) / 128) ((k.val * 128 + r.val * 16) / 16 % 8)) 4096) 1024) = _
  simp only [e1, e2]

/-- What the TensorCore call reads as the position head's first weights: the argument, transposed or reshaped. -/
theorem V3_v13 (j : Fin 256) (i : Fin 3) : V3 m d (Proc.devRef .tc main_v13) (ix2 j i) = m ((d.tc : Thread nD τ).loc main_arg3) (ix2 i j) := by
  unfold V3 opsB
  after_reads_simp
  rw [V2_keep m d _ (by decide) (by decide), V1_keep m d _ (by decide)]
  pointwise

/-- What the TensorCore call reads as the position head's first bias: the argument, transposed or reshaped. -/
theorem V3_v14 (j : Fin 256) : V3 m d (Proc.devRef .tc main_v14) (ix2 j 0) = m ((d.tc : Thread nD τ).loc main_arg4) (ix1 j) := by
  unfold V3 opsB
  after_reads_simp
  rw [V2_keep m d _ (by decide) (by decide), V1_keep m d _ (by decide)]
  pointwise

/-- What the TensorCore call reads as the position head's second weights: the argument, transposed or reshaped. -/
theorem V3_v15 (j : Fin 256) (i : Fin 256) : V3 m d (Proc.devRef .tc main_v15) (ix2 j i) = m ((d.tc : Thread nD τ).loc main_arg5) (ix2 i j) := by
  unfold V3 opsB
  after_reads_simp
  rw [V2_keep m d _ (by decide) (by decide), V1_keep m d _ (by decide)]
  pointwise

/-- What the TensorCore call reads as the position head's second bias: the argument, transposed or reshaped. -/
theorem V3_v16 (j : Fin 256) : V3 m d (Proc.devRef .tc main_v16) (ix2 j 0) = m ((d.tc : Thread nD τ).loc main_arg6) (ix1 j) := by
  unfold V3 opsB
  after_reads_simp
  rw [V2_keep m d _ (by decide) (by decide), V1_keep m d _ (by decide)]
  pointwise

/-- What the TensorCore call reads as the position head's third weights: the argument, transposed or reshaped. -/
theorem V3_v17 (j : Fin 256) : V3 m d (Proc.devRef .tc main_v17) (ix2 0 j) = m ((d.tc : Thread nD τ).loc main_arg7) (ix2 j 0) := by
  unfold V3 opsB
  after_reads_simp
  rw [V2_keep m d _ (by decide) (by decide), V1_keep m d _ (by decide)]
  pointwise

/-- What the TensorCore call reads as the position head's third bias: the argument, transposed or reshaped. -/
theorem V3_v18 : V3 m d (Proc.devRef .tc main_v18) (ix2 0 0) = m ((d.tc : Thread nD τ).loc main_arg8) (ix1 0) := by
  unfold V3 opsB
  after_reads_simp
  rw [V2_keep m d _ (by decide) (by decide), V1_keep m d _ (by decide)]
  pointwise

/-- What the TensorCore call reads as the orientation head's first weights: the argument, transposed or reshaped. -/
theorem V3_v19 (j : Fin 256) (i : Fin 3) : V3 m d (Proc.devRef .tc main_v19) (ix2 j i) = m ((d.tc : Thread nD τ).loc main_arg9) (ix2 i j) := by
  unfold V3 opsB
  after_reads_simp
  rw [V2_keep m d _ (by decide) (by decide), V1_keep m d _ (by decide)]
  pointwise

/-- What the TensorCore call reads as the orientation head's first bias: the argument, transposed or reshaped. -/
theorem V3_v20 (j : Fin 256) : V3 m d (Proc.devRef .tc main_v20) (ix2 j 0) = m ((d.tc : Thread nD τ).loc main_arg10) (ix1 j) := by
  unfold V3 opsB
  after_reads_simp
  rw [V2_keep m d _ (by decide) (by decide), V1_keep m d _ (by decide)]
  pointwise

/-- What the TensorCore call reads as the orientation head's second weights: the argument, transposed or reshaped. -/
theorem V3_v21 (j : Fin 256) (i : Fin 256) : V3 m d (Proc.devRef .tc main_v21) (ix2 j i) = m ((d.tc : Thread nD τ).loc main_arg11) (ix2 i j) := by
  unfold V3 opsB
  after_reads_simp
  rw [V2_keep m d _ (by decide) (by decide), V1_keep m d _ (by decide)]
  pointwise

/-- What the TensorCore call reads as the orientation head's second bias: the argument, transposed or reshaped. -/
theorem V3_v22 (j : Fin 256) : V3 m d (Proc.devRef .tc main_v22) (ix2 j 0) = m ((d.tc : Thread nD τ).loc main_arg12) (ix1 j) := by
  unfold V3 opsB
  after_reads_simp
  rw [V2_keep m d _ (by decide) (by decide), V1_keep m d _ (by decide)]
  pointwise

/-- What the TensorCore call reads as the orientation head's third weights: the argument, transposed or reshaped. -/
theorem V3_v23 (o : Fin 9) (j : Fin 256) : V3 m d (Proc.devRef .tc main_v23) (ix2 o j) = m ((d.tc : Thread nD τ).loc main_arg13) (ix2 j o) := by
  unfold V3 opsB
  after_reads_simp
  rw [V2_keep m d _ (by decide) (by decide), V1_keep m d _ (by decide)]
  pointwise

/-- What the TensorCore call reads as the orientation head's third bias: the argument, transposed or reshaped. -/
theorem V3_v24 (o : Fin 9) : V3 m d (Proc.devRef .tc main_v24) (ix2 o 0) = m ((d.tc : Thread nD τ).loc main_arg14) (ix1 o) := by
  unfold V3 opsB
  after_reads_simp
  rw [V2_keep m d _ (by decide) (by decide), V1_keep m d _ (by decide)]
  pointwise

/-- The flat coordinates hold axis after axis of each item. -/
theorem X_at (b : Fin 4) (c : Fin 3) (p : Fin 32768) :
    get (X m d) ((b.val * 3 + c.val) * 32768 + p.val) = m ((d.tc : Thread nD τ).loc main_arg0) (ix3 b p c) := by
  rw [get_lt _ (by omega)]
  unfold X V1 opsA bx
  after_results_simp
  pointwise
  have e1 : ((b.val * 3 + c.val) * 32768 + p.val) / 98304 = b := by omega
  have e2 : ((b.val * 3 + c.val) * 32768 + p.val) % 32768 = p := by omega
  have e3 : ((b.val * 3 + c.val) * 32768 + p.val) / 32768 % 3 = c := by omega
  refine congrArg (m ((d.tc : Thread nD τ).loc main_arg0)) ?_
  funext a; apply Fin.ext
  fin_cases a
  · exact e1
  · exact e2
  · exact e3

/-- The flat colours hold channel after channel of each item. -/
theorem G_at (b : Fin 4) (c : Fin 3) (p : Fin 32768) :
    get (G m d) ((b.val * 3 + c.val) * 32768 + p.val) = m ((d.tc : Thread nD τ).loc main_arg1) (ix3 b p c) := by
  rw [get_lt _ (by omega)]
  unfold G V1 opsA bg
  after_results_simp
  pointwise
  have e1 : ((b.val * 3 + c.val) * 32768 + p.val) / 98304 = b := by omega
  have e2 : ((b.val * 3 + c.val) * 32768 + p.val) % 32768 = p := by omega
  have e3 : ((b.val * 3 + c.val) * 32768 + p.val) / 32768 % 3 = c := by omega
  refine congrArg (m ((d.tc : Thread nD τ).loc main_arg1)) ?_
  funext a; apply Fin.ext
  fin_cases a
  · exact e1
  · exact e2
  · exact e3

/-- Padding the reference points to sixteen entries keeps the first three. -/
theorem pad_at (A : Vec F S4x3 .f32) (v : Vec F S_ .f32) (b : Fin 4) (c : Fin 3) (c' : Fin 16) (h : c'.val = c.val) :
    pad S4x16 ![0, 0] ![0, 13] ![0, 0] A v pads_S4x3_S4x16_000_0130 h_S_ (ix2 b c') = A (ix2 b c) := by
  pointwise
  rw [dif_pos (by omega)]
  exact congrArg (fun c => A (ix2 b c)) (Fin.ext h)

/-- The flat reference points hold sixteen entries for each item, of which three count. -/
theorem R_at (b : Fin 4) (c : Fin 3) :
    get (R m d) (b.val * 16 + c.val) = m ((d.tc : Thread nD τ).loc main_arg2) (ix2 b c) := by
  rw [get_lt _ (by omega)]
  unfold R V1 opsA br
  after_results_simp
  pointwise
  have e1 : (b.val * 16 + c.val) / 16 = b := by omega
  have e2 : (b.val * 16 + c.val) % 16 = c := by omega
  change pad S4x16 ![0, 0] ![0, 13] ![0, 0] (m ((d.tc : Thread nD τ).loc main_arg2)) (sitofp .f32 (constantI S_ 32 0#32)) pads_S4x3_S4x16_000_0130 h_S_
    (ix2 ⟨(b.val * 16 + c.val) / 16, _⟩ ⟨(b.val * 16 + c.val) % 16, _⟩) = _
  rw [show (⟨(b.val * 16 + c.val) / 16, by omega⟩ : Fin 4) = b from Fin.ext e1]
  exact pad_at _ _ b c _ e2

end Cert.KernelIdeal.Sc

end
-- ==== Proof.KerVal.lean ====
/-
  The pooling kernel's two result blocks, read at an index over the extended reals: the estimator's arithmetic over the
  lanes whose slot holds a point.
-/
module

public import proofs.«01_k».proof.Proof.TcI
public import proofs.«01_k».proof.Proof.Spec
public import Idealize.ShloMosaic.Lib.Pointwise

@[expose] public section

noncomputable section

namespace Cert.KernelIdeal.Tc

open Idealize.ShloMosaic Cert.KernelIdeal Cert.KernelIdeal.Gen Cert.Spec

/-- The named mask value is −∞. -/
theorem mask_bot (b : BitVec 32) : (Named.named κ "mask" b : Ideal .f32) = ⊥ :=
  IdealRules.named_const.ideal_named_scalar _ _ _ _ rfl

/-- The accumulator of a maximum is −∞. -/
theorem negInf : Ideal.ofBits FTy.f32 0xFF800000#32 = ⊥ := by simp [Ideal.ofBits, Ideal.ieee]

/-- The zero word is the number zero. -/
theorem zeroBits : (Scalar.ofBits FTy.f32 0x00000000#32 : Ideal .f32) = 0 := by
  show Ideal.ofBits FTy.f32 0x00000000#32 = 0
  simp [Ideal.ofBits, Ideal.ieee]

/-- A bit as a float: one or zero. -/
theorem sitofp_bit (p : Prop) [Decidable p] :
    (FloatOps.sitofp FTy.f32 (BitVec.setWidth 32 (BitVec.ofBool (decide p))) : Ideal .f32) = if p then 1 else 0 := by
  show (((BitVec.setWidth 32 (BitVec.ofBool (decide p))).toInt : ℝ) : EReal) = _
  by_cases h : p <;> simp [h]

/-- A select on a decided bit. -/
theorem select_bit {α : Type} (p : Prop) [Decidable p] (a b : α) :
    Scalar.select (BitVec.ofBool (decide p)) a b = if p then a else b := by
  by_cases h : p <;> simp [h, Scalar.select]

/-- The conjunction of two decided bits. -/
theorem andi_bit (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

/-- The row test `< 3`. -/
theorem gate0 (x : Fin 9) : IntOp.cmpi .slt (BitVec.ofNat 32 x.val) 3#32 = BitVec.ofBool (decide (x.val < 3)) := by
  revert x; decide
/-- The row test `≥ 3`. -/
theorem gate1 (x : Fin 9) : IntOp.cmpi .sge (BitVec.ofNat 32 x.val) 3#32 = BitVec.ofBool (decide (3 ≤ x.val)) := by
  revert x; decide
/-- The row test `< 6`. -/
theorem gate2 (x : Fin 9) : IntOp.cmpi .slt (BitVec.ofNat 32 x.val) 6#32 = BitVec.ofBool (decide (x.val < 6)) := by
  revert x; decide
/-- The row test `≥ 6`. -/
theorem gate3 (x : Fin 9) : IntOp.cmpi .sge (BitVec.ofNat 32 x.val) 6#32 = BitVec.ofBool (decide (6 ≤ x.val)) := by
  revert x; decide

/-- The three rows' lengths, each gated to its own three entries, divide as one normalisation of rows. -/
theorem unit_gates (e : EReal) (v : Fin 9 → EReal) (o : Fin 9) :
    Ideal.div (v o)
      ((Ideal.sqrt (∑ x : Fin 9, ∑ _y : Fin 1, v x * v x * if x.val < 3 then 1 else 0) + e) * (if o.val < 3 then 1 else 0)
        + (Ideal.sqrt (∑ x : Fin 9, ∑ _y : Fin 1, v x * v x * if 3 ≤ x.val ∧ x.val < 6 then 1 else 0) + e) * (if 3 ≤ o.val ∧ o.val < 6 then 1 else 0)
        + (Ideal.sqrt (∑ x : Fin 9, ∑ _y : Fin 1, v x * v x * if 6 ≤ x.val then 1 else 0) + e) * (if 6 ≤ o.val then 1 else 0))
      = Spec.unit e v o := by
  have s0 : (∑ x : Fin 9, ∑ _y : Fin 1, v x * v x * if x.val < 3 then 1 else 0) = v 0 * v 0 + v 1 * v 1 + v 2 * v 2 := by
    simp [Fin.sum_univ_succ, add_assoc]
  have s1 : (∑ x : Fin 9, ∑ _y : Fin 1, v x * v x * if 3 ≤ x.val ∧ x.val < 6 then 1 else 0) = v 3 * v 3 + v 4 * v 4 + v 5 * v 5 := by
    simp [Fin.sum_univ_succ, add_assoc]
  have s2 : (∑ x : Fin 9, ∑ _y : Fin 1, v x * v x * if 6 ≤ x.val then 1 else 0) = v 6 * v 6 + v 7 * v 7 + v 8 * v 8 := by
    simp [Fin.sum_univ_succ, add_assoc]
  rw [s0, s1, s2]
  unfold Spec.unit row
  fin_cases o <;> simp [Fin.sum_univ_three]

/-- A maximum over pairs whose first component has one value. -/
theorem fold_prod {n : ℕ} (f : Fin n → EReal) :
    (Finset.univ : Finset (Fin 1 × Fin n)).fold max ⊥ (fun x => f x.2) = Finset.univ.fold max ⊥ f := by
  show Finset.univ.sup (fun x : Fin 1 × Fin n => f x.2) = Finset.univ.sup f
  apply le_antisymm
  · exact Finset.sup_le fun x _ => Finset.le_sup (f := f) (Finset.mem_univ x.2)
  · exact Finset.sup_le fun x _ => Finset.le_sup (f := fun x : Fin 1 × Fin n => f x.2) (Finset.mem_univ ((0 : Fin 1), x))

variable (i : grid1.Coords) (x0 : Vec Ideal S4x8 .i32) (x1 : Vec Ideal S1x3x8192 .f32) (x2 : Vec Ideal S1x3x8192 .f32)
  (x3 : Vec Ideal S256x3 .f32) (x4 : Vec Ideal S256x1 .f32) (x5 : Vec Ideal S256x256 .f32) (x6 : Vec Ideal S256x1 .f32)
  (x7 : Vec Ideal S1x256 .f32) (x8 : Vec Ideal S1x1 .f32) (x9 : Vec Ideal S256x3 .f32) (x10 : Vec Ideal S256x1 .f32)
  (x11 : Vec Ideal S256x256 .f32) (x12 : Vec Ideal S256x1 .f32) (x13 : Vec Ideal S9x256 .f32) (x14 : Vec Ideal S9x1 .f32)

/-- A lane's logit. -/
def lgt (n : Fin 8192) : EReal :=
  mlp (fun i j => x3 (ix2 j i)) (fun j => x4 (ix2 j 0)) (fun j k => x5 (ix2 k j)) (fun k => x6 (ix2 k 0))
    (fun k => x7 (ix2 0 k)) (x8 (ix2 0 0)) (fun c => x2 (ix3 0 c n))

/-- A lane's orientation feature. -/
def feat (o : Fin 9) (n : Fin 8192) : EReal :=
  mlp (fun i j => x9 (ix2 j i)) (fun j => x10 (ix2 j 0)) (fun j k => x11 (ix2 k j)) (fun k => x12 (ix2 k 0))
    (fun k => x13 (ix2 o k)) (x14 (ix2 o 0)) (fun c => x2 (ix3 0 c n))

/-- The kernel's orientation features are the perceptron of the lane's colours. -/
theorem ori_feat (o : Fin 9) (n : Fin 8192) : ori (F := Ideal) x2 x9 x10 x11 x12 x13 x14 (ix2 o n) = feat x2 x9 x10 x11 x12 x13 x14 o n := by
  pointwise [ori, k1_pay10, k1_pay3]
  unfold feat mlp
  simp only [mul_comm]

variable (P : Fin 8192 → Prop) [DecidablePred P]

section

variable (hP : ∀ n, lanes (F := Ideal) i x0 (ix2 0 n) = BitVec.ofBool (decide (P n)))
  (h : tot (on P) (lgt x2 x3 x4 x5 x6 x7 x8) ≠ 0)

include hP h

/-- The kernel's weights: the softmax over the full lanes, and zero elsewhere. -/
theorem wgt_eq (n : Fin 8192) : wgt (F := Ideal) i x0 x1 x2 x3 x4 x5 x6 x7 x8 (ix2 0 n)
    = if P n then att (on P) (lgt x2 x3 x4 x5 x6 x7 x8) n else 0 := by
  rw [← att_drop P _ h n, ← fold_max_mask P]
  have e : ∀ n, (∑ x, x7 (ix2 0 x) * max (∑ x_1, x5 (ix2 x x_1) * max (∑ x, x3 (ix2 x_1 x) * x2 (ix3 0 x n) + x4 (ix2 x_1 0)) 0
      + x6 (ix2 x 0)) 0 + x8 (ix2 0 0)) = lgt x2 x3 x4 x5 x6 x7 x8 n := by
    intro n; unfold lgt mlp; simp only [mul_comm]
  pointwise [wgt, k1_pay7, k1_pay6, k1_pay3]
  simp only [hP, select_bit, mask_bot, negInf, Finset.univ_unique, Finset.sum_singleton]
  simp only [e]
  rw [fold_prod (fun n => if P n then lgt x2 x3 x4 x5 x6 x7 x8 n else ⊥)]

/-- The kernel's pooled position is the weighted sum over the full lanes. -/
theorem col_eq (c : Fin 3) : col (F := Ideal) i x0 x1 x2 x3 x4 x5 x6 x7 x8 (ix2 c 0)
    = Spec.pool (on P) (lgt x2 x3 x4 x5 x6 x7 x8) (fun n => x1 (ix3 0 c n)) := by
  have w := wgt_eq i x0 x1 x2 x3 x4 x5 x6 x7 x8 P hP h
  unfold wgt at w
  rw [zeroBits] at w
  unfold Spec.pool
  rw [← pool_mask P]
  pointwise [col, k1_pay8, k1_pay2]
  exact Finset.sum_congr rfl fun n _ => congrArg (x1 (ix3 0 c n) * ·) (w n)

/-- The first result's block. -/
theorem out15_eq (c : Fin 3) : out15 (F := Ideal) i x0 x1 x2 x3 x4 x5 x6 x7 x8 (ix3 0 c 0)
    = Spec.pool (on P) (lgt x2 x3 x4 x5 x6 x7 x8) (fun n => x1 (ix3 0 c n)) := by
  rw [← col_eq i x0 x1 x2 x3 x4 x5 x6 x7 x8 P hP h c]
  pointwise [out15, k1_pay9]

/-- The radius of the pooled position's neighbourhood. -/
def rad : EReal := Ideal.ofBits FTy.f32 0x3CA3D70A#32

/-- A lane counts as close when it is full and lies within the feature radius of the pooled position. -/
theorem near_eq (n : Fin 8192) : near (F := Ideal) i x0 x1 x2 x3 x4 x5 x6 x7 x8 (ix2 0 n)
    = BitVec.ofBool (decide (n ∈ close rad (on P) (lgt x2 x3 x4 x5 x6 x7 x8) (fun c n => x1 (ix3 0 c n)))) := by
  have w := col_eq i x0 x1 x2 x3 x4 x5 x6 x7 x8 P hP h
  have key : near (F := Ideal) i x0 x1 x2 x3 x4 x5 x6 x7 x8 (ix2 0 n)
      = IntOp.andi (lanes (F := Ideal) i x0 (ix2 0 n)) (BitVec.ofBool (decide (Ideal.sqrt
        ((x1 (ix3 0 0 n) - col (F := Ideal) i x0 x1 x2 x3 x4 x5 x6 x7 x8 (ix2 0 0)) * (x1 (ix3 0 0 n) - col (F := Ideal) i x0 x1 x2 x3 x4 x5 x6 x7 x8 (ix2 0 0))
          + (x1 (ix3 0 1 n) - col (F := Ideal) i x0 x1 x2 x3 x4 x5 x6 x7 x8 (ix2 1 0)) * (x1 (ix3 0 1 n) - col (F := Ideal) i x0 x1 x2 x3 x4 x5 x6 x7 x8 (ix2 1 0))
          + (x1 (ix3 0 2 n) - col (F := Ideal) i x0 x1 x2 x3 x4 x5 x6 x7 x8 (ix2 2 0)) * (x1 (ix3 0 2 n) - col (F := Ideal) i x0 x1 x2 x3 x4 x5 x6 x7 x8 (ix2 2 0)))
          ≤ rad))) := by
    pointwise [near, k1_pay11, k1_pay2]
    rfl
  refine key.trans ((congrArg (fun b => IntOp.andi b _) (hP n)).trans ((andi_bit _ _).trans (congrArg BitVec.ofBool ?_)))
  apply decide_eq_decide.2
  simp only [close, Finset.mem_filter, mem_on, Fin.sum_univ_three, ← w]

/-- The closeness bit as a float: one or zero. -/
theorem nearF_eq (n : Fin 8192) : nearF (F := Ideal) i x0 x1 x2 x3 x4 x5 x6 x7 x8 (ix3 0 0 n)
    = if n ∈ close rad (on P) (lgt x2 x3 x4 x5 x6 x7 x8) (fun c n => x1 (ix3 0 c n)) then 1 else 0 := by
  have w := near_eq i x0 x1 x2 x3 x4 x5 x6 x7 x8 P hP h
  have key : nearF (F := Ideal) i x0 x1 x2 x3 x4 x5 x6 x7 x8 (ix3 0 0 n)
      = FloatOps.sitofp FTy.f32 (BitVec.setWidth 32 (near (F := Ideal) i x0 x1 x2 x3 x4 x5 x6 x7 x8 (ix2 0 n))) := by
    pointwise [nearF, k1_pay12, near]
  rw [key, w, sitofp_bit]

/-- The pooled orientation before its rows are normalised. -/
theorem pay13_eq (o : Fin 9) : k1_pay13 (F := Ideal) (wgt i x0 x1 x2 x3 x4 x5 x6 x7 x8) (ori x2 x9 x10 x11 x12 x13 x14)
      (near i x0 x1 x2 x3 x4 x5 x6 x7 x8) (nearF i x0 x1 x2 x3 x4 x5 x6 x7 x8) (ix2 o 0)
    = Spec.ori rad (on P) (lgt x2 x3 x4 x5 x6 x7 x8) (fun c n => x1 (ix3 0 c n)) (feat x2 x9 x10 x11 x12 x13 x14 o) := by
  have w1 := wgt_eq i x0 x1 x2 x3 x4 x5 x6 x7 x8 P hP h
  have w2 := near_eq i x0 x1 x2 x3 x4 x5 x6 x7 x8 P hP h
  have w3 := nearF_eq i x0 x1 x2 x3 x4 x5 x6 x7 x8 P hP h
  have w4 := ori_feat x2 x9 x10 x11 x12 x13 x14
  generalize wgt (F := Ideal) i x0 x1 x2 x3 x4 x5 x6 x7 x8 = W at *
  generalize near (F := Ideal) i x0 x1 x2 x3 x4 x5 x6 x7 x8 = N at *
  generalize nearF (F := Ideal) i x0 x1 x2 x3 x4 x5 x6 x7 x8 = NF at *
  generalize ori (F := Ideal) x2 x9 x10 x11 x12 x13 x14 = O at *
  unfold Spec.ori
  generalize close rad (on P) (lgt x2 x3 x4 x5 x6 x7 x8) (fun c n => x1 (ix3 0 c n)) = C at *
  have hc : (∑ x : Fin 1, ∑ x_1 : Fin 8192, NF (ix3 0 x x_1)) = ((C.card : ℝ) : EReal) := by
    simp only [Finset.univ_unique, Finset.sum_singleton]
    show (∑ n : Fin 8192, NF (ix3 0 0 n)) = _
    exact (Finset.sum_congr rfl fun n _ => w3 n).trans (card_mem C)
  pointwise [k1_pay13]
  rw [hc]
  by_cases hC : 0 < C.card
  · have hC' : (0 : EReal) < ((C.card : ℝ) : EReal) := by exact_mod_cast hC
    rw [if_pos hC, if_pos hC']
    pointwise []
    simp only [w2, w4, select_bit]
    exact congrArg (fun e => Ideal.div e (max ((C.card : ℝ) : EReal) 1)) (sum_mem C _)
  · have hC' : ¬ (0 : EReal) < ((C.card : ℝ) : EReal) := by
      intro h; exact hC (by exact_mod_cast h)
    rw [if_neg hC, if_neg hC']
    pointwise []
    simp only [w1, w4]
    exact pool_mask P _ _

/-- The second result's block. -/
theorem out16_eq (o : Fin 9) : out16 (F := Ideal) i x0 x1 x2 x3 x4 x5 x6 x7 x8 x9 x10 x11 x12 x13 x14 (ix3 0 o 0)
    = Spec.unit (Ideal.ofBits FTy.f32 0x322BCC77#32) (fun o => Spec.ori rad (on P) (lgt x2 x3 x4 x5 x6 x7 x8) (fun c n => x1 (ix3 0 c n))
        (feat x2 x9 x10 x11 x12 x13 x14 o)) o := by
  have w := pay13_eq i x0 x1 x2 x3 x4 x5 x6 x7 x8 x9 x10 x11 x12 x13 x14 P hP h
  generalize hv : (fun o => Spec.ori rad (on P) (lgt x2 x3 x4 x5 x6 x7 x8) (fun c n => x1 (ix3 0 c n)) (feat x2 x9 x10 x11 x12 x13 x14 o)) = v
  have w' : ∀ o : Fin 9, k1_pay13 (F := Ideal) (wgt i x0 x1 x2 x3 x4 x5 x6 x7 x8) (ori x2 x9 x10 x11 x12 x13 x14)
      (near i x0 x1 x2 x3 x4 x5 x6 x7 x8) (nearF i x0 x1 x2 x3 x4 x5 x6 x7 x8) (ix2 o 0) = v o := fun o => (w o).trans (congrFun hv o)
  pointwise [out16, k1_pay1, k1_pay14, k1_pay15, k1_pay16, k1_pay17, k1_pay18, k1_pay19]
  simp only [w', gate0, gate1, gate2, gate3, andi_bit, sitofp_bit]
  exact unit_gates _ v o

end

end Cert.KernelIdeal.Tc

end
-- ==== Proof.Tie.lean ====
/-
  The kernel's results in the reference's terms: each item's full lanes hold exactly the points within the radius, each
  once, so every sum over lanes is the sum over those points.
-/
module

public import proofs.«01_k».proof.Proof.Runs
public import proofs.«01_k».proof.Proof.HostVal
public import proofs.«01_k».proof.Proof.KerVal

@[expose] public section

set_option maxRecDepth 8192

noncomputable section

namespace Cert.KernelIdeal.Tie

open Cert.KernelIdeal Cert.KernelIdeal.Gen Cert.KernelIdeal.Sc Cert.Model Cert.Slots Cert.Spec Cert.Runs Idealize.ShloMosaic

variable (m : (ℓ : Loc nD τ sig) → Buf (Elt Ideal) ℓ) (d : Dev nD) (b : Fin 4)

abbrev a0 : FVec Ideal S4x32768x3 .f32 := m ((d.tc : Thread nD τ).loc main_arg0)
abbrev a1 : FVec Ideal S4x32768x3 .f32 := m ((d.tc : Thread nD τ).loc main_arg1)
abbrev a2 : FVec Ideal S4x3 .f32 := m ((d.tc : Thread nD τ).loc main_arg2)
abbrev a3 : FVec Ideal S3x256 .f32 := m ((d.tc : Thread nD τ).loc main_arg3)
abbrev a4 : FVec Ideal S256 .f32 := m ((d.tc : Thread nD τ).loc main_arg4)
abbrev a5 : FVec Ideal S256x256 .f32 := m ((d.tc : Thread nD τ).loc main_arg5)
abbrev a6 : FVec Ideal S256 .f32 := m ((d.tc : Thread nD τ).loc main_arg6)
abbrev a7 : FVec Ideal S256x1 .f32 := m ((d.tc : Thread nD τ).loc main_arg7)
abbrev a8 : FVec Ideal S1 .f32 := m ((d.tc : Thread nD τ).loc main_arg8)
abbrev a9 : FVec Ideal S3x256 .f32 := m ((d.tc : Thread nD τ).loc main_arg9)
abbrev a10 : FVec Ideal S256 .f32 := m ((d.tc : Thread nD τ).loc main_arg10)
abbrev a11 : FVec Ideal S256x256 .f32 := m ((d.tc : Thread nD τ).loc main_arg11)
abbrev a12 : FVec Ideal S256 .f32 := m ((d.tc : Thread nD τ).loc main_arg12)
abbrev a13 : FVec Ideal S256x9 .f32 := m ((d.tc : Thread nD τ).loc main_arg13)
abbrev a14 : FVec Ideal S9 .f32 := m ((d.tc : Thread nD τ).loc main_arg14)

abbrev inside : Fin 32768 → Prop := Item.inside (a0 m d) (a2 m d) b
abbrev lgt : Fin 32768 → EReal := Item.lgt (a1 m d) (a3 m d) (a4 m d) (a5 m d) (a6 m d) (a7 m d) (a8 m d) b
abbrev feat (o : Fin 9) : Fin 32768 → EReal := Item.feat (a1 m d) (a9 m d) (a10 m d) (a11 m d) (a12 m d) (a13 m d) (a14 m d) b o
abbrev crd (c : Fin 3) : Fin 32768 → EReal := Item.crd (a0 m d) b c

/-- Which points of item `b` the compaction keeps, run by run. -/
abbrev kept (r : ℕ) : ℕ → Prop := nr (X m d) (R m d) b.val r

/-- A coordinate in the flat array the compaction reads. -/
theorem px_X (r p : ℕ) (hr : r < 8) (hp : p < 4096) (c : Fin 3) (j : Fin 32768) (hj : j.val = r * 4096 + p) :
    px (X m d) b.val r c.val p = a0 m d (ix3 b j c) := by
  refine Eq.trans ?_ (X_at m d b c j)
  unfold px
  rw [hj, Nat.add_assoc]

/-- A colour in the flat array the compaction reads. -/
theorem px_G (r p : ℕ) (hr : r < 8) (hp : p < 4096) (c : Fin 3) (j : Fin 32768) (hj : j.val = r * 4096 + p) :
    px (G m d) b.val r c.val p = a1 m d (ix3 b j c) := by
  refine Eq.trans ?_ (G_at m d b c j)
  unfold px
  rw [hj, Nat.add_assoc]

/-- A point is kept exactly when it lies within the radius. -/
theorem kept_iff (r : ℕ) (hr : r < 8) (p : ℕ) (hp : p < 4096) : kept m d b r p ↔ inside m d b ⟨r * 4096 + p, by omega⟩ := by
  have x0 := px_X m d b r p hr hp 0 ⟨r * 4096 + p, by omega⟩ rfl
  have x1 := px_X m d b r p hr hp 1 ⟨r * 4096 + p, by omega⟩ rfl
  have x2 := px_X m d b r p hr hp 2 ⟨r * 4096 + p, by omega⟩ rfl
  have r0 := R_at m d b 0
  have r1 := R_at m d b 1
  have r2 := R_at m d b 2
  simp only [kept, nr]
  rw [show (0 : Fin 3).val = 0 from rfl] at x0 r0
  rw [show (1 : Fin 3).val = 1 from rfl] at x1 r1
  rw [show (2 : Fin 3).val = 2 from rfl] at x2 r2
  rw [x0, x1, x2, r1, r2, show get (R m d) (b.val * 16) = _ from r0]
  unfold inside Item.inside
  rw [Fin.sum_univ_three]
  exact Item.bit_eq_one _

/-- A count over naturals is at most the count over the finite type. -/
theorem count_le (P : ℕ → Prop) [DecidablePred P] (Q : Fin 4096 → Prop) [DecidablePred Q] (h : ∀ p : Fin 4096, P p.val → Q p) :
    Nat.count P 4096 ≤ (Finset.univ.filter Q).card := by
  rw [Nat.count_eq_card_filter_range]
  refine (Finset.card_le_card (t := (Finset.univ.filter Q).image Fin.val) ?_).trans Finset.card_image_le
  intro p hp
  rw [Finset.mem_filter, Finset.mem_range] at hp
  exact Finset.mem_image.2 ⟨⟨p, hp.1⟩, Finset.mem_filter.2 ⟨Finset.mem_univ _, h ⟨p, hp.1⟩ hp.2⟩, rfl⟩

/-- The lanes of item `b` that hold a point. -/
abbrev lanesOf : Finset (Fin 8192) := on (Tc.full (cnt (kept m d b)))

variable (hc : ∀ r : Fin 8, cnt (kept m d b) r ≤ 1024)

include hc in
/-- The mask row is one exactly at the full lanes. -/
theorem mask_eq (n : Fin 8192) :
    Tc.lanes (F := Ideal) (grid1.coords (Tc.pt b)) (Tc.iblk (V3 m) d 0 (Tc.pt b)) (ix2 0 n)
      = BitVec.ofBool (decide (Tc.full (cnt (kept m d b)) n)) := by
  refine Tc.lanes_eq (grid1.coords (Tc.pt b)) (Tc.iblk (V3 m) d 0 (Tc.pt b)) (cnt (kept m d b)) hc (fun r => ?_) n
  refine (Tc.iblk0 (V3 m) d (Tc.pt b) _ r).trans ?_
  have e : (grid1.coords (Tc.pt b)) 0 = b := Fin.ext (Tc.coords_pt b)
  refine (V3_v12 m d _ r).trans ?_
  rw [e]
  refine congrArg (BitVec.ofNat 32) (Nat.min_eq_left ?_)
  exact hc r

/-- What a full lane's slot holds. -/
theorem slot_full (n : Fin 8192) (h : Tc.full (cnt (kept m d b)) n) (val : ℕ → EReal) (z : EReal) :
    slot (kept m d b (n.val / 1024)) val z 4096 (n.val % 1024) = val (idx (kept m d b (n.val / 1024)) 4096 (n.val % 1024)) :=
  slot_idx _ val z 4096 _ h

/-- A full lane holds the coordinates of its point. -/
theorem crd_lane (n : Fin 8192) (h : n ∈ lanesOf m d b) (c : Fin 3) :
    (Tc.iblk (V3 m) d 1 (Tc.pt b) (ix3 0 c n) : EReal) = crd m d b c (place (kept m d b) n) := by
  rw [mem_on] at h
  obtain ⟨e, hp, -, -⟩ := place_spec (kept m d b) n h
  refine (Tc.iblk1 (V3 m) d b c n).trans ((V3_v8 m d b c n).trans ((slot_full m d b n h _ _).trans ?_))
  unfold pv
  rw [if_pos c.isLt]
  exact px_X m d b _ _ (by omega) hp c _ e

/-- A full lane holds the colours of its point. -/
theorem rgb_lane (n : Fin 8192) (h : n ∈ lanesOf m d b) (c : Fin 3) :
    (Tc.iblk (V3 m) d 2 (Tc.pt b) (ix3 0 c n) : EReal) = a1 m d (ix3 b (place (kept m d b) n) c) := by
  rw [mem_on] at h
  obtain ⟨e, hp, -, -⟩ := place_spec (kept m d b) n h
  refine (Tc.iblk2 (V3 m) d b c n).trans ((V3_v9 m d b c n).trans ((slot_full m d b n h _ _).trans ?_))
  unfold pv
  rw [if_neg (by omega), Nat.add_sub_cancel]
  exact px_G m d b _ _ (by omega) hp c _ e

/-- The lanes' logit, as the grid point of item `b` computes it. -/
abbrev klgt : Fin 8192 → EReal :=
  Tc.lgt (Tc.iblk (V3 m) d 2 (Tc.pt b)) (Tc.iblk (V3 m) d 3 (Tc.pt b)) (Tc.iblk (V3 m) d 4 (Tc.pt b)) (Tc.iblk (V3 m) d 5 (Tc.pt b))
    (Tc.iblk (V3 m) d 6 (Tc.pt b)) (Tc.iblk (V3 m) d 7 (Tc.pt b)) (Tc.iblk (V3 m) d 8 (Tc.pt b))

abbrev kfeat (o : Fin 9) : Fin 8192 → EReal :=
  Tc.feat (Tc.iblk (V3 m) d 2 (Tc.pt b)) (Tc.iblk (V3 m) d 9 (Tc.pt b)) (Tc.iblk (V3 m) d 10 (Tc.pt b)) (Tc.iblk (V3 m) d 11 (Tc.pt b))
    (Tc.iblk (V3 m) d 12 (Tc.pt b)) (Tc.iblk (V3 m) d 13 (Tc.pt b)) (Tc.iblk (V3 m) d 14 (Tc.pt b)) o

/-- Equal weights and inputs give equal perceptrons. -/
theorem mlp_congr {W1 W1' : Fin 3 → Fin 256 → EReal} {b1 b1' : Fin 256 → EReal} {W2 W2' : Fin 256 → Fin 256 → EReal}
    {b2 b2' w3 w3' : Fin 256 → EReal} {b3 b3' : EReal} {g g' : Fin 3 → EReal}
    (h1 : ∀ i j, W1 i j = W1' i j) (h2 : ∀ j, b1 j = b1' j) (h3 : ∀ j k, W2 j k = W2' j k) (h4 : ∀ k, b2 k = b2' k)
    (h5 : ∀ k, w3 k = w3' k) (h6 : b3 = b3') (h7 : ∀ c, g c = g' c) : mlp W1 b1 W2 b2 w3 b3 g = mlp W1' b1' W2' b2' w3' b3' g' := by
  obtain rfl : W1 = W1' := funext fun i => funext (h1 i)
  obtain rfl : b1 = b1' := funext h2
  obtain rfl : W2 = W2' := funext fun j => funext (h3 j)
  obtain rfl : b2 = b2' := funext h4
  obtain rfl : w3 = w3' := funext h5
  obtain rfl : g = g' := funext h7
  rw [h6]

/-- A full lane has the logit of its point. -/
theorem lgt_lane (n : Fin 8192) (h : n ∈ lanesOf m d b) : klgt m d b n = lgt m d b (place (kept m d b) n) := by
  unfold klgt lgt Tc.lgt Item.lgt
  exact mlp_congr
    (fun i j => (Tc.iblk3 (V3 m) d _ j i).trans (V3_v13 m d j i))
    (fun j => (Tc.iblk4 (V3 m) d _ j 0).trans (V3_v14 m d j))
    (fun j k => (Tc.iblk5 (V3 m) d _ k j).trans (V3_v15 m d k j))
    (fun k => (Tc.iblk6 (V3 m) d _ k 0).trans (V3_v16 m d k))
    (fun k => (Tc.iblk7 (V3 m) d _ 0 k).trans (V3_v17 m d k))
    ((Tc.iblk8 (V3 m) d _ 0 0).trans (V3_v18 m d))
    (fun c => rgb_lane m d b n h c)

/-- A full lane has the orientation features of its point. -/
theorem feat_lane (n : Fin 8192) (h : n ∈ lanesOf m d b) (o : Fin 9) :
    kfeat m d b o n = feat m d b o (place (kept m d b) n) := by
  unfold kfeat feat Tc.feat Item.feat
  exact mlp_congr
    (fun i j => (Tc.iblk9 (V3 m) d _ j i).trans (V3_v19 m d j i))
    (fun j => (Tc.iblk10 (V3 m) d _ j 0).trans (V3_v20 m d j))
    (fun j k => (Tc.iblk11 (V3 m) d _ k j).trans (V3_v21 m d k j))
    (fun k => (Tc.iblk12 (V3 m) d _ k 0).trans (V3_v22 m d k))
    (fun k => (Tc.iblk13 (V3 m) d _ o k).trans (V3_v23 m d o k))
    ((Tc.iblk14 (V3 m) d _ o 0).trans (V3_v24 m d o))
    (fun c => rgb_lane m d b n h c)

include hc in
/-- The full lanes' points are the points within the radius. -/
theorem image_lanes : (lanesOf m d b).image (place (kept m d b)) = on (inside m d b) :=
  place_image (kept m d b) (inside m d b) (fun r hr p hp => kept_iff m d b r hr p hp) hc

variable (ht : tot (on (inside m d b)) (lgt m d b) ≠ 0)

include hc ht in
/-- The normaliser over the full lanes is not zero. -/
theorem tot_lanes : tot (lanesOf m d b) (klgt m d b) ≠ 0 := by
  rw [← tot_image (place (kept m d b)) (lanesOf m d b) (place_inj _) (lgt m d b) (klgt m d b) (lgt_lane m d b), image_lanes m d b hc]
  exact ht

include hc ht in
/-- The kernel's first result: the weighted mean of the near points' coordinates. -/
theorem v26_eq (c : Fin 3) :
    (V5 m d (Proc.devRef .tc main_v26) (ix2 b c) : EReal) = pool (on (inside m d b)) (lgt m d b) (crd m d b c) := by
  refine (V5_v26 m d b c).trans ?_
  refine (Tc.out15_eq (grid1.coords (Tc.pt b)) _ _ _ _ _ _ _ _ _ (Tc.full (cnt (kept m d b))) (mask_eq m d b hc)
    (tot_lanes m d b hc ht) c).trans ?_
  rw [← image_lanes m d b hc]
  exact (pool_image (place (kept m d b)) (lanesOf m d b) (place_inj _) (lgt m d b) (klgt m d b) (lgt_lane m d b) (crd m d b c) _
    (fun n h => crd_lane m d b n h c)).symm

include hc ht in
/-- The kernel's second result: the three normalised rows of the orientation. -/
theorem v27_eq (o : Fin 9) :
    (V5 m d (Proc.devRef .tc main_v27) (ix2 b o) : EReal)
      = unit Item.eps (fun o => ori Item.rad (on (inside m d b)) (lgt m d b) (crd m d b) (feat m d b o)) o := by
  refine (V5_v27 m d b o).trans ?_
  refine (Tc.out16_eq (grid1.coords (Tc.pt b)) _ _ _ _ _ _ _ _ _ _ _ _ _ _ _ (Tc.full (cnt (kept m d b))) (mask_eq m d b hc)
    (tot_lanes m d b hc ht) o).trans ?_
  refine congrArg (fun f => unit Item.eps f o) (funext fun o => ?_)
  rw [← image_lanes m d b hc]
  exact (ori_image (place (kept m d b)) (lanesOf m d b) (place_inj _) (lgt m d b) (klgt m d b) (lgt_lane m d b) _ (crd m d b) _
    (fun c n h => crd_lane m d b n h c) _ _ (fun n h => feat_lane m d b n h o)).symm

end Cert.KernelIdeal.Tie

end
-- ==== Proof.RefVal.lean ====
/-
  The reference's two results, read at an index over the extended reals: the estimator's arithmetic over the points
  within the radius.
-/
module

public import proofs.«01_k».proof.Proof.Gen.ReferenceIdeal.Run
public import proofs.«01_k».proof.Proof.Item
public import Idealize.ShloMosaic.Lib.Pointwise
public import Idealize.ShloMosaic.Lib.IndicatorCount

@[expose] public section

noncomputable section

namespace Cert.ReferenceIdeal.Value

open Idealize.ShloMosaic Cert.ReferenceIdeal Cert.ReferenceIdeal.Gen Cert.Spec

variable (V : Valuation τ sig (Elt Ideal)) (b : Fin 4)

/-- A row's maximum. -/
theorem rowMax (x : FVec Ideal S4x32768 .f32) :
    Host.reduce FloatOps.maximumf x (constant S_ .f32 0xFF800000#32) reducesTo_S4x32768_S4_d1 h_S_ (ix1 b)
      = Finset.univ.fold max ⊥ (fun p : Fin 32768 => x (ix2 b p)) := by
  pointwise []
  rw [Item.negInf]

/-- A row's integer sum. -/
theorem rowCount (x : IVec S4x32768 32) :
    Host.reduce IntOp.addi x (constantI S_ 32 0#32) reducesTo_S4x32768_S4_d1 h_S_ (ix1 b)
      = Finset.univ.fold IntOp.addi 0#32 (fun p : Fin 32768 => x (ix2 b p)) := by
  refine (Host.reduce_eq_fold (IntOp.addi (w := 32)) x _ _ _ _).trans ?_
  refine (Shape.ReducesTo.fold_fiber_r2_a1 (n0 := 4) (n1 := 32768) reducesTo_S4x32768_S4_d1 (ix1 b) (IntOp.addi (w := 32)) _ x).trans ?_
  rfl

/-- A row's entries less its maximum, exponentiated. -/
theorem shifted (X : FVec Ideal S4x32768 .f32) (p : Fin 32768) :
    Host.exp (subf X (broadcastInDim S4x32768 ![0, 1] bcast_S4x1_S4x32768_0_1 (broadcastInDim S4x1 ![0] bcast_S4_S4x1_0 (maximumf (broadcastInDim S4 ![] bcast_S_S4 (constant S_ .f32 0xFF800000#32))
      (Host.reduce FloatOps.maximumf X (constant S_ .f32 0xFF800000#32) reducesTo_S4x32768_S4_d1 h_S_))))) (ix2 b p)
      = Ideal.exp (X (ix2 b p) - Host.reduce FloatOps.maximumf X (constant S_ .f32 0xFF800000#32) reducesTo_S4x32768_S4_d1 h_S_ (ix1 b)) := by
  generalize Host.reduce FloatOps.maximumf X (constant S_ .f32 0xFF800000#32) reducesTo_S4x32768_S4_d1 h_S_ = M
  pointwise []
  rw [Item.negInf]
  simp

/-- The arguments' arrays. -/
abbrev a0 : FVec Ideal S4x32768x3 .f32 := V (Proc.devRef .tc main_arg0)
abbrev a1 : FVec Ideal S4x32768x3 .f32 := V (Proc.devRef .tc main_arg1)
abbrev a2 : FVec Ideal S4x3 .f32 := V (Proc.devRef .tc main_arg2)
abbrev a3 : FVec Ideal S3x256 .f32 := V (Proc.devRef .tc main_arg3)
abbrev a4 : FVec Ideal S256 .f32 := V (Proc.devRef .tc main_arg4)
abbrev a5 : FVec Ideal S256x256 .f32 := V (Proc.devRef .tc main_arg5)
abbrev a6 : FVec Ideal S256 .f32 := V (Proc.devRef .tc main_arg6)
abbrev a7 : FVec Ideal S256x1 .f32 := V (Proc.devRef .tc main_arg7)
abbrev a8 : FVec Ideal S1 .f32 := V (Proc.devRef .tc main_arg8)
abbrev a9 : FVec Ideal S3x256 .f32 := V (Proc.devRef .tc main_arg9)
abbrev a10 : FVec Ideal S256 .f32 := V (Proc.devRef .tc main_arg10)
abbrev a11 : FVec Ideal S256x256 .f32 := V (Proc.devRef .tc main_arg11)
abbrev a12 : FVec Ideal S256 .f32 := V (Proc.devRef .tc main_arg12)
abbrev a13 : FVec Ideal S256x9 .f32 := V (Proc.devRef .tc main_arg13)
abbrev a14 : FVec Ideal S9 .f32 := V (Proc.devRef .tc main_arg14)

abbrev inside : Fin 32768 → Prop := Item.inside (a0 V) (a2 V) b
abbrev lgt : Fin 32768 → EReal := Item.lgt (a1 V) (a3 V) (a4 V) (a5 V) (a6 V) (a7 V) (a8 V) b
abbrev feat (o : Fin 9) : Fin 32768 → EReal := Item.feat (a1 V) (a9 V) (a10 V) (a11 V) (a12 V) (a13 V) (a14 V) b o
abbrev crd (c : Fin 3) : Fin 32768 → EReal := Item.crd (a0 V) b c

/-- The pooled position, as the reference prints it. -/
def res0 : FVec Ideal S4x3 .f32 :=
  Host.reduceAdd (mulf (V (Proc.devRef .tc main_arg0)) (broadcastInDim S4x32768x3 ![0, 1, 2] bcast_S4x32768x1_S4x32768x3_0_1_2 (broadcastInDim S4x32768x1 ![0, 1] bcast_S4x32768_S4x32768x1_0_1 (res_main_v37 (F := Ideal) V)))) (constant S_ .f32 0x00000000#32) reducesTo_S4x32768x3_S4x3_d1 h_S_

/-- The reference's nearness bit says that the point lies within the radius. -/
theorem v7_eq (p : Fin 32768) : res_main_v7 (F := Ideal) V (ix2 b p) = BitVec.ofBool (decide (inside V b p)) := by
  have e : res_main_v7 (F := Ideal) V (ix2 b p) = BitVec.ofBool (decide (Ideal.sqrt
      (∑ x : Fin 3, (a0 V (ix3 b p x) - a2 V (ix2 b x)) * (a0 V (ix3 b p x) - a2 V (ix2 b x))) ≤ Ideal.sqrt Item.sqRad)) := by
    pointwise [res_main_v7, res_main_v2]
    rfl
  rw [e]
  apply congrArg BitVec.ofBool
  apply decide_eq_decide.2
  exact Item.sqrt_inside _

/-- The reference's masked logits. -/
theorem v26_eq (p : Fin 32768) : (res_main_v26 (F := Ideal) V (ix2 b p) : EReal) = if inside V b p then lgt V b p else ⊥ := by
  have w := v7_eq V b p
  have e : (res_main_v26 (F := Ideal) V (ix2 b p) : EReal)
      = Scalar.select (res_main_v7 (F := Ideal) V (ix2 b p)) (lgt V b p) (Ideal.ofBits FTy.f32 0xFF800000#32) := by
    pointwise [res_main_v26]
    rfl
  rw [e, w, Item.select_bit, Item.negInf]

/-- The reference's orientation features. -/
theorem v58_eq (p : Fin 32768) (o : Fin 9) : (res_main_v58 (F := Ideal) V (ix3 b p o) : EReal) = feat V b o p := by
  pointwise [res_main_v58]
  rfl

section

variable (h : tot (on (inside V b)) (lgt V b) ≠ 0)

/-- The exponentials of the shifted logits. -/
theorem v33_eq (p : Fin 32768) : (res_main_v33 (F := Ideal) V (ix2 b p) : EReal)
    = Ideal.exp ((if inside V b p then lgt V b p else ⊥) - (on (inside V b)).sup (lgt V b)) := by
  rw [← fold_max_mask]
  have m := rowMax b (res_main_v26 (F := Ideal) V)
  simp only [v26_eq V b] at m
  rw [← m, ← v26_eq V b p]
  exact shifted b (res_main_v26 (F := Ideal) V) p

include h

/-- The reference's weights: the softmax over the near points, and zero elsewhere. -/
theorem v37_eq (p : Fin 32768) : (res_main_v37 (F := Ideal) V (ix2 b p) : EReal)
    = if inside V b p then att (on (inside V b)) (lgt V b) p else 0 := by
  rw [← att_bot _ _ h p]
  have e := v33_eq V b
  unfold res_main_v37
  generalize res_main_v33 (F := Ideal) V = X at *
  pointwise []
  simp only [e]

/-- The first result. -/
theorem res0_eq (c : Fin 3) : (res0 V (ix2 b c) : EReal) = Spec.pool (on (inside V b)) (lgt V b) (crd V b c) := by
  have w := v37_eq V b h
  unfold Spec.pool res0
  rw [← pool_mask]
  generalize res_main_v37 (F := Ideal) V = X at *
  pointwise []
  simp only [w]
  rfl

/-- The reference's second mask: near points within the feature radius of the pooled position. -/
theorem v65_eq (p : Fin 32768) : res_main_v65 (F := Ideal) V (ix2 b p)
    = BitVec.ofBool (decide (p ∈ close Item.rad (on (inside V b)) (lgt V b) (crd V b))) := by
  have w := v7_eq V b p
  have w2 := res0_eq V b h
  have e : res_main_v65 (F := Ideal) V (ix2 b p) = IntOp.andi (res_main_v7 (F := Ideal) V (ix2 b p))
      (BitVec.ofBool (decide (Ideal.sqrt (∑ x : Fin 3, (crd V b x p - (res0 V (ix2 b x) : EReal)) * (crd V b x p - (res0 V (ix2 b x) : EReal))) ≤ Item.rad))) := by
    unfold res_main_v65 res_main_v61
    change andi _ (cmpf .ole (Host.sqrt (Host.reduceAdd (mulf
      (subf (V (Proc.devRef .tc main_arg0)) (broadcastInDim S4x32768x3 ![0, 1, 2] bcast_S4x1x3_S4x32768x3_0_1_2 (broadcastInDim S4x1x3 ![0, 2] bcast_S4x3_S4x1x3_0_2 (res0 V))))
      (subf (V (Proc.devRef .tc main_arg0)) (broadcastInDim S4x32768x3 ![0, 1, 2] bcast_S4x1x3_S4x32768x3_0_1_2 (broadcastInDim S4x1x3 ![0, 2] bcast_S4x3_S4x1x3_0_2 (res0 V))))) _ _ _)) _) _ = _
    generalize res0 V = X at *
    generalize res_main_v7 (F := Ideal) V = Y at *
    pointwise []
    rfl
  rw [e, w]
  refine (Item.andi_bit _ _).trans (congrArg BitVec.ofBool (decide_eq_decide.2 ?_))
  simp only [w2, close, Finset.mem_filter, mem_on]

/-- The number of points near the pooled position. -/
theorem v67_eq : res_main_v67 (F := Ideal) V (ix1 b)
    = BitVec.ofNat 32 (close Item.rad (on (inside V b)) (lgt V b) (crd V b)).card := by
  have w := v65_eq V b h
  unfold res_main_v67
  generalize res_main_v65 (F := Ideal) V = X at *
  refine (rowCount b _).trans ((IndicatorCount.fold_addi_setWidth_eq_card (fun p : Fin 32768 => X (ix2 b p)) Finset.univ).trans ?_)
  refine congrArg (fun C : Finset (Fin 32768) => BitVec.ofNat 32 C.card) (Finset.ext fun p => ?_)
  rw [Finset.mem_filter, w p, Item.bit_eq_one]
  exact and_iff_right (Finset.mem_univ p)

/-- The pooled orientation before its rows are normalised. -/
theorem v86_eq (x y : Fin 3) : (res_main_v86 (F := Ideal) V (ix3 b x y) : EReal)
    = Spec.ori Item.rad (on (inside V b)) (lgt V b) (crd V b) (feat V b ⟨x.val * 3 + y.val, by omega⟩) := by
  have w1 := v37_eq V b h
  have w2 := v65_eq V b h
  have w3 := v67_eq V b h
  have w4 := v58_eq V b
  unfold res_main_v86 Spec.ori
  generalize res_main_v37 (F := Ideal) V = X1 at *
  generalize res_main_v65 (F := Ideal) V = X2 at *
  generalize res_main_v67 (F := Ideal) V = X3 at *
  generalize res_main_v58 (F := Ideal) V = X4 at *
  pointwise []
  simp only [w1, w2, w3, w4]
  have hc : (close Item.rad (on (inside V b)) (lgt V b) (crd V b)).card < 2 ^ 31 :=
    lt_of_le_of_lt (Finset.card_le_univ _) (by rw [Fintype.card_fin]; norm_num)
  generalize close Item.rad (on (inside V b)) (lgt V b) (crd V b) = C at *
  rw [Item.sgt_zero hc, Item.sitofp_maxsi hc, Item.select_bit]
  simp only [Item.uitofp_bit]
  have s1 : (∑ p, feat V b ⟨x.val * 3 + y.val, by omega⟩ p * if p ∈ C then 1 else 0) = ∑ p ∈ C, feat V b ⟨x.val * 3 + y.val, by omega⟩ p := by
    rw [← sum_mem C]
    exact Finset.sum_congr rfl fun p _ => by split <;> simp
  have s2 := pool_mask (inside V b) (feat V b ⟨x.val * 3 + y.val, by omega⟩) (att (on (inside V b)) (lgt V b))
  rw [s1, s2]
  rfl

/-- The second result, as the reference prints it. -/
def res1 : FVec Ideal S4x9 .f32 :=
  shapeCast _ (Host.divf (res_main_v86 V) (broadcastInDim S4x3x3 ![0, 1, 2] bcast_S4x3x1_S4x3x3_0_1_2 (addf (Host.sqrt (broadcastInDim S4x3x1 ![0, 1] bcast_S4x3_S4x3x1_0_1 (Host.reduceAdd (mulf (res_main_v86 V) (res_main_v86 V)) (constant S_ .f32 0x00000000#32) reducesTo_S4x3x3_S4x3_d2 h_S_))) (broadcastInDim S4x3x1 ![] bcast_S_S4x3x1 (constant S_ .f32 0x322BCC77#32))))) shapeCasts_S4x3x3_S4x9

/-- The second result. -/
theorem res1_eq (o : Fin 9) : (res1 V (ix2 b o) : EReal)
    = Spec.unit Item.eps (fun o => Spec.ori Item.rad (on (inside V b)) (lgt V b) (crd V b) (feat V b o)) o := by
  have w := v86_eq V b h
  unfold res1 Spec.unit row
  generalize res_main_v86 (F := Ideal) V = X at *
  pointwise []
  simp only [w]
  have e : (⟨o.val / 3 * 3 + o.val % 3, by omega⟩ : Fin 9) = o := Fin.ext (by simp only; omega)
  rw [e]
  rfl

end

end Cert.ReferenceIdeal.Value

end
-- ==== Proof.PreVal.lean ====
/-
  The precondition, read: no run of 4096 points keeps more than 1024, every item keeps some point, and the colours and
  the position head's weights are finite.
-/
module

public import proofs.«01_k».proof.Pre_fits
public import proofs.«01_k».proof.Proof.Item
public import Idealize.ShloMosaic.Lib.ReduceAll
public import Idealize.ShloMosaic.Lib.IndicatorCount

@[expose] public section

noncomputable section

namespace Cert.Pre_fits

open Idealize.ShloMosaic Cert.Spec

variable [Facts]
open Facts

/-- The word of +∞. -/
theorem posInf : Ideal.ofBits FTy.f32 0x7F800000#32 = ⊤ := by simp [Ideal.ofBits, Ideal.ieee]

/-- An extended real of absolute value below +∞ is finite. -/
theorem fin_of_abs (x : EReal) (h : FloatOps.cmpf (F := Ideal) (φ := .f32) .olt (FloatOps.absf (F := Ideal) (φ := .f32) x) (Ideal.ofBits FTy.f32 0x7F800000#32) = 1#1) : Fin' x := by
  rw [posInf] at h
  have h' : BitVec.ofBool (decide (max x (-x) < ⊤)) = 1#1 := h
  rw [Item.bit_eq_one] at h'
  have a := lt_of_le_of_lt (le_max_left _ _) h'
  have b := lt_of_le_of_lt (le_max_right _ _) h'
  refine ⟨fun e => ?_, a.ne⟩
  rw [e, EReal.neg_bot] at b
  exact b.ne rfl

/-- Where the test `|x| < ∞` holds of all entries, each entry is finite. -/
theorem fin_of_all {s : Shape} {d : List (Fin s.rank)} (x : FVec Ideal s .f32) (bc : S_.BroadcastsInDim s ![]) (red : s.ReducesTo d S_)
    (h : Host.reduce IntOp.andi (cmpf .olt (Host.absf x) (broadcastInDim s ![] bc (constant S_ .f32 0x7F800000#32))) (constantI S_ 1 1#1) red h_S_ (fun a => a.elim0) = 1#1)
    (i : s.Idx) : Fin' (x i) :=
  fin_of_abs _ (Host.reduce_andi_all _ _ red h_S_ _ h i)

/-- Two conditions hold where their conjunction does. -/
theorem andi_ones (a b : IVec S_ 1) (h : andi a b (fun a => a.elim0) = 1#1) : a (fun a => a.elim0) = 1#1 ∧ b (fun a => a.elim0) = 1#1 := by
  have h' : a (fun a => a.elim0) &&& b (fun a => a.elim0) = 1#1 := h
  generalize a (fun a => a.elim0) = x at *
  generalize b (fun a => a.elim0) = y at *
  revert x y; decide

variable (a0 a1 : FVec Ideal S4x32768x3 .f32) (a2 : FVec Ideal S4x3 .f32)

/-- The bit the precondition computes of each point. -/
def bit : IVec S4x32768 1 := cmpf .ole (fn_norm (F := Ideal) (subf a0 (broadcastInDim S4x32768x3 ![0, 1, 2] bcast_S4x1x3_S4x32768x3_0_1_2 (broadcastInDim S4x1x3 ![0, 2] bcast_S4x3_S4x1x3_0_2 a2))))
  (broadcastInDim S4x32768 ![] bcast_S_S4x32768 (Host.sqrt (constant S_ .f32 0x3DB851ED#32)))

/-- The precondition's nearness bit says that the point lies within the radius. -/
theorem bit_eq (b : Fin 4) (p : Fin 32768) : bit a0 a2 (ix2 b p) = BitVec.ofBool (decide (Item.inside a0 a2 b p)) := by
  have e : bit a0 a2 (ix2 b p) = BitVec.ofBool (decide (Ideal.sqrt
      (∑ x : Fin 3, (a0 (ix3 b p x) - a2 (ix2 b x)) * (a0 (ix3 b p x) - a2 (ix2 b x))) ≤ Ideal.sqrt Item.sqRad)) := by
    pointwise [bit, fn_norm]
    rfl
  rw [e]
  exact congrArg BitVec.ofBool (decide_eq_decide.2 (Item.sqrt_inside _))

/-- The number kept of one run of 4096 points. -/
theorem run_count (Y : IVec S4x32768 1) (b : Fin 4) (r : Fin 8) :
    Host.reduce IntOp.addi (shapeCast S4x8x4096 (extui 32 Y natLt_1_32) shapeCasts_S4x32768_S4x8x4096) (constantI S_ 32 0#32) reducesTo_S4x8x4096_S4x8_d2 h_S_ (ix2 b r)
      = BitVec.ofNat 32 (Finset.univ.filter fun p : Fin 4096 => Y (ix2 b ⟨r.val * 4096 + p.val, by omega⟩) = 1#1).card := by
  have e : ∀ p : Fin 4096, shapeCast S4x8x4096 (extui 32 Y natLt_1_32) shapeCasts_S4x32768_S4x8x4096 (ix3 b r p)
      = (Y (ix2 b ⟨r.val * 4096 + p.val, by omega⟩)).setWidth 32 := by
    intro p
    refine (shapeCast_apply _ _ _ (ix2 b (⟨r.val * 4096 + p.val, by omega⟩ : Fin 32768)) ?_).trans rfl
    rw [Shape.rowMajor_val_two, Shape.rowMajor_val_three]
    change b.val * 32768 + (r.val * 4096 + p.val) = (b.val * 8 + r.val) * 4096 + p.val
    omega
  generalize shapeCast S4x8x4096 (extui 32 Y natLt_1_32) shapeCasts_S4x32768_S4x8x4096 = Z at *
  refine (Host.reduce_eq_fold (IntOp.addi (w := 32)) Z _ _ _ _).trans ?_
  refine (Shape.ReducesTo.fold_fiber_r3_a2 (n0 := 4) (n1 := 8) (n2 := 4096) reducesTo_S4x8x4096_S4x8_d2 (ix2 b r) (IntOp.addi (w := 32)) _ Z).trans ?_
  refine Eq.trans ?_ (IndicatorCount.fold_addi_setWidth_eq_card (fun p : Fin 4096 => Y (ix2 b ⟨r.val * 4096 + p.val, by omega⟩)) Finset.univ)
  exact congrArg (fun f => Finset.univ.fold (IntOp.addi (w := 32)) 0#32 f) (funext e)

/-- The number kept of one item. -/
theorem item_count (Y : IVec S4x32768 1) (b : Fin 4) :
    Host.reduce IntOp.addi (extui 32 Y natLt_1_32) (constantI S_ 32 0#32) reducesTo_S4x32768_S4_d1 h_S_ (ix1 b)
      = BitVec.ofNat 32 (Finset.univ.filter fun p : Fin 32768 => Y (ix2 b p) = 1#1).card := by
  have e : ∀ p : Fin 32768, extui 32 Y natLt_1_32 (ix2 b p) = (Y (ix2 b p)).setWidth 32 := fun p => rfl
  generalize extui 32 Y natLt_1_32 = Z at *
  refine (Host.reduce_eq_fold (IntOp.addi (w := 32)) Z _ _ _ _).trans ?_
  refine (Shape.ReducesTo.fold_fiber_r2_a1 (n0 := 4) (n1 := 32768) reducesTo_S4x32768_S4_d1 (ix1 b) (IntOp.addi (w := 32)) _ Z).trans ?_
  refine Eq.trans ?_ (IndicatorCount.fold_addi_setWidth_eq_card (fun p : Fin 32768 => Y (ix2 b p)) Finset.univ)
  exact congrArg (fun f => Finset.univ.fold (IntOp.addi (w := 32)) 0#32 f) (funext e)

/-- What the precondition says. -/
theorem fits_spec (a3 : FVec Ideal S3x256 .f32) (a4 : FVec Ideal S256 .f32) (a5 : FVec Ideal S256x256 .f32) (a6 : FVec Ideal S256 .f32)
    (a7 : FVec Ideal S256x1 .f32) (a8 : FVec Ideal S1 .f32) (a9 : FVec Ideal S3x256 .f32) (a10 : FVec Ideal S256 .f32)
    (a11 : FVec Ideal S256x256 .f32) (a12 : FVec Ideal S256 .f32) (a13 : FVec Ideal S256x9 .f32) (a14 : FVec Ideal S9 .f32)
    (h : fn (F := Ideal) a0 a1 a2 a3 a4 a5 a6 a7 a8 a9 a10 a11 a12 a13 a14 = fun _ => 1#1) :
    (∀ (b : Fin 4) (r : Fin 8), (Finset.univ.filter fun p : Fin 4096 => Item.inside a0 a2 b ⟨r.val * 4096 + p.val, by omega⟩).card ≤ 1024)
    ∧ (∀ b : Fin 4, ∃ p, Item.inside a0 a2 b p)
    ∧ (∀ i, Fin' (a1 i)) ∧ (∀ i, Fin' (a3 i)) ∧ (∀ i, Fin' (a4 i)) ∧ (∀ i, Fin' (a5 i)) ∧ (∀ i, Fin' (a6 i)) ∧ (∀ i, Fin' (a7 i))
    ∧ (∀ i, Fin' (a8 i)) := by
  have h := congrFun h (fun a => a.elim0)
  obtain ⟨h, h8⟩ := andi_ones _ _ h
  obtain ⟨h, h7⟩ := andi_ones _ _ h
  obtain ⟨h, h6⟩ := andi_ones _ _ h
  obtain ⟨h, h5⟩ := andi_ones _ _ h
  obtain ⟨h, h4⟩ := andi_ones _ _ h
  obtain ⟨h, h3⟩ := andi_ones _ _ h
  obtain ⟨h, h1⟩ := andi_ones _ _ h
  obtain ⟨hr, hb⟩ := andi_ones _ _ h
  refine ⟨fun b r => ?_, fun b => ?_, fin_of_all a1 _ _ h1, fin_of_all a3 _ _ h3, fin_of_all a4 _ _ h4, fin_of_all a5 _ _ h5,
    fin_of_all a6 _ _ h6, fin_of_all a7 _ _ h7, fin_of_all a8 _ _ h8⟩
  · have := Host.reduce_andi_all _ _ _ h_S_ _ hr (ix2 b r)
    have e : IntOp.cmpi .sle (Host.reduce IntOp.addi (shapeCast S4x8x4096 (extui 32 (bit a0 a2) natLt_1_32) shapeCasts_S4x32768_S4x8x4096) (constantI S_ 32 0#32) reducesTo_S4x8x4096_S4x8_d2 h_S_ (ix2 b r)) 1024#32 = 1#1 := this
    rw [run_count] at e
    simp only [bit_eq, Item.bit_eq_one] at e
    generalize hN : (Finset.univ.filter fun p : Fin 4096 => Item.inside a0 a2 b ⟨r.val * 4096 + p.val, by omega⟩).card = N at *
    have hle : N ≤ 4096 := by rw [← hN]; exact (Finset.card_filter_le _ _).trans (by simp)
    have e' : BitVec.ofBool ((BitVec.ofNat 32 N).sle 1024#32) = 1#1 := e
    rw [BitVec.sle, Item.toInt_ofNat (by omega), show (1024#32).toInt = 1024 by decide, Item.bit_eq_one] at e'
    omega
  · have := Host.reduce_andi_all _ _ _ h_S_ _ hb (ix1 b)
    have e : IntOp.cmpi .sge (Host.reduce IntOp.addi (extui 32 (bit a0 a2) natLt_1_32) (constantI S_ 32 0#32) reducesTo_S4x32768_S4_d1 h_S_ (ix1 b)) 1#32 = 1#1 := this
    rw [item_count] at e
    by_contra hno
    have hz : (Finset.univ.filter fun p : Fin 32768 => bit a0 a2 (ix2 b p) = 1#1) = ∅ := by
      refine Finset.filter_eq_empty_iff.2 fun p _ hp => hno ⟨p, ?_⟩
      rw [bit_eq, Item.bit_eq_one] at hp
      exact hp
    rw [hz] at e
    revert e; decide

end Cert.Pre_fits

end
-- ==== Proof.Algebraic.lean ====
/-
  The idealized kernel and the reference end with equal results, from memories that agree on the arguments and satisfy
  the precondition.
-/
module

public import proofs.«01_k».proof.Defs
public import proofs.«01_k».proof.Proof.FrameI
public import proofs.«01_k».proof.Proof.Tie
public import proofs.«01_k».proof.Proof.RefVal
public import proofs.«01_k».proof.Proof.PreVal
public import proofs.«01_k».proof.Proof.Gen.ReferenceIdeal
public import proofs.«01_k».proof.Proof.Gen.ReferenceIdeal.Run
public import proofs.«01_k».proof.Proof.Gen.Pre_fits

@[expose] public section

set_option maxRecDepth 8192

noncomputable section

namespace Cert.Proof

open Idealize.ShloMosaic Idealize.SL.Sem Cert.Spec

/-! ## What the precondition gives -/

section Pre

open Cert.KernelIdeal Cert.KernelIdeal.Tie

variable (m : (ℓ : Loc Cert.KernelIdeal.nD Cert.KernelIdeal.τ Cert.KernelIdeal.sig) → Buf (Elt Ideal) ℓ)
  (hm : Cert.Pre_KernelIdeal_fits m) (d : Dev Cert.KernelIdeal.nD) (b : Fin 4)

include hm

/-- No run of 4096 points has more points within the radius than its lanes. -/
theorem runs_fit (r : Fin 8) : Cert.Runs.cnt (kept m d b) r ≤ 1024 := by
  refine (count_le (kept m d b r.val) (fun p : Fin 4096 => inside m d b ⟨r.val * 4096 + p.val, by omega⟩) (fun p h => ?_)).trans
    ((Cert.Pre_fits.fits_spec _ _ _ _ _ _ _ _ _ _ _ _ _ _ _ (hm d)).1 b r)
  exact (kept_iff m d b r.val r.isLt p.val p.isLt).1 h

/-- Each item's softmax has a normaliser that is not zero. -/
theorem tot_item : tot (on (inside m d b)) (lgt m d b) ≠ 0 := by
  obtain ⟨-, hex, f1, f3, f4, f5, f6, f7, f8⟩ := Cert.Pre_fits.fits_spec _ _ _ _ _ _ _ _ _ _ _ _ _ _ _ (hm d)
  obtain ⟨p, hp⟩ := hex b
  refine tot_ne_zero _ _ ⟨p, (mem_on _ _).2 hp⟩ fun q _ => ?_
  exact fin_mlp (fun _ _ => f3 _) (fun _ => f4 _) (fun _ _ => f5 _) (fun _ => f6 _) (fun _ => f7 _) (f8 _) (fun _ => f1 _)

end Pre

/-! ## The reference's results over named arguments -/

section Ref

open Cert.ReferenceIdeal Cert.ReferenceIdeal.Value

variable (V : Valuation τ sig (Elt Ideal)) (b : Fin 4)
  {B0 : FVec Ideal ⟨3, ![4, 32768, 3]⟩ .f32}
  {B1 : FVec Ideal ⟨3, ![4, 32768, 3]⟩ .f32}
  {B2 : FVec Ideal ⟨2, ![4, 3]⟩ .f32}
  {B3 : FVec Ideal ⟨2, ![3, 256]⟩ .f32}
  {B4 : FVec Ideal ⟨1, ![256]⟩ .f32}
  {B5 : FVec Ideal ⟨2, ![256, 256]⟩ .f32}
  {B6 : FVec Ideal ⟨1, ![256]⟩ .f32}
  {B7 : FVec Ideal ⟨2, ![256, 1]⟩ .f32}
  {B8 : FVec Ideal ⟨1, ![1]⟩ .f32}
  {B9 : FVec Ideal ⟨2, ![3, 256]⟩ .f32}
  {B10 : FVec Ideal ⟨1, ![256]⟩ .f32}
  {B11 : FVec Ideal ⟨2, ![256, 256]⟩ .f32}
  {B12 : FVec Ideal ⟨1, ![256]⟩ .f32}
  {B13 : FVec Ideal ⟨2, ![256, 9]⟩ .f32}
  {B14 : FVec Ideal ⟨1, ![9]⟩ .f32}
  (e0 : a0 V = B0)
  (e1 : a1 V = B1)
  (e2 : a2 V = B2)
  (e3 : a3 V = B3)
  (e4 : a4 V = B4)
  (e5 : a5 V = B5)
  (e6 : a6 V = B6)
  (e7 : a7 V = B7)
  (e8 : a8 V = B8)
  (e9 : a9 V = B9)
  (e10 : a10 V = B10)
  (e11 : a11 V = B11)
  (e12 : a12 V = B12)
  (e13 : a13 V = B13)
  (e14 : a14 V = B14)

include e0 e1 e2 e3 e4 e5 e6 e7 e8 in
/-- The reference's first result: the pooled position of the near points, over arguments given by name. -/
theorem ref0 (h : tot (on (Item.inside B0 B2 b)) (Item.lgt B1 B3 B4 B5 B6 B7 B8 b) ≠ 0) (c : Fin 3) :
    (res0 V (ix2 b c) : EReal) = Spec.pool (on (Item.inside B0 B2 b)) (Item.lgt B1 B3 B4 B5 B6 B7 B8 b) (Item.crd B0 b c) := by
  subst e0 e1 e2 e3 e4 e5 e6 e7 e8
  exact res0_eq V b h c

include e0 e1 e2 e3 e4 e5 e6 e7 e8 e9 e10 e11 e12 e13 e14 in
/-- The reference's second result: the normalised rows of the orientation, over arguments given by name. -/
theorem ref1 (h : tot (on (Item.inside B0 B2 b)) (Item.lgt B1 B3 B4 B5 B6 B7 B8 b) ≠ 0) (o : Fin 9) :
    (res1 V (ix2 b o) : EReal)
      = Spec.unit Item.eps (fun o => Spec.ori Item.rad (on (Item.inside B0 B2 b)) (Item.lgt B1 B3 B4 B5 B6 B7 B8 b) (Item.crd B0 b)
          (Item.feat B1 B9 B10 B11 B12 B13 B14 b o)) o := by
  subst e0 e1 e2 e3 e4 e5 e6 e7 e8 e9 e10 e11 e12 e13 e14
  exact res1_eq V b h o

end Ref

/-! ## The claim -/

/-- Every index of a matrix is a pair. -/
theorem ix2_ext {m n : ℕ} (f g : Shape.Idx ⟨2, ![m, n]⟩ → EReal) (h : ∀ i j, f (ix2 i j) = g (ix2 i j)) : f = g := by
  funext x
  have e : x = ix2 (x 0) (x 1) := by
    funext a
    fin_cases a <;> rfl
  rw [e]
  exact h _ _

/-- Kernel and reference compute the same two results over the extended reals. -/
theorem algebraic : Cert.algebraic_KernelIdeal_ReferenceIdeal_pre_fits := by
  intro m g m' g' hm ha
  refine ⟨fun c => Cert.KernelIdeal.Sc.V5 m c (Proc.devRef .tc Cert.KernelIdeal.main_v26),
    fun c => Cert.KernelIdeal.Sc.V5 m c (Proc.devRef .tc Cert.KernelIdeal.main_v27), ?_, ?_⟩
  · refine (θ_run Cert.KernelIdeal.defs _ _).mono (fun r h d => ?_) (Cert.KernelIdeal.Sc.run_main (F := Ideal) m g)
    exact ⟨h.1 d _ (Pipeline.devRef_mem_ucRefs rfl), h.1 d _ (Pipeline.devRef_mem_ucRefs rfl),
      (h.1 d _ (Pipeline.devRef_mem_ucRefs rfl)).trans (Cert.KernelIdeal.Sc.V5_arg0 m d),
      (h.1 d _ (Pipeline.devRef_mem_ucRefs rfl)).trans (Cert.KernelIdeal.Sc.V5_arg1 m d),
      (h.1 d _ (Pipeline.devRef_mem_ucRefs rfl)).trans (Cert.KernelIdeal.Sc.V5_arg2 m d),
      (h.1 d _ (Pipeline.devRef_mem_ucRefs rfl)).trans (Cert.KernelIdeal.Sc.V5_arg3 m d),
      (h.1 d _ (Pipeline.devRef_mem_ucRefs rfl)).trans (Cert.KernelIdeal.Sc.V5_arg4 m d),
      (h.1 d _ (Pipeline.devRef_mem_ucRefs rfl)).trans (Cert.KernelIdeal.Sc.V5_arg5 m d),
      (h.1 d _ (Pipeline.devRef_mem_ucRefs rfl)).trans (Cert.KernelIdeal.Sc.V5_arg6 m d),
      (h.1 d _ (Pipeline.devRef_mem_ucRefs rfl)).trans (Cert.KernelIdeal.Sc.V5_arg7 m d),
      (h.1 d _ (Pipeline.devRef_mem_ucRefs rfl)).trans (Cert.KernelIdeal.Sc.V5_arg8 m d),
      (h.1 d _ (Pipeline.devRef_mem_ucRefs rfl)).trans (Cert.KernelIdeal.Sc.V5_arg9 m d),
      (h.1 d _ (Pipeline.devRef_mem_ucRefs rfl)).trans (Cert.KernelIdeal.Sc.V5_arg10 m d),
      (h.1 d _ (Pipeline.devRef_mem_ucRefs rfl)).trans (Cert.KernelIdeal.Sc.V5_arg11 m d),
      (h.1 d _ (Pipeline.devRef_mem_ucRefs rfl)).trans (Cert.KernelIdeal.Sc.V5_arg12 m d),
      (h.1 d _ (Pipeline.devRef_mem_ucRefs rfl)).trans (Cert.KernelIdeal.Sc.V5_arg13 m d),
      (h.1 d _ (Pipeline.devRef_mem_ucRefs rfl)).trans (Cert.KernelIdeal.Sc.V5_arg14 m d)⟩
  · refine (θ_run Cert.ReferenceIdeal.defs _ _).mono (fun r h d => ?_) (Cert.ReferenceIdeal.Value.run (F := Ideal) m' g')
    obtain ⟨h0, h1, hargs⟩ := h d
    obtain ⟨e0, e1, e2, e3, e4, e5, e6, e7, e8, e9, e10, e11, e12, e13, e14⟩ := ha d
    refine ⟨h0.trans ?_, h1.trans ?_, hargs⟩
    · refine ix2_ext (m := 4) (n := 3) _ _ fun b c => ?_
      exact (ref0 (StableHlo.launchContents m' d) b e0 e1 e2 e3 e4 e5 e6 e7 e8 (tot_item m hm d b) c).trans
        (Cert.KernelIdeal.Tie.v26_eq m d b (runs_fit m hm d b) (tot_item m hm d b) c).symm
    · refine ix2_ext (m := 4) (n := 9) _ _ fun b o => ?_
      exact (ref1 (StableHlo.launchContents m' d) b e0 e1 e2 e3 e4 e5 e6 e7 e8 e9 e10 e11 e12 e13 e14 (tot_item m hm d b) o).trans
        (Cert.KernelIdeal.Tie.v27_eq m d b (runs_fit m hm d b) (tot_item m hm d b) o).symm

end Cert.Proof

end
-- ==== Proof.lean ====
/-
  The certificate: the frames of the kernel, of its idealization and of the reference, the named constant, and
  the equality of the idealized kernel's results with the reference's.
-/
module

public import proofs.«01_k».proof.Defs
public import proofs.«01_k».proof.Proof.Frame
public import proofs.«01_k».proof.Proof.FrameI
public import proofs.«01_k».proof.Proof.Algebraic
public import proofs.«01_k».proof.Proof.Gen.Pre_fits
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference writes no argument and has no semaphore. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The mask's constant stands for minus infinity. -/
theorem preserves : Cert.preserves_Kernel_KernelIdeal :=
  IdealRules.named_const.statement Cert.KernelIdeal.κ "mask" .f32 0xCE6E6B28#32 ⊥ rfl

/-- Every claim of the certificate. -/
theorem claim : Cert.Claim :=
  ⟨Cert.Kernel.Gen.facts, Cert.KernelIdeal.Gen.facts, Cert.ReferenceIdeal.Gen.facts, Cert.Pre_fits.Gen.facts,
    Cert.Kernel.Sc.frame, Cert.KernelIdeal.Sc.frame, fun m g _ => Cert.KernelIdeal.Sc.frame m g trivial, frame_ri,
    fun m g _ => frame_ri m g trivial, preserves, algebraic⟩

end Cert.Proof

end
